-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v2)) (v2 : (c : Dev Cert.Kernel3Ideal.nD) → Buf (Elt Ideal) ((c.tc : Thread Cert.Kernel3Ideal.nD Cert.Kernel3Ideal.τ).loc Cert.Kernel3Ideal.main_v3)) (v3 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_v3) = v2 c
          ∧ r.2.mem ((c.tc : Thread Cert.Kernel3Ideal.nD Cert.Kernel3Ideal.τ).loc Cert.Kernel3Ideal.main_v4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_2)) (v2 : (c : Dev Cert.Kernel4Ideal.nD) → Buf (Elt Ideal) ((c.tc : Thread Cert.Kernel4Ideal.nD Cert.Kernel4Ideal.τ).loc Cert.Kernel4Ideal.main_v0_3)) (v3 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_2) = v1 c
          ∧ r.2.mem ((c.tc : Thread Cert.Kernel4Ideal.nD Cert.Kernel4Ideal.τ).loc Cert.Kernel4Ideal.main_v0_3) = v2 c
          ∧ r.2.mem ((c.tc : Thread Cert.Kernel4Ideal.nD Cert.Kernel4Ideal.τ).loc Cert.Kernel4Ideal.main_v1) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v24) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_2)) (v2 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_2) = v1 c
          ∧ r.2.mem ((c.tc : Thread Cert.Kernel5Ideal.nD Cert.Kernel5Ideal.τ).loc Cert.Kernel5Ideal.main_v14) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_2)) (v2 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_2) = v1 c
          ∧ r.2.mem ((c.tc : Thread Cert.Kernel6Ideal.nD Cert.Kernel6Ideal.τ).loc Cert.Kernel6Ideal.main_v0_3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v1_4)) (v1 : (c : Dev Cert.Kernel7Ideal.nD) → Buf (Elt Ideal) ((c.tc : Thread Cert.Kernel7Ideal.nD Cert.Kernel7Ideal.τ).loc Cert.Kernel7Ideal.main_v2)) (v2 : (c : Dev Cert.Kernel7Ideal.nD) → Buf (Elt Ideal) ((c.tc : Thread Cert.Kernel7Ideal.nD Cert.Kernel7Ideal.τ).loc Cert.Kernel7Ideal.main_v3_3)) (v3 : (c : Dev Cert.Kernel7Ideal.nD) → Buf (Elt Ideal) ((c.tc : Thread Cert.Kernel7Ideal.nD Cert.Kernel7Ideal.τ).loc Cert.Kernel7Ideal.main_v3_4)) (v4 : (c : Dev Cert.Kernel7Ideal.nD) → Buf (Elt Ideal) ((c.tc : Thread Cert.Kernel7Ideal.nD Cert.Kernel7Ideal.τ).loc Cert.Kernel7Ideal.main_v4_0)) (v5 : (c : Dev Cert.Kernel7Ideal.nD) → Buf (Elt Ideal) ((c.tc : Thread Cert.Kernel7Ideal.nD Cert.Kernel7Ideal.τ).loc Cert.Kernel7Ideal.main_v4_1)) (v6 : (c : Dev Cert.Kernel7Ideal.nD) → Buf (Elt Ideal) ((c.tc : Thread Cert.Kernel7Ideal.nD Cert.Kernel7Ideal.τ).loc Cert.Kernel7Ideal.main_v4_2)) (v7 : (c : Dev Cert.Kernel7Ideal.nD) → Buf (Elt Ideal) ((c.tc : Thread Cert.Kernel7Ideal.nD Cert.Kernel7Ideal.τ).loc Cert.Kernel7Ideal.main_v5_0)) (v8 : (c : Dev Cert.Kernel7Ideal.nD) → Buf (Elt Ideal) ((c.tc : Thread Cert.Kernel7Ideal.nD Cert.Kernel7Ideal.τ).loc Cert.Kernel7Ideal.main_v5_1)) (v9 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_4) = v0 c
          ∧ r.2.mem ((c.tc : Thread Cert.Kernel7Ideal.nD Cert.Kernel7Ideal.τ).loc Cert.Kernel7Ideal.main_v2) = v1 c
          ∧ r.2.mem ((c.tc : Thread Cert.Kernel7Ideal.nD Cert.Kernel7Ideal.τ).loc Cert.Kernel7Ideal.main_v3_3) = v2 c
          ∧ r.2.mem ((c.tc : Thread Cert.Kernel7Ideal.nD Cert.Kernel7Ideal.τ).loc Cert.Kernel7Ideal.main_v3_4) = v3 c
          ∧ r.2.mem ((c.tc : Thread Cert.Kernel7Ideal.nD Cert.Kernel7Ideal.τ).loc Cert.Kernel7Ideal.main_v4_0) = v4 c
          ∧ r.2.mem ((c.tc : Thread Cert.Kernel7Ideal.nD Cert.Kernel7Ideal.τ).loc Cert.Kernel7Ideal.main_v4_1) = v5 c
          ∧ r.2.mem ((c.tc : Thread Cert.Kernel7Ideal.nD Cert.Kernel7Ideal.τ).loc Cert.Kernel7Ideal.main_v4_2) = v6 c
          ∧ r.2.mem ((c.tc : Thread Cert.Kernel7Ideal.nD Cert.Kernel7Ideal.τ).loc Cert.Kernel7Ideal.main_v5_0) = v7 c
          ∧ r.2.mem ((c.tc : Thread Cert.Kernel7Ideal.nD Cert.Kernel7Ideal.τ).loc Cert.Kernel7Ideal.main_v5_1) = v8 c
          ∧ r.2.mem ((c.tc : Thread Cert.Kernel7Ideal.nD Cert.Kernel7Ideal.τ).loc Cert.Kernel7Ideal.main_v5_2) = v9 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v55) = v1 c
          ∧ r.2.mem ((c.tc : Thread Cert.Reference7Ideal.nD Cert.Reference7Ideal.τ).loc Cert.Reference7Ideal.main_v56) = v2 c
          ∧ r.2.mem ((c.tc : Thread Cert.Reference7Ideal.nD Cert.Reference7Ideal.τ).loc Cert.Reference7Ideal.main_v54) = v3 c
          ∧ r.2.mem ((c.tc : Thread Cert.Reference7Ideal.nD Cert.Reference7Ideal.τ).loc Cert.Reference7Ideal.main_v50) = v4 c
          ∧ r.2.mem ((c.tc : Thread Cert.Reference7Ideal.nD Cert.Reference7Ideal.τ).loc Cert.Reference7Ideal.main_v45) = v5 c
          ∧ r.2.mem ((c.tc : Thread Cert.Reference7Ideal.nD Cert.Reference7Ideal.τ).loc Cert.Reference7Ideal.main_v40) = v6 c
          ∧ r.2.mem ((c.tc : Thread Cert.Reference7Ideal.nD Cert.Reference7Ideal.τ).loc Cert.Reference7Ideal.main_v57) = v7 c
          ∧ r.2.mem ((c.tc : Thread Cert.Reference7Ideal.nD Cert.Reference7Ideal.τ).loc Cert.Reference7Ideal.main_v58) = v8 c
          ∧ r.2.mem ((c.tc : Thread Cert.Reference7Ideal.nD Cert.Reference7Ideal.τ).loc Cert.Reference7Ideal.main_v59) = v9 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x3584 : Shape := ⟨2, ![4096, 3584]⟩
abbrev S256x512 : Shape := ⟨2, ![256, 512]⟩
abbrev S1x128 : Shape := ⟨2, ![1, 128]⟩
abbrev S4096x512 : Shape := ⟨2, ![4096, 512]⟩
abbrev S_ : Shape := ⟨0, ![]⟩

class Facts : Prop where
  bitsLt_bf16_f32 : FTy.bits .bf16 < FTy.bits .f32
  bcast_S_S256x512 : S_.BroadcastsInDim S256x512 (![] : Fin 0 → Fin S256x512.rank)
  bcast_S_S1x128 : S_.BroadcastsInDim S1x128 (![] : Fin 0 → Fin S1x128.rank)

variable [Facts]

def fn {F : FTy → Type} [FloatOps F] (main_arg0 : FVec F S4096x3584 .f32) (main_arg1 : FVec F S256x512 .bf16) (main_arg2 : FVec F S256x512 .bf16) (main_arg3 : FVec F S1x128 .f32) (main_arg4 : FVec F S4096x512 .f32) : IVec S256x512 1 × IVec S1x128 1 :=
  let main_v0 : FVec F S256x512 .f32 := (extf .f32 · bitsLt_bf16_f32) main_arg1
  let main_v1 : FVec F S256x512 .f32 := Host.absf main_v0
  let main_cst : FVec F S_ .f32 := constant S_ .f32 0x7F800000#32
  let main_v2 : FVec F S256x512 .f32 := broadcastInDim S256x512 ![] bcast_S_S256x512 main_cst
  let main_v3 : IVec S256x512 1 := cmpf .olt main_v1 main_v2
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  (main_v3, main_v6)
-- ==== Kernel.lean ====
abbrev S4096x3584 : Shape := ⟨2, ![4096, 3584]⟩
abbrev S256x512 : Shape := ⟨2, ![256, 512]⟩
abbrev S1x128 : Shape := ⟨2, ![1, 128]⟩
abbrev S4096x512 : Shape := ⟨2, ![4096, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S4096x3584, .f32⟩
  | .hbm, ⟨1, _⟩ => ⟨S256x512, .bf16⟩
  | .hbm, ⟨2, _⟩ => ⟨S256x512, .bf16⟩
  | .hbm, ⟨3, _⟩ => ⟨S1x128, .f32⟩
  | .hbm, ⟨4, _⟩ => ⟨S4096x512, .f32⟩
  | .hbm, ⟨5, _⟩ => ⟨S4096x512, .bf16⟩
  | .hbm, ⟨6, _⟩ => ⟨S256x512, .f32⟩
  | .hbm, ⟨7, _⟩ => ⟨S256x512, .f32⟩
  | .hbm, ⟨8, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S256x512, .bf16⟩
  | .local _ .vmem, ⟨3, _⟩ => ⟨S256x512, .bf16⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x3584 : Shape := ⟨2, ![4096, 3584]⟩
abbrev S256x512 : Shape := ⟨2, ![256, 512]⟩
abbrev S1x128 : Shape := ⟨2, ![1, 128]⟩
abbrev S4096x512 : Shape := ⟨2, ![4096, 512]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 133
  | .vmem => 0
  | .smem => 0
  | _ => 0

abbrev hbmTy0_0 (i : Nat) : BufTy := match i % 128 with
  | 0 => ⟨S4096x3584, .f32⟩
  | 1 => ⟨S256x512, .bf16⟩
  | 2 => ⟨S256x512, .bf16⟩
  | 3 => ⟨S1x128, .f32⟩
  | 4 => ⟨S4096x512, .f32⟩
  | 5 => ⟨S4096x512, .f32⟩
  | 6 => ⟨S256x512, .f32⟩
  | 7 => ⟨S256x512, .f32⟩
  | 8 => ⟨S4096x4x128, .f32⟩
  | 9 => ⟨S128, .f32⟩
  | 10 => ⟨S4096x4x128, .f32⟩
  | 11 => ⟨S_, .f32⟩
  | 12 => ⟨S4096x4, .f32⟩
  | 13 => ⟨S4096x4x1, .f32⟩
  | 14 => ⟨S_, .f32⟩
  | 15 => ⟨S4096x4x1, .f32⟩
  | 16 => ⟨S4096x4x1, .f32⟩
  | 17 => ⟨S_, .f32⟩
  | 18 => ⟨S4096x4x1, .f32⟩
  | 19 => ⟨S4096x4x1, .f32⟩
  | 20 => ⟨S4096x4x1, .f32⟩
  | 21 => ⟨S4096x4x1, .f32⟩
  | 22 => ⟨S_, .f32⟩
  | 23 => ⟨S4096x4x1, .f32⟩
  | 24 => ⟨S4096x4x1, .f32⟩
  | 25 => ⟨S4096x4x128, .f32⟩
  | 26 => ⟨S4096x4x128, .f32⟩
  | 27 => ⟨S1x1x128, .f32⟩
  | 28 => ⟨S4096x4x128, .f32⟩
  | 29 => ⟨S4096x4x128, .f32⟩
  | 30 => ⟨S256x4x128, .f32⟩
  | 31 => ⟨S4x4096x256, .f32⟩
  | 32 => ⟨S_, .f32⟩
  | 33 => ⟨S4x4096x256, .f32⟩
  | 34 => ⟨S4x4096x256, .f32⟩
  | 35 => ⟨S_, .f32⟩
  | 36 => ⟨S4x4096, .f32⟩
  | 37 => ⟨S4x4096x1, .f32⟩
  | 38 => ⟨S4x4096x256, .f32⟩
  | 39 => ⟨S4x4096x256, .i1⟩
  | 40 => ⟨S4x4096x256, .f32⟩
  | 41 => ⟨S_, .f32⟩
  | 42 => ⟨S4x4096, .f32⟩
  | 43 => ⟨S_, .f32⟩
  | 44 => ⟨S4x4096, .f32⟩
  | 45 => ⟨S4x4096, .f32⟩
  | 46 => ⟨S_, .f32⟩
  | 47 => ⟨S4x4096, .f32⟩
  | 48 => ⟨S4x4096, .i1⟩
  | 49 => ⟨S_, .f32⟩
  | 50 => ⟨S4x4096, .f32⟩
  | 51 => ⟨S4x4096, .i1⟩
  | 52 => ⟨S_, .f32⟩
  | 53 => ⟨S4x4096, .f32⟩
  | 54 => ⟨S_, .f32⟩
  | 55 => ⟨S4x4096, .f32⟩
  | 56 => ⟨S_, .f32⟩
  | 57 => ⟨S4x4096, .f32⟩
  | 58 => ⟨S4x4096, .f32⟩
  | 59 => ⟨S4x4096, .f32⟩
  | 60 => ⟨S4x4096x1, .f32⟩
  | 61 => ⟨S4x4096x256, .f32⟩
  | 62 => ⟨S4x4096x256, .f32⟩
  | 63 => ⟨S4x4096x256, .f32⟩
  | 64 => ⟨S_, .f32⟩
  | 65 => ⟨S4x4096, .f32⟩
  | 66 => ⟨S4x4096x1, .f32⟩
  | 67 => ⟨S4x4096x256, .f32⟩
  | 68 => ⟨S4x4096x256, .f32⟩
  | 69 => ⟨S4x4096x1, .f32⟩
  | 70 => ⟨S_, .f32⟩
  | 71 => ⟨S4x4096x1, .f32⟩
  | 72 => ⟨S4x4096x1, .f32⟩
  | 73 => ⟨S256x4x128, .f32⟩
  | 74 => ⟨S4x128x4096, .f32⟩
  | 75 => ⟨S4096x4x128, .f32⟩
  | 76 => ⟨S4096x512, .f32⟩
  | 77 => ⟨S4096x4x128, .f32⟩
  | 78 => ⟨S4x128x4096, .f32⟩
  | 79 => ⟨S4x4096x256, .f32⟩
  | 80 => ⟨S4x128x256, .f32⟩
  | 81 => ⟨S256x4x128, .f32⟩
  | 82 => ⟨S256x512, .f32⟩
  | 83 => ⟨S4x4096x256, .f32⟩
  | 84 => ⟨S4x4096x256, .f32⟩
  | 85 => ⟨S4x4096x256, .f32⟩
  | 86 => ⟨S_, .f32⟩
  | 87 => ⟨S4x4096, .f32⟩
  | 88 => ⟨S4x4096x1, .f32⟩
  | 89 => ⟨S4x4096x1, .f32⟩
  | 90 => ⟨S4x4096x256, .f32⟩
  | 91 => ⟨S4x4096x256, .f32⟩
  | 92 => ⟨S_, .f32⟩
  | 93 => ⟨S4x4096, .f32⟩
  | 94 => ⟨S4x4096x256, .f32⟩
  | 95 => ⟨S4x4096x256, .f32⟩
  | 96 => ⟨S4x4096x256, .f32⟩
  | 97 => ⟨S_, .f32⟩
  | 98 => ⟨S4x4096x256, .f32⟩
  | 99 => ⟨S4x4096x256, .f32⟩
  | 100 => ⟨S4x256x128, .f32⟩
  | 101 => ⟨S256x4x128, .f32⟩
  | 102 => ⟨S4x4096x128, .f32⟩
  | 103 => ⟨S4096x4x128, .f32⟩
  | 104 => ⟨S256x512, .f32⟩
  | 105 => ⟨S4096x4x128, .f32⟩
  | 106 => ⟨S_, .f32⟩
  | 107 => ⟨S128, .f32⟩
  | 108 => ⟨S1x1x128, .f32⟩
  | 109 => ⟨S4096x4x128, .f32⟩
  | 110 => ⟨S4096x4x128, .f32⟩
  | 111 => ⟨S_, .f32⟩
  | 112 => ⟨S128, .f32⟩
  | 113 => ⟨S4096x4x128, .f32⟩
  | 114 => ⟨S_, .f32⟩
  | 115 => ⟨S4096x4, .f32⟩
  | 116 => ⟨S4096x4x1, .f32⟩
  | 117 => ⟨S4096x4x128, .f32⟩
  | 118 => ⟨S4096x4x128, .f32⟩
  | 119 => ⟨S4096x4x1, .f32⟩
  | 120 => ⟨S_, .f32⟩
  | 121 => ⟨S4096x4x1, .f32⟩
  | 122 => ⟨S4096x4x1, .f32⟩
  | 123 => ⟨S_, .f32⟩
  | 124 => ⟨S4096x4, .f32⟩
  | 125 => ⟨S4096x4x128, .f32⟩
  | 126 => ⟨S4096x4x128, .f32⟩
  | 127 => ⟨S4096x4x128, .f32⟩
  | _ => ⟨S4096x3584, .f32⟩

abbrev hbmTy0_1 (i : Nat) : BufTy := match i % 128 with
  | 0 => ⟨S4096x4x128, .f32⟩
  | 1 => ⟨S4096x4x128, .f32⟩
  | 2 => ⟨S1x128, .f32⟩
  | 3 => ⟨S4096x512, .f32⟩
  | 4 => ⟨S4096x512, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_20 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S4096x768 : Shape := ⟨2, ![4096, 768]⟩
abbrev S4096x512 : Shape := ⟨2, ![4096, 512]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S512x768 : Shape := ⟨2, ![512, 768]⟩
abbrev S1024x768 : Shape := ⟨2, ![1024, 768]⟩
abbrev S512x512 : Shape := ⟨2, ![512, 512]⟩
abbrev S1024x512 : Shape := ⟨2, ![1024, 512]⟩
abbrev S512x3072 : Shape := ⟨2, ![512, 3072]⟩
abbrev S512x1024 : Shape := ⟨2, ![512, 1024]⟩
abbrev S512x1 : Shape := ⟨2, ![512, 1]⟩
abbrev S1024 : Shape := ⟨1, ![1024]⟩
abbrev S512 : Shape := ⟨1, ![512]⟩

abbrev nBuf : Space → Nat
  | .hbm => 24
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .bf16⟩
  | .hbm, ⟨3, _⟩ => ⟨S1024x3072, .bf16⟩
  | .hbm, ⟨4, _⟩ => ⟨S4096x768, .bf16⟩
  | .hbm, ⟨5, _⟩ => ⟨S4096x768, .bf16⟩
  | .hbm, ⟨6, _⟩ => ⟨S4096x768, .bf16⟩
  | .hbm, ⟨7, _⟩ => ⟨S4096x768, .bf16⟩
  | .hbm, ⟨8, _⟩ => ⟨S4096x512, .bf16⟩
  | .hbm, ⟨9, _⟩ => ⟨S4096x3072, .bf16⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x768, .bf16⟩
  | .local _ .vmem, ⟨4, _⟩ => ⟨S512x768, .bf16⟩
  | .local _ .vmem, ⟨5, _⟩ => ⟨S1024x768, .bf16⟩
  | .local _ .vmem, ⟨6, _⟩ => ⟨S512x768, .bf16⟩
  | .local _ .vmem, ⟨7, _⟩ => ⟨S512x768, .bf16⟩
  | .local _ .vmem, ⟨8, _⟩ => ⟨S1024x768, .bf16⟩
  | .local _ .vmem, ⟨9, _⟩ => ⟨S512x768, .bf16⟩
  | .local _ .vmem, ⟨10, _⟩ => ⟨S512x768, .bf16⟩
  | .local _ .vmem, ⟨11, _⟩ => ⟨S1024x768, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S512x3072, .bf16⟩
  | .local _ .vmem, ⟨16, _⟩ => ⟨S512x3072, .bf16⟩
  | .local _ .vmem, ⟨17, _⟩ => ⟨S1024x3072, .bf16⟩
  | .local _ .vmem, ⟨18, _⟩ => ⟨S512x1024, .f32⟩
  | .local _ .vmem, ⟨19, _⟩ => ⟨S512x1024, .f32⟩
  | .local _ .vmem, ⟨20, _⟩ => ⟨S512x1, .f32⟩
  | .local _ .vmem, ⟨21, _⟩ => ⟨S512x1, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S4096x768 : Shape := ⟨2, ![4096, 768]⟩
abbrev S4096x512 : Shape := ⟨2, ![4096, 512]⟩
abbrev S4096x3072 : Shape := ⟨2, ![4096, 3072]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .bf16⟩
  | .hbm, ⟨3, _⟩ => ⟨S1024x3072, .bf16⟩
  | .hbm, ⟨4, _⟩ => ⟨S4096x768, .bf16⟩
  | .hbm, ⟨5, _⟩ => ⟨S4096x768, .bf16⟩
  | .hbm, ⟨6, _⟩ => ⟨S4096x768, .bf16⟩
  | .hbm, ⟨7, _⟩ => ⟨S4096x768, .bf16⟩
  | .hbm, ⟨8, _⟩ => ⟨S4096x512, .bf16⟩
  | .hbm, ⟨9, _⟩ => ⟨S4096x3072, .bf16⟩
  | .hbm, ⟨10, _⟩ => ⟨S4096x1024, .f32⟩
  | .hbm, ⟨11, _⟩ => ⟨S4096x3584, .bf16⟩
  | .hbm, ⟨12, _⟩ => ⟨S4096x3584, .f32⟩
  | .hbm, ⟨13, _⟩ => ⟨S1024x3584, .f32⟩
  | .hbm, ⟨14, _⟩ => ⟨S1024x3072, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x3584, .f32⟩
  | .hbm, ⟨35, _⟩ => ⟨S4096x3072, .f32⟩
  | .hbm, ⟨36, _⟩ => ⟨S4096x3072, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S1x3072 : Shape := ⟨2, ![1, 3072]⟩
abbrev S4096x768 : Shape := ⟨2, ![4096, 768]⟩
abbrev S4096x512 : Shape := ⟨2, ![4096, 512]⟩
abbrev S4096x3072 : Shape := ⟨2, ![4096, 3072]⟩
abbrev S1024x4096 : Shape := ⟨2, ![1024, 4096]⟩
abbrev S4096x1 : Shape := ⟨2, ![4096, 1]⟩
abbrev S512x1024 : Shape := ⟨2, ![512, 1024]⟩
abbrev S1024x512 : Shape := ⟨2, ![1024, 512]⟩
abbrev S512x1 : Shape := ⟨2, ![512, 1]⟩
abbrev S512 : Shape := ⟨1, ![512]⟩
abbrev S4096x3584 : Shape := ⟨2, ![4096, 3584]⟩
abbrev S512x3584 : Shape := ⟨2, ![512, 3584]⟩
abbrev S512x3072 : Shape := ⟨2, ![512, 3072]⟩
abbrev S256x4096 : Shape := ⟨2, ![256, 4096]⟩
abbrev S256x3584 : Shape := ⟨2, ![256, 3584]⟩
abbrev S256x768 : Shape := ⟨2, ![256, 768]⟩
abbrev S256x512 : Shape := ⟨2, ![256, 512]⟩
abbrev S4096x256 : Shape := ⟨2, ![4096, 256]⟩
abbrev S1024x256 : Shape := ⟨2, ![1024, 256]⟩

abbrev nBuf : Space → Nat
  | .hbm => 18
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .bf16⟩
  | .hbm, ⟨3, _⟩ => ⟨S1024x3072, .bf16⟩
  | .hbm, ⟨4, _⟩ => ⟨S1x3072, .f32⟩
  | .hbm, ⟨5, _⟩ => ⟨S4096x768, .bf16⟩
  | .hbm, ⟨6, _⟩ => ⟨S4096x768, .bf16⟩
  | .hbm, ⟨7, _⟩ => ⟨S4096x768, .bf16⟩
  | .hbm, ⟨8, _⟩ => ⟨S4096x768, .bf16⟩
  | .hbm, ⟨9, _⟩ => ⟨S4096x512, .bf16⟩
  | .hbm, ⟨10, _⟩ => ⟨S4096x3072, .bf16⟩
  | .hbm, ⟨11, _⟩ => ⟨S4096x1024, .bf16⟩
  | .hbm, ⟨12, _⟩ => ⟨S1024x4096, .bf16⟩
  | .hbm, ⟨13, _⟩ => ⟨S4096x1, .f32⟩
  | .hbm, ⟨14, _⟩ => ⟨S4096x3584, .f32⟩
  | .hbm, ⟨15, _⟩ => ⟨S4096x3072, .bf16⟩
  | .hbm, ⟨16, _⟩ => ⟨S1024x3584, .bf16⟩
  | .hbm, ⟨17, _⟩ => ⟨S1024x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S512x1, .f32⟩
  | .local _ .vmem, ⟨8, _⟩ => ⟨S512x1, .f32⟩
  | .local _ .vmem, ⟨9, _⟩ => ⟨S512x1024, .bf16⟩
  | .local _ .vmem, ⟨10, _⟩ => ⟨S512x1024, .bf16⟩
  | .local _ .vmem, ⟨11, _⟩ => ⟨S1024x3584, .bf16⟩
  | .local _ .vmem, ⟨12, _⟩ => ⟨S512x3584, .f32⟩
  | .local _ .vmem, ⟨13, _⟩ => ⟨S512x3584, .f32⟩
  | .local _ .vmem, ⟨14, _⟩ => ⟨S512x1024, .bf16⟩
  | .local _ .vmem, ⟨15, _⟩ => ⟨S512x1024, .bf16⟩
  | .local _ .vmem, ⟨16, _⟩ => ⟨S1024x3072, .bf16⟩
  | .local _ .vmem, ⟨17, _⟩ => ⟨S1x3072, .f32⟩
  | .local _ .vmem, ⟨18, _⟩ => ⟨S512x3072, .bf16⟩
  | .local _ .vmem, ⟨19, _⟩ => ⟨S512x3072, .bf16⟩
  | .local _ .vmem, ⟨20, _⟩ => ⟨S256x4096, .bf16⟩
  | .local _ .vmem, ⟨21, _⟩ => ⟨S256x4096, .bf16⟩
  | .local _ .vmem, ⟨22, _⟩ => ⟨S4096x768, .bf16⟩
  | .local _ .vmem, ⟨23, _⟩ => ⟨S4096x768, .bf16⟩
  | .local _ .vmem, ⟨24, _⟩ => ⟨S4096x768, .bf16⟩
  | .local _ .vmem, ⟨25, _⟩ => ⟨S4096x768, .bf16⟩
  | .local _ .vmem, ⟨26, _⟩ => ⟨S4096x512, .bf16⟩
  | .local _ .vmem, ⟨27, _⟩ => ⟨S256x3584, .bf16⟩
  | .local _ .vmem, ⟨28, _⟩ => ⟨S256x3584, .bf16⟩
  | .local _ .vmem, ⟨29, _⟩ => ⟨S1024x4096, .bf16⟩
  | .local _ .vmem, ⟨30, _⟩ => ⟨S4096x256, .bf16⟩
  | .local _ .vmem, ⟨31, _⟩ => ⟨S4096x256, .bf16⟩
  | .local _ .vmem, ⟨32, _⟩ => ⟨S1024x256, .bf16⟩
  | .local _ .vmem, ⟨33, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3584 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x3584 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x3072 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x3072 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x3072 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x768 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4096x768 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x3584 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![12], ![false]⟩

def k4_cond1 (i : grid4.Coords) : BitVec 1 :=
  let arg0 : BitVec 32 := BitVec.ofNat 32 (i 0).val
  let c0_i32 : BitVec 32 := 0#32
  let v0 : BitVec 1 := Scalar.cmpi .sge arg0 c0_i32
  let c12_i32 : BitVec 32 := 12#32
  let v1 : BitVec 1 := Scalar.cmpi .slt arg0 c12_i32
  let v2 : BitVec 1 := Scalar.andi v0 v1
  let v3 : BitVec 32 := Scalar.extui v2
  let c0_i32_0 : BitVec 32 := 0#32
  let v4 : BitVec 1 := Scalar.cmpi .ne v3 c0_i32_0
  v4

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c11_i32 : BitVec 32 := 11#32
  let v1 : BitVec 32 := Scalar.maxsi c0_i32_0 v0
  let v2 : BitVec 32 := Scalar.minsi c11_i32 v1
  let c0_i32_1 : BitVec 32 := 0#32
  let c0_i32_2 : BitVec 32 := 0#32
  ![c0_i32_1.toNat, v2.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1024x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== Reference3Ideal.lean ====
abbrev S4096x1024 : Shape := ⟨2, ![4096, 1024]⟩
abbrev S1x1024 : Shape := ⟨2, ![1, 1024]⟩
abbrev S1024x3584 : Shape := ⟨2, ![1024, 3584]⟩
abbrev S1024x3072 : Shape := ⟨2, ![1024, 3072]⟩
abbrev S1x3072 : Shape := ⟨2, ![1, 3072]⟩
abbrev S4096x768 : Shape := ⟨2, ![4096, 768]⟩
abbrev S4096x512 : Shape := ⟨2, ![4096, 512]⟩
abbrev S4096x3072 : Shape := ⟨2, ![4096, 3072]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S3072x1024 : Shape := ⟨2, ![3072, 1024]⟩
abbrev S3584x1024 : Shape := ⟨2, ![3584, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .bf16⟩
  | .hbm, ⟨3, _⟩ => ⟨S1024x3072, .bf16⟩
  | .hbm, ⟨4, _⟩ => ⟨S1x3072, .f32⟩
  | .hbm, ⟨5, _⟩ => ⟨S4096x768, .bf16⟩
  | .hbm, ⟨6, _⟩ => ⟨S4096x768, .bf16⟩
  | .hbm, ⟨7, _⟩ => ⟨S4096x768, .bf16⟩
  | .hbm, ⟨8, _⟩ => ⟨S4096x768, .bf16⟩
  | .hbm, ⟨9, _⟩ => ⟨S4096x512, .bf16⟩
  | .hbm, ⟨10, _⟩ => ⟨S4096x3072, .bf16⟩
  | .hbm, ⟨11, _⟩ => ⟨S4096x3584, .bf16⟩
  | .hbm, ⟨12, _⟩ => ⟨S4096x3584, .f32⟩
  | .hbm, ⟨13, _⟩ => ⟨S1024x3584, .f32⟩
  | .hbm, ⟨14, _⟩ => ⟨S1024x3072, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x3584, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S3072x1024, .f32⟩
  | .hbm, ⟨36, _⟩ => ⟨S1024x3072, .f32⟩
  | .hbm, ⟨37, _⟩ => ⟨S3584x1024, .f32⟩
  | .hbm, ⟨38, _⟩ => ⟨S1024x3584, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S4096x3072, .bf16⟩
  | .hbm, ⟨48, _⟩ => ⟨S1024x3584, .bf16⟩
  | .hbm, ⟨49, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S4096x256 : Shape := ⟨2, ![4096, 256]⟩
abbrev S256x1024 : Shape := ⟨2, ![256, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x2816, .bf16⟩
  | .hbm, ⟨7, _⟩ => ⟨S8x128, .f32⟩
  | .hbm, ⟨8, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x2816, .bf16⟩
  | .local _ .vmem, ⟨12, _⟩ => ⟨S512x2816, .bf16⟩
  | .local _ .vmem, ⟨13, _⟩ => ⟨S8x128, .f32⟩
  | .local _ .vmem, ⟨14, _⟩ => ⟨S4096x256, .bf16⟩
  | .local _ .vmem, ⟨15, _⟩ => ⟨S4096x256, .bf16⟩
  | .local _ .vmem, ⟨16, _⟩ => ⟨S4096x1024, .bf16⟩
  | .local _ .vmem, ⟨17, _⟩ => ⟨S256x1024, .bf16⟩
  | .local _ .vmem, ⟨18, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S1024x2816 : Shape := ⟨2, ![1024, 2816]⟩
abbrev S8x128 : Shape := ⟨2, ![8, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S1024x2816, .f32⟩
  | .hbm, ⟨32, _⟩ => ⟨S2816x1024, .f32⟩
  | .hbm, ⟨33, _⟩ => ⟨S4096x2816, .f32⟩
  | .hbm, ⟨34, _⟩ => ⟨S4096x2816, .bf16⟩
  | .hbm, ⟨35, _⟩ => ⟨S8x128, .f32⟩
  | .hbm, ⟨36, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x256 : Shape := ⟨2, ![4096, 256]⟩
abbrev S1024x256 : Shape := ⟨2, ![1024, 256]⟩
abbrev S512x2816 : Shape := ⟨2, ![512, 2816]⟩
abbrev S1024x2816 : Shape := ⟨2, ![1024, 2816]⟩
abbrev S512x1024 : Shape := ⟨2, ![512, 1024]⟩
abbrev S512x1 : Shape := ⟨2, ![512, 1]⟩
abbrev S1024 : Shape := ⟨1, ![1024]⟩
abbrev S512 : Shape := ⟨1, ![512]⟩

abbrev nBuf : Space → Nat
  | .hbm => 38
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4096, .bf16⟩
  | .hbm, ⟨23, _⟩ => ⟨S1024x5632, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .bf16⟩
  | .hbm, ⟨37, _⟩ => ⟨S1x1024, .f32⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S1024x256, .bf16⟩
  | .local _ .vmem, ⟨6, _⟩ => ⟨S1024x256, .bf16⟩
  | .local _ .vmem, ⟨7, _⟩ => ⟨S512x2816, .bf16⟩
  | .local _ .vmem, ⟨8, _⟩ => ⟨S512x2816, .bf16⟩
  | .local _ .vmem, ⟨9, _⟩ => ⟨S1024x2816, .bf16⟩
  | .local _ .vmem, ⟨10, _⟩ => ⟨S512x2816, .bf16⟩
  | .local _ .vmem, ⟨11, _⟩ => ⟨S512x2816, .bf16⟩
  | .local _ .vmem, ⟨12, _⟩ => ⟨S1024x2816, .bf16⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c11_i32_1 : BitVec 32 := 11#32
  let v5 : BitVec 1 := Scalar.cmpi .sge arg0 c11_i32_1
  let c22_i32 : BitVec 32 := 22#32
  let v6 : BitVec 1 := Scalar.cmpi .slt arg0 c22_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S4096x5632, .bf16⟩
  | .hbm, ⟨7, _⟩ => ⟨S4096x5632, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S5632x1024, .f32⟩
  | .hbm, ⟨30, _⟩ => ⟨S1024x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S1024x4096 : Shape := ⟨2, ![1024, 4096]⟩
abbrev S4096x1 : Shape := ⟨2, ![4096, 1]⟩
abbrev S4096x5632 : Shape := ⟨2, ![4096, 5632]⟩
abbrev S4096x2816 : Shape := ⟨2, ![4096, 2816]⟩
abbrev S512x1024 : Shape := ⟨2, ![512, 1024]⟩
abbrev S1024x512 : Shape := ⟨2, ![1024, 512]⟩
abbrev S512x1 : Shape := ⟨2, ![512, 1]⟩
abbrev S512x5632 : Shape := ⟨2, ![512, 5632]⟩
abbrev S512x2816 : Shape := ⟨2, ![512, 2816]⟩
abbrev S22x8x256 : Shape := ⟨3, ![22, 8, 256]⟩
abbrev S512 : Shape := ⟨1, ![512]⟩
abbrev S512x256 : Shape := ⟨2, ![512, 256]⟩
abbrev S1024x256 : Shape := ⟨2, ![1024, 256]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S1024x4096, .bf16⟩
  | .hbm, ⟨6, _⟩ => ⟨S4096x1, .f32⟩
  | .hbm, ⟨7, _⟩ => ⟨S4096x5632, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S1024x512, .bf16⟩
  | .local _ .vmem, ⟨7, _⟩ => ⟨S1024x512, .bf16⟩
  | .local _ .vmem, ⟨8, _⟩ => ⟨S512x1, .f32⟩
  | .local _ .vmem, ⟨9, _⟩ => ⟨S512x1, .f32⟩
  | .local _ .vmem, ⟨10, _⟩ => ⟨S512x5632, .bf16⟩
  | .local _ .vmem, ⟨11, _⟩ => ⟨S512x5632, .bf16⟩
  | .local _ .vmem, ⟨12, _⟩ => ⟨S512x2816, .bf16⟩
  | .local _ .vmem, ⟨13, _⟩ => ⟨S512x2816, .bf16⟩
  | .local _ .vmem, ⟨14, _⟩ => ⟨S22x8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4098x5632 : Shape := ⟨2, ![4098, 5632]⟩
abbrev S5632 : Shape := ⟨1, ![5632]⟩
abbrev S4096x2816 : Shape := ⟨2, ![4096, 2816]⟩
abbrev S1024x4096 : Shape := ⟨2, ![1024, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S_, .i32⟩
  | .hbm, ⟨23, _⟩ => ⟨S_, .f32⟩
  | .hbm, ⟨24, _⟩ => ⟨S4098x5632, .f32⟩
  | .hbm, ⟨25, _⟩ => ⟨S1x5632, .f32⟩
  | .hbm, ⟨26, _⟩ => ⟨S5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S1x5632, .f32⟩
  | .hbm, ⟨34, _⟩ => ⟨S5632, .f32⟩
  | .hbm, ⟨35, _⟩ => ⟨S4096x5632, .f32⟩
  | .hbm, ⟨36, _⟩ => ⟨S1x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S1x5632, .f32⟩
  | .hbm, ⟨41, _⟩ => ⟨S5632, .f32⟩
  | .hbm, ⟨42, _⟩ => ⟨S4096x5632, .f32⟩
  | .hbm, ⟨43, _⟩ => ⟨S1x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x2816, .f32⟩
  | .hbm, ⟨48, _⟩ => ⟨S4096x2816, .f32⟩
  | .hbm, ⟨49, _⟩ => ⟨S4096x1024, .bf16⟩
  | .hbm, ⟨50, _⟩ => ⟨S1024x4096, .bf16⟩
  | .hbm, ⟨51, _⟩ => ⟨S4096x5632, .bf16⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel7.lean ====
abbrev S4096x1024 : Shape := ⟨2, ![4096, 1024]⟩
abbrev S1024x3072 : Shape := ⟨2, ![1024, 3072]⟩
abbrev S1x3072 : Shape := ⟨2, ![1, 3072]⟩
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S1024x1024 : Shape := ⟨2, ![1024, 1024]⟩
abbrev S4096x3072 : Shape := ⟨2, ![4096, 3072]⟩
abbrev S512x3072 : Shape := ⟨2, ![512, 3072]⟩
abbrev S512x256 : Shape := ⟨2, ![512, 256]⟩
abbrev S512x512 : Shape := ⟨2, ![512, 512]⟩
abbrev S1x1024 : Shape := ⟨2, ![1, 1024]⟩
abbrev S1024 : Shape := ⟨1, ![1024]⟩
abbrev S256x256 : Shape := ⟨2, ![256, 256]⟩

abbrev nBuf : Space → Nat
  | .hbm => 30
  | .vmem => 85
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1x3072, .f32⟩
  | .hbm, ⟨3, _⟩ => ⟨S4096x256, .f32⟩
  | .hbm, ⟨4, _⟩ => ⟨S4096x512, .f32⟩
  | .hbm, ⟨5, _⟩ => ⟨S4096x512, .bf16⟩
  | .hbm, ⟨6, _⟩ => ⟨S256x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S4096x1024, .f32⟩
  | .hbm, ⟨11, _⟩ => ⟨S4096x1024, .bf16⟩
  | .hbm, ⟨12, _⟩ => ⟨S4096x3072, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x3072, .bf16⟩
  | .hbm, ⟨23, _⟩ => ⟨S1x3072, .f32⟩
  | .hbm, ⟨24, _⟩ => ⟨S4096x256, .f32⟩
  | .hbm, ⟨25, _⟩ => ⟨S4096x512, .f32⟩
  | .hbm, ⟨26, _⟩ => ⟨S4096x512, .f32⟩
  | .hbm, ⟨27, _⟩ => ⟨S256x1024, .bf16⟩
  | .hbm, ⟨28, _⟩ => ⟨S512x1024, .bf16⟩
  | .hbm, ⟨29, _⟩ => ⟨S512x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S256x1024, .bf16⟩
  | .local _ .vmem, ⟨13, _⟩ => ⟨S512x1024, .bf16⟩
  | .local _ .vmem, ⟨14, _⟩ => ⟨S512x1024, .bf16⟩
  | .local _ .vmem, ⟨15, _⟩ => ⟨S512x3072, .bf16⟩
  | .local _ .vmem, ⟨16, _⟩ => ⟨S512x3072, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S4096x256, .bf16⟩
  | .local _ .vmem, ⟨31, _⟩ => ⟨S4096x256, .bf16⟩
  | .local _ .vmem, ⟨32, _⟩ => ⟨S4096x1024, .bf16⟩
  | .local _ .vmem, ⟨33, _⟩ => ⟨S256x1024, .bf16⟩
  | .local _ .vmem, ⟨34, _⟩ => ⟨S256x1024, .bf16⟩
  | .local _ .vmem, ⟨35, _⟩ => ⟨S512x1024, .bf16⟩
  | .local _ .vmem, ⟨36, _⟩ => ⟨S512x1024, .bf16⟩
  | .local _ .vmem, ⟨37, _⟩ => ⟨S1024x1024, .bf16⟩
  | .local _ .vmem, ⟨38, _⟩ => ⟨S512x3072, .bf16⟩
  | .local _ .vmem, ⟨39, _⟩ => ⟨S512x3072, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x3072, .bf16⟩
  | .local _ .vmem, ⟨53, _⟩ => ⟨S512x3072, .bf16⟩
  | .local _ .vmem, ⟨54, _⟩ => ⟨S1x3072, .f32⟩
  | .local _ .vmem, ⟨55, _⟩ => ⟨S512x1024, .bf16⟩
  | .local _ .vmem, ⟨56, _⟩ => ⟨S512x1024, .bf16⟩
  | .local _ .vmem, ⟨57, _⟩ => ⟨S256x1024, .bf16⟩
  | .local _ .vmem, ⟨58, _⟩ => ⟨S512x1024, .bf16⟩
  | .local _ .vmem, ⟨59, _⟩ => ⟨S512x1024, .bf16⟩
  | .local _ .vmem, ⟨60, _⟩ => ⟨S512x1024, .bf16⟩
  | .local _ .vmem, ⟨61, _⟩ => ⟨S512x1024, .bf16⟩
  | .local _ .vmem, ⟨62, _⟩ => ⟨S512x1024, .bf16⟩
  | .local _ .vmem, ⟨63, _⟩ => ⟨S512x1024, .bf16⟩
  | .local _ .vmem, ⟨64, _⟩ => ⟨S512x256, .f32⟩
  | .local _ .vmem, ⟨65, _⟩ => ⟨S512x256, .f32⟩
  | .local _ .vmem, ⟨66, _⟩ => ⟨S512x512, .f32⟩
  | .local _ .vmem, ⟨67, _⟩ => ⟨S512x512, .f32⟩
  | .local _ .vmem, ⟨68, _⟩ => ⟨S512x512, .f32⟩
  | .local _ .vmem, ⟨69, _⟩ => ⟨S512x512, .f32⟩
  | .local _ .vmem, ⟨70, _⟩ => ⟨S4096x256, .f32⟩
  | .local _ .vmem, ⟨71, _⟩ => ⟨S4096x256, .bf16⟩
  | .local _ .vmem, ⟨72, _⟩ => ⟨S4096x256, .bf16⟩
  | .local _ .vmem, ⟨73, _⟩ => ⟨S4096x512, .f32⟩
  | .local _ .vmem, ⟨74, _⟩ => ⟨S4096x256, .bf16⟩
  | .local _ .vmem, ⟨75, _⟩ => ⟨S4096x256, .bf16⟩
  | .local _ .vmem, ⟨76, _⟩ => ⟨S4096x512, .bf16⟩
  | .local _ .vmem, ⟨77, _⟩ => ⟨S4096x256, .bf16⟩
  | .local _ .vmem, ⟨78, _⟩ => ⟨S4096x256, .bf16⟩
  | .local _ .vmem, ⟨79, _⟩ => ⟨S256x256, .bf16⟩
  | .local _ .vmem, ⟨80, _⟩ => ⟨S256x256, .bf16⟩
  | .local _ .vmem, ⟨81, _⟩ => ⟨S512x256, .bf16⟩
  | .local _ .vmem, ⟨82, _⟩ => ⟨S512x256, .bf16⟩
  | .local _ .vmem, ⟨83, _⟩ => ⟨S512x256, .bf16⟩
  | .local _ .vmem, ⟨84, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v3_4 : Ref sig .tc := ⟨.hbm, 23, rfl⟩
abbrev main_v4_0 : Ref sig .tc := ⟨.hbm, 24, rfl⟩
abbrev main_v4_1 : Ref sig .tc := ⟨.hbm, 25, rfl⟩
abbrev main_v4_2 : Ref sig .tc := ⟨.hbm, 26, rfl⟩
abbrev main_v5_0 : Ref sig .tc := ⟨.hbm, 27, rfl⟩
abbrev main_v5_1 : Ref sig .tc := ⟨.hbm, 28, rfl⟩
abbrev main_v5_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg2_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc3_stg8_0 : Ref sig .tc := ⟨.vmem, 50, rfl⟩
abbrev cc3_stg8_1 : Ref sig .tc := ⟨.vmem, 51, rfl⟩
abbrev cc3_stg9_0 : Ref sig .tc := ⟨.vmem, 52, rfl⟩
abbrev cc3_stg9_1 : Ref sig .tc := ⟨.vmem, 53, rfl⟩
abbrev cc3_stg10_0 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg4_1 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg6_1 : Ref sig .tc := ⟨.vmem, 65, rfl⟩
abbrev cc4_stg7_0 : Ref sig .tc := ⟨.vmem, 66, rfl⟩
abbrev cc4_stg7_1 : Ref sig .tc := ⟨.vmem, 67, rfl⟩
abbrev cc4_stg8_0 : Ref sig .tc := ⟨.vmem, 68, rfl⟩
abbrev cc4_stg8_1 : Ref sig .tc := ⟨.vmem, 69, rfl⟩
abbrev cc5_stg0_0 : Ref sig .tc := ⟨.vmem, 70, rfl⟩
abbrev cc5_stg1_0 : Ref sig .tc := ⟨.vmem, 71, rfl⟩
abbrev cc5_stg1_1 : Ref sig .tc := ⟨.vmem, 72, rfl⟩
abbrev cc5_stg2_0 : Ref sig .tc := ⟨.vmem, 73, rfl⟩
abbrev cc5_stg3_0 : Ref sig .tc := ⟨.vmem, 74, rfl⟩
abbrev cc5_stg3_1 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg5_1 : Ref sig .tc := ⟨.vmem, 78, rfl⟩
abbrev cc5_stg6_0 : Ref sig .tc := ⟨.vmem, 79, rfl⟩
abbrev cc5_stg6_1 : Ref sig .tc := ⟨.vmem, 80, rfl⟩
abbrev cc5_stg7_0 : Ref sig .tc := ⟨.vmem, 81, rfl⟩
abbrev cc5_stg7_1 : Ref sig .tc := ⟨.vmem, 82, rfl⟩
abbrev cc5_stg8_0 : Ref sig .tc := ⟨.vmem, 83, rfl⟩
abbrev cc5_stg8_1 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27
abbrev cc1_sem13_0 : DmaSem sig := 28
abbrev cc1_sem13_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem2_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem7_1 : DmaSem sig := 49
abbrev cc3_sem8_0 : DmaSem sig := 50
abbrev cc3_sem8_1 : DmaSem sig := 51
abbrev cc3_sem9_0 : DmaSem sig := 52
abbrev cc3_sem9_1 : DmaSem sig := 53
abbrev cc3_sem10_0 : DmaSem sig := 54
abbrev cc4_sem0_0 : DmaSem sig := 55
abbrev cc4_sem0_1 : DmaSem sig := 56
abbrev cc4_sem1_0 : DmaSem sig := 57
abbrev cc4_sem2_0 : DmaSem sig := 58
abbrev cc4_sem2_1 : DmaSem sig := 59
abbrev cc4_sem3_0 : DmaSem sig := 60
abbrev cc4_sem4_0 : DmaSem sig := 61
abbrev cc4_sem4_1 : DmaSem sig := 62
abbrev cc4_sem5_0 : DmaSem sig := 63
abbrev cc4_sem6_0 : DmaSem sig := 64
abbrev cc4_sem6_1 : DmaSem sig := 65
abbrev cc4_sem7_0 : DmaSem sig := 66
abbrev cc4_sem7_1 : DmaSem sig := 67
abbrev cc4_sem8_0 : DmaSem sig := 68
abbrev cc4_sem8_1 : DmaSem sig := 69
abbrev cc5_sem0_0 : DmaSem sig := 70
abbrev cc5_sem1_0 : DmaSem sig := 71
abbrev cc5_sem1_1 : DmaSem sig := 72
abbrev cc5_sem2_0 : DmaSem sig := 73
abbrev cc5_sem3_0 : DmaSem sig := 74
abbrev cc5_sem3_1 : DmaSem sig := 75
abbrev cc5_sem4_0 : DmaSem sig := 76
abbrev cc5_sem5_0 : DmaSem sig := 77
abbrev cc5_sem5_1 : DmaSem sig := 78
abbrev cc5_sem6_0 : DmaSem sig := 79
abbrev cc5_sem6_1 : DmaSem sig := 80
abbrev cc5_sem7_0 : DmaSem sig := 81
abbrev cc5_sem7_1 : DmaSem sig := 82
abbrev cc5_sem8_0 : DmaSem sig := 83
abbrev cc5_sem8_1 : DmaSem sig := 84

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x3072 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x3072 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x3072 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S1x3072 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S512x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S512x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S4096x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4096x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S4096x512 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x256 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x256 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S512x256 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S512x256 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]
-- ==== Reference7Ideal.lean ====
abbrev S4096x1024 : Shape := ⟨2, ![4096, 1024]⟩
abbrev S1024x3072 : Shape := ⟨2, ![1024, 3072]⟩
abbrev S1x3072 : Shape := ⟨2, ![1, 3072]⟩
abbrev S4096x256 : Shape := ⟨2, ![4096, 256]⟩
abbrev S4096x512 : Shape := ⟨2, ![4096, 512]⟩
abbrev S256x1024 : Shape := ⟨2, ![256, 1024]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S1024x512 : Shape := ⟨2, ![1024, 512]⟩
abbrev S1024x256 : Shape := ⟨2, ![1024, 256]⟩
abbrev S3072 : Shape := ⟨1, ![3072]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1x3072, .f32⟩
  | .hbm, ⟨3, _⟩ => ⟨S4096x256, .f32⟩
  | .hbm, ⟨4, _⟩ => ⟨S4096x512, .f32⟩
  | .hbm, ⟨5, _⟩ => ⟨S4096x512, .bf16⟩
  | .hbm, ⟨6, _⟩ => ⟨S256x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S1024x3072, .f32⟩
  | .hbm, ⟨14, _⟩ => ⟨S4096x3072, .f32⟩
  | .hbm, ⟨15, _⟩ => ⟨S4096x512, .f32⟩
  | .hbm, ⟨16, _⟩ => ⟨S256x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1024x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x512, .f32⟩
  | .hbm, ⟨54, _⟩ => ⟨S512x1024, .f32⟩
  | .hbm, ⟨55, _⟩ => ⟨S4096x512, .f32⟩
  | .hbm, ⟨56, _⟩ => ⟨S4096x1024, .f32⟩
  | .hbm, ⟨57, _⟩ => ⟨S4096x1024, .f32⟩
  | .hbm, ⟨58, _⟩ => ⟨S1024x512, .f32⟩
  | .hbm, ⟨59, _⟩ => ⟨S512x1024, .f32⟩
  | .hbm, ⟨60, _⟩ => ⟨S4096x512, .f32⟩
  | .hbm, ⟨61, _⟩ => ⟨S4096x1024, .f32⟩
  | .hbm, ⟨62, _⟩ => ⟨S4096x1024, .f32⟩
  | .hbm, ⟨63, _⟩ => ⟨S1024x256, .f32⟩
  | .hbm, ⟨64, _⟩ => ⟨S256x1024, .f32⟩
  | .hbm, ⟨65, _⟩ => ⟨S4096x256, .f32⟩
  | .hbm, ⟨66, _⟩ => ⟨S4096x3072, .f32⟩
  | .hbm, ⟨67, _⟩ => ⟨S4096x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S1024x1024, .bf16⟩
  | .hbm, ⟨72, _⟩ => ⟨S4096x3072, .bf16⟩
  | .hbm, ⟨73, _⟩ => ⟨S256x1024, .bf16⟩
  | .hbm, ⟨74, _⟩ => ⟨S512x1024, .bf16⟩
  | .hbm, ⟨75, _⟩ => ⟨S512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Proof.Row.lean ====
/-
  The mathematics of one row of one head, over the extended reals: what the kernel computes of a row, what the
  derivative computes of it, and why the two are one function.
-/
module

public import Idealize.ShloMosaic.Lib.Pointwise
public import Idealize.ShloMosaic.Lib.IdealHost

@[expose] public section

set_option maxRecDepth 16384

noncomputable section

namespace MemGrad

open Idealize.ShloMosaic

/-- The number of lanes of a head, as the float literal both programs carry. -/
abbrev lanes : EReal := Ideal.ofBits .f32 0x43000000#32
/-- The constant the mean square is moved from zero by. -/
abbrev tiny : EReal := Ideal.ofBits .f32 0x358637BD#32
/-- The scale of the scores. -/
abbrev scal : EReal := Ideal.ofBits .f32 0x3DB504F3#32
/-- Minus one half: the exponent of the normalizer. -/
abbrev mhalf : EReal := Ideal.ofBits .f32 0xBF000000#32
/-- The starting value of a running maximum. -/
abbrev low : EReal := Ideal.ofBits .f32 0xFF800000#32

theorem lanes_eq : lanes = ((128 : ℝ) : EReal) := by
  simp [lanes, Ideal.ofBits, Ideal.ieee, -EReal.coe_mul]; norm_num
theorem tiny_eq : ∃ e : ℝ, 0 < e ∧ tiny = (e : EReal) := by
  refine ⟨8796093 / 8796093022208, by norm_num, ?_⟩
  simp [tiny, Ideal.ofBits, Ideal.ieee, -EReal.coe_mul]; norm_num
theorem scal_eq : ∃ e : ℝ, scal = (e : EReal) := by
  refine ⟨11863283 / 134217728, ?_⟩
  simp [scal, Ideal.ofBits, Ideal.ieee, -EReal.coe_mul]; norm_num
theorem mhalf_eq : mhalf = ((-1 / 2 : ℝ) : EReal) := by
  simp [mhalf, Ideal.ofBits, Ideal.ieee, -EReal.coe_mul]; norm_num
theorem low_eq : low = ⊥ := by
  simp [low, Ideal.ofBits, Ideal.ieee]

section
variable (x g o : Fin 128 → EReal) (K V : Fin 256 → Fin 128 → EReal)

/-- The mean square of a row, moved from zero. -/
def msq : EReal := Ideal.div (∑ d, x d * x d) lanes + tiny
/-- The row's normalizer. -/
def rsv : EReal := Ideal.rsqrt (msq x)
/-- The normalized row. -/
def tht (d : Fin 128) : EReal := x d * rsv x
/-- The query: the normalized row times the gain. -/
def qnv (d : Fin 128) : EReal := tht x d * g d
/-- The scaled scores of a query against the keys. -/
def score (m : Fin 256) : EReal := (∑ d, qnv x g d * K m d) * scal
/-- The largest score. -/
def top : EReal := Finset.univ.fold max low (score x g K)
/-- The exponentials of the scores less the largest. -/
def ex (m : Fin 256) : EReal := Ideal.exp (score x g K m - top x g K)
/-- Their sum. -/
def tot : EReal := ∑ m, ex x g K m
/-- The softmax. -/
def prob (m : Fin 256) : EReal := ex x g K m * Ideal.div 1 (tot x g K)
/-- The gradient of the softmax's values: the cotangent's products with the memory's values. -/
def dpr (m : Fin 256) : EReal := ∑ d, o d * V m d
/-- The gradient of the unscaled scores. -/
def dsc (m : Fin 256) : EReal :=
  prob x g K m * (dpr o V m - ∑ m', prob x g K m' * dpr o V m') * scal
/-- The gradient of the query. -/
def dqn (d : Fin 128) : EReal := ∑ m, dsc x g o K V m * K m d
/-- The gradient of the normalized row. -/
def dth (d : Fin 128) : EReal := dqn x g o K V d * g d
/-- The gradient of the row. -/
def dxq (d : Fin 128) : EReal :=
  rsv x * (dth x g o K V d - tht x d * Ideal.div (∑ e, dth x g o K V e * tht x e) lanes)

/-- The gradient of the scores as the derivative of a quotient spells it. -/
def dscRef (m : Fin 256) : EReal :=
  (Ideal.div (dpr o V m) (tot x g K)
    + -(∑ m', dpr o V m' * Ideal.div 1 (tot x g K * tot x g K) * ex x g K m')) * ex x g K m * scal
/-- The common factor of the derivative of the normalizer, of a gradient `y` of the normalized row. -/
def slope (y : Fin 128 → EReal) : EReal :=
  Ideal.div ((∑ e, x e * y e) * (mhalf * Ideal.div (rsv x) (msq x))) lanes
/-- The gradient of the row as the derivative of a product spells it. -/
def dxqRef (y : Fin 128 → EReal) (d : Fin 128) : EReal := y d * rsv x + x d * slope x y + slope x y * x d
end

/-! ### A factor that is a nonnegative number goes through sums -/

theorem coe_mul_add (r : ℝ) (hr : 0 ≤ r) (a b : EReal) : (r : EReal) * (a + b) = r * a + r * b :=
  EReal.left_distrib_of_nonneg_of_ne_top (by exact_mod_cast hr) (EReal.coe_ne_top r) a b

theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add r hr, ih]

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem mul_self_nonneg' (x : EReal) : 0 ≤ x * x := by
  induction x with
  | bot => simp
  | top => simp
  | coe r => rw [← EReal.coe_mul]; exact_mod_cast mul_self_nonneg r

/-- Either every entry of a row is a number, or its sum of squares is infinite. -/
theorem sumsq (x : Fin 128 → EReal) : (∃ y : Fin 128 → ℝ, ∀ d, x d = (y d : EReal)) ∨ ∑ d, x d * x d = ⊤ := by
  by_cases h : ∀ d, x d ≠ ⊤ ∧ x d ≠ ⊥
  · exact .inl ⟨fun d => (x d).toReal, fun d => (EReal.coe_toReal (h d).1 (h d).2).symm⟩
  · right
    push Not at h
    obtain ⟨d, hd⟩ := h
    have hx : x d * x d = ⊤ := by
      by_cases h1 : x d = ⊤
      · rw [h1]; simp
      · rw [hd h1]; simp
    rw [← Finset.add_sum_erase _ _ (Finset.mem_univ d), hx]
    refine EReal.top_add_of_ne_bot (ne_of_gt (lt_of_lt_of_le EReal.bot_lt_zero ?_))
    exact Finset.sum_nonneg fun i _ => mul_self_nonneg' (x i)

/-- What is known of the normalizer: it is a number, zero exactly when the row is not one of numbers. -/
theorem rsv_cases (x : Fin 128 → EReal) :
    rsv x = 0 ∧ msq x = ⊤ ∨
    ∃ (y : Fin 128 → ℝ) (M : ℝ), (∀ d, x d = (y d : EReal)) ∧ 0 < M ∧ msq x = (M : EReal) ∧
      rsv x = (((Real.sqrt M)⁻¹ : ℝ) : EReal) := by
  obtain ⟨e, he, hee⟩ := tiny_eq
  rcases sumsq x with ⟨y, hy⟩ | h
  · right
    have hM : msq x = (((∑ d, y d * y d) * (1 / 128) + e : ℝ) : EReal) := by
      rw [msq, hee, lanes_eq, Ideal.div_coe (by norm_num), EReal.coe_add, EReal.coe_mul, ← sum_coe]
      simp only [hy, EReal.coe_mul]
    have hpos : 0 < (∑ d, y d * y d) * (1 / 128) + e := by
      have : 0 ≤ ∑ d, y d * y d := Finset.sum_nonneg fun i _ => mul_self_nonneg (y i)
      positivity
    refine ⟨y, _, hy, hpos, hM, ?_⟩
    rw [rsv, hM, Ideal.rsqrt_coe, if_neg (not_lt.2 hpos.le), if_neg hpos.ne']
  · left
    have hM : msq x = ⊤ := by
      rw [msq, h, hee, lanes_eq, Ideal.div_coe (by norm_num), EReal.top_mul_coe_of_pos (by norm_num)]
      rfl
    exact ⟨by rw [rsv, hM]; rfl, hM⟩

/-- A normalized row is one of numbers. -/
theorem tht_real (x : Fin 128 → EReal) (d : Fin 128) : ∃ y : ℝ, tht x d = (y : EReal) := by
  rcases rsv_cases x with ⟨h, _⟩ | ⟨y, M, hy, _, _, h⟩
  · exact ⟨0, by rw [tht, h, mul_zero]; rfl⟩
  · exact ⟨y d * (Real.sqrt M)⁻¹, by rw [tht, h, hy, EReal.coe_mul]⟩

section
variable {x g o : Fin 128 → EReal} {K V : Fin 256 → Fin 128 → EReal}
  (hg : ∀ d, ∃ y : ℝ, g d = (y : EReal)) (hK : ∀ m d, ∃ y : ℝ, K m d = (y : EReal))
include hg hK

theorem score_real (m : Fin 256) : ∃ y : ℝ, score x g K m = (y : EReal) := by
  choose t ht using tht_real x
  choose g' hg' using hg
  choose K' hK' using hK
  obtain ⟨c, hc⟩ := scal_eq
  refine ⟨(∑ d, t d * g' d * K' m d) * c, ?_⟩
  rw [score, hc, EReal.coe_mul, ← sum_coe]
  simp only [qnv, ht, hg', hK', EReal.coe_mul]

theorem top_real : ∃ y : ℝ, top x g K = (y : EReal) := by
  choose s hs using fun m => score_real (x := x) hg hK m
  have key : ∀ S : Finset (Fin 256), S.Nonempty → ∃ y : ℝ, S.fold max low (score x g K) = (y : EReal) := by
    intro S hS
    induction hS using Finset.Nonempty.cons_induction with
    | singleton a => exact ⟨s a, by rw [Finset.fold_singleton, hs, low_eq, max_bot_right]⟩
    | cons a S ha _ ih =>
      obtain ⟨y, hy⟩ := ih
      exact ⟨max (s a) y, by rw [Finset.fold_cons, hy, hs]; exact (EReal.coe_strictMono.monotone.map_max).symm⟩
  exact key Finset.univ ⟨0, Finset.mem_univ _⟩

theorem ex_real : ∃ e : Fin 256 → ℝ, (∀ m, 0 < e m) ∧ ∀ m, ex x g K m = (e m : EReal) := by
  choose s hs using fun m => score_real (x := x) hg hK m
  obtain ⟨t, ht⟩ := top_real (x := x) hg hK
  exact ⟨fun m => Real.exp (s m - t), fun m => Real.exp_pos _, fun m => by
    rw [ex, hs, ht, ← EReal.coe_sub, Ideal.exp_coe]⟩

theorem ex_tot : ∃ (e : Fin 256 → ℝ) (S : ℝ), 0 < S ∧ (∀ m, 0 < e m) ∧ (∀ m, ex x g K m = (e m : EReal)) ∧
    tot x g K = (S : EReal) := by
  obtain ⟨e, he, h⟩ := ex_real (x := x) hg hK
  refine ⟨e, ∑ m, e m, Finset.sum_pos (fun i _ => he i) ⟨0, Finset.mem_univ _⟩, he, h, ?_⟩
  rw [tot, ← sum_coe]; simp only [h]

/-- The softmax is the quotient of the exponential by the sum. -/
theorem prob_eq (m : Fin 256) : Ideal.div (ex x g K m) (tot x g K) = prob x g K m := by
  obtain ⟨e, S, hS, _, _, h⟩ := ex_tot (x := x) hg hK
  exact (Ideal.mul_one_div (by rw [h]; exact_mod_cast hS.ne')).symm

/-- The two spellings of the gradient of the scores are one number. -/
theorem dscRef_eq (m : Fin 256) : dscRef x g o K V m = dsc x g o K V m := by
  obtain ⟨e, S, hS, he, hex, htot⟩ := ex_tot (x := x) hg hK
  have hp : ∀ m, prob x g K m = ((e m * (1 / S) : ℝ) : EReal) := fun m => by
    rw [prob, hex, htot, Ideal.div_coe hS.ne', one_mul, EReal.coe_mul]
  rw [dscRef, dsc, hp]
  simp only [hp, hex, htot]
  congr 1
  rw [← EReal.coe_mul, Ideal.div_coe hS.ne', Ideal.div_coe (mul_pos hS hS).ne', one_mul]
  have hsum : (∑ m', dpr o V m' * ((1 / (S * S) : ℝ) : EReal) * (e m' : EReal))
      = ((1 / S : ℝ) : EReal) * ∑ m', ((e m' * (1 / S) : ℝ) : EReal) * dpr o V m' := by
    rw [coe_mul_sum _ _ (by positivity)]
    refine Finset.sum_congr rfl fun i _ => ?_
    rw [mul_comm (dpr o V i), mul_right_comm, ← EReal.coe_mul, ← mul_assoc, ← EReal.coe_mul]
    congr 2
    field_simp
  rw [hsum, mul_comm (dpr o V m), ← mul_neg, ← coe_mul_add _ (by positivity), mul_comm, ← mul_assoc, ← EReal.coe_mul]
  rfl
end

/-- The two spellings of the gradient of a row are one number. -/
theorem dxqRef_eq (x y : Fin 128 → EReal) (d : Fin 128) :
    dxqRef x y d = rsv x * (y d - tht x d * Ideal.div (∑ e, y e * tht x e) lanes) := by
  rcases rsv_cases x with ⟨h, hM⟩ | ⟨z, M, hz, hMp, hM, h⟩
  · have hs : slope x y = 0 := by
      rw [slope, h, hM, Ideal.zero_div (by simp), mul_zero, mul_zero, lanes_eq, Ideal.zero_div (by norm_num)]
    rw [dxqRef, hs, h]; simp
  · have hr : 0 < (Real.sqrt M)⁻¹ := inv_pos.2 (Real.sqrt_pos.2 hMp)
    have hrr : (Real.sqrt M)⁻¹ * (Real.sqrt M)⁻¹ = 1 / M := by
      rw [← mul_inv, Real.mul_self_sqrt hMp.le, one_div]
    generalize (Real.sqrt M)⁻¹ = r at h hr hrr
    set W : EReal := ∑ e, x e * y e with hW
    have hU : (∑ e, y e * tht x e) = (r : EReal) * W := by
      rw [hW, coe_mul_sum _ _ hr.le]
      refine Finset.sum_congr rfl fun e _ => ?_
      rw [tht, h]; ac_rfl
    have hs : slope x y = W * ((-(r * r * r / 256) : ℝ) : EReal) := by
      rw [slope, h, hM, ← hW, mhalf_eq, lanes_eq, Ideal.div_coe hMp.ne', Ideal.div_coe (by norm_num), ← EReal.coe_mul,
        ← EReal.coe_mul, mul_assoc, ← EReal.coe_mul, ← hrr]
      congr 2; ring
    have two : ∀ a : EReal, a + a = ((2 : ℝ) : EReal) * a := fun a => by
      have : ((2 : ℝ) : EReal) = 1 + 1 := by
        rw [show (2 : ℝ) = 1 + 1 by norm_num, EReal.coe_add, EReal.coe_one]
      rw [this, EReal.right_distrib_of_nonneg zero_le_one zero_le_one, one_mul]
    rw [dxqRef, hs, hU, tht, h, lanes_eq, Ideal.div_coe (by norm_num), hz d, add_assoc,
      mul_comm (W * _) (z d : EReal), two, sub_eq_add_neg, coe_mul_add _ hr.le, mul_comm (y d)]
    congr 1
    rw [← neg_mul]
    have e1 : ((2 : ℝ) : EReal) * ((z d : EReal) * (W * ((-(r * r * r / 256) : ℝ) : EReal)))
        = (((2 : ℝ) * z d * (-(r * r * r / 256)) : ℝ) : EReal) * W := by
      rw [EReal.coe_mul, EReal.coe_mul]; ac_rfl
    have e2 : (r : EReal) * (-((z d : EReal) * (r : EReal)) * ((r : EReal) * W * ((1 / 128 : ℝ) : EReal)))
        = ((r * -(z d * r) * r * (1 / 128) : ℝ) : EReal) * W := by
      rw [EReal.coe_mul, EReal.coe_mul, EReal.coe_mul, EReal.coe_neg, EReal.coe_mul]; ac_rfl
    rw [e1, e2]; congr 2; ring

end MemGrad
-- ==== Proof.Block.lean ====
/-
  What one grid point of the kernel computes of one head: the vectors its body forms from a 512-row block, read at an
  index, are the row functions of `Row.lean`. The body's four heads are four copies of one computation.
-/
module

public import proofs.«01_k».proof.Proof.Gen.KernelIdeal.Skeleton
public import proofs.«01_k».proof.Proof.Row

@[expose] public section

set_option maxRecDepth 16384

noncomputable section

namespace Cert.KernelIdeal.Head

open Idealize.ShloMosaic Idealize.ShloMosaic.TcCoe Idealize.SL.Sem
open Cert.KernelIdeal Cert.KernelIdeal.Gen MemGrad

/-- A head's contribution to the keys' gradient, added to what is there. -/
def dk (T : FVec Ideal S512x128 .f32) (G : FVec Ideal S1x128 .f32) (K V : FVec Ideal S256x128 .bf16)
    (D : FVec Ideal S512x128 .f32) (old : FVec Ideal S256x128 .f32) : FVec Ideal S256x128 .f32 :=
  k0_pay13 (k0_pay7 T G) (k0_pay9 T G K) (k0_pay10 V D) old
/-- A head's contribution to the values' gradient, added to what is there. -/
def dv (T : FVec Ideal S512x128 .f32) (G : FVec Ideal S1x128 .f32) (K : FVec Ideal S256x128 .bf16)
    (D : FVec Ideal S512x128 .f32) (old : FVec Ideal S256x128 .f32) : FVec Ideal S256x128 .f32 :=
  k0_pay14 (k0_pay8 D) (k0_pay9 T G K) old
/-- A head's contribution to the gain's gradient, added to what is there. -/
def dg (T : FVec Ideal S512x128 .f32) (G : FVec Ideal S1x128 .f32) (K V : FVec Ideal S256x128 .bf16)
    (D : FVec Ideal S512x128 .f32) (old : FVec Ideal S1x128 .f32) : FVec Ideal S1x128 .f32 :=
  k0_pay15 (k0_pay6 T) K (k0_pay9 T G K) (k0_pay10 V D) old
/-- A head's gradient of the rows before normalization. -/
def dq (T : FVec Ideal S512x128 .f32) (G : FVec Ideal S1x128 .f32) (K V : FVec Ideal S256x128 .bf16)
    (D : FVec Ideal S512x128 .f32) : FVec Ideal S512x128 .bf16 :=
  k0_pay19 (k0_pay5 T) (k0_pay6 T) (k0_pay16 K (k0_pay9 T G K) (k0_pay10 V D) G)
    (k0_pay17 (k0_pay6 T) K (k0_pay9 T G K) (k0_pay10 V D) G) k0_pay18

section
variable (T D : FVec Ideal S512x128 .f32) (G : FVec Ideal S1x128 .f32) (K V : FVec Ideal S256x128 .bf16)
  (old : FVec Ideal S256x128 .f32) (oldg : FVec Ideal S1x128 .f32)

theorem dk0 : k0_pay13 (k0_pay7 T G) (k0_pay9 T G K) (k0_pay10 V D) old = dk T G K V D old := rfl
theorem dk1 : k0_pay29 (k0_pay22 T G) V (k0_pay23 D) (k0_pay24 T G K) (k0_pay25 T G K) old = dk T G K V D old := rfl
theorem dk2 : k0_pay44 (k0_pay37 T G) V (k0_pay38 D) (k0_pay39 T G K) (k0_pay40 T G K) old = dk T G K V D old := rfl
theorem dk3 : k0_pay57 (k0_pay50 T G) V (k0_pay51 D) (k0_pay52 T G K) (k0_pay53 T G K) old = dk T G K V D old := rfl
theorem dv0 : k0_pay14 (k0_pay8 D) (k0_pay9 T G K) old = dv T G K D old := rfl
theorem dv1 : k0_pay30 (k0_pay23 D) (k0_pay24 T G K) (k0_pay25 T G K) old = dv T G K D old := rfl
theorem dv2 : k0_pay45 (k0_pay38 D) (k0_pay39 T G K) (k0_pay40 T G K) old = dv T G K D old := rfl
theorem dv3 : k0_pay58 (k0_pay51 D) (k0_pay52 T G K) (k0_pay53 T G K) old = dv T G K D old := rfl
theorem dg0 : k0_pay15 (k0_pay6 T) K (k0_pay9 T G K) (k0_pay10 V D) oldg = dg T G K V D oldg := rfl
theorem dg1 : k0_pay31 (k0_pay21 T) K V (k0_pay23 D) (k0_pay24 T G K) (k0_pay25 T G K) oldg = dg T G K V D oldg := rfl
theorem dg2 : k0_pay46 (k0_pay36 T) K V (k0_pay38 D) (k0_pay39 T G K) (k0_pay40 T G K) oldg = dg T G K V D oldg := rfl
theorem dg3 : k0_pay59 (k0_pay49 T) K V (k0_pay51 D) (k0_pay52 T G K) (k0_pay53 T G K) oldg = dg T G K V D oldg := rfl
theorem dq0 : k0_pay19 (k0_pay5 T) (k0_pay6 T) (k0_pay16 K (k0_pay9 T G K) (k0_pay10 V D) G)
    (k0_pay17 (k0_pay6 T) K (k0_pay9 T G K) (k0_pay10 V D) G) k0_pay18 = dq T G K V D := rfl
theorem dq1 : k0_pay34 (k0_pay20 T) (k0_pay21 T) (k0_pay32 K V (k0_pay23 D) (k0_pay24 T G K) (k0_pay25 T G K) G)
    (k0_pay33 (k0_pay21 T) K V (k0_pay23 D) (k0_pay24 T G K) (k0_pay25 T G K) G) = dq T G K V D := rfl
theorem dq2 : k0_pay47 (k0_pay35 T) (k0_pay36 T) (k0_pay43 K V (k0_pay38 D) (k0_pay39 T G K) (k0_pay40 T G K)) G
    = dq T G K V D := rfl
theorem dq3 : k0_pay1 (k0_pay48 T) (k0_pay49 T) (k0_pay56 K V (k0_pay51 D) (k0_pay52 T G K) (k0_pay53 T G K)) G
    = dq T G K V D := rfl

/-- The row `r` of a block. -/
abbrev row (r : Fin 512) : Fin 128 → EReal := fun d => T (ix2 r d)
/-- The gain as a function of the lane. -/
abbrev gain : Fin 128 → EReal := fun d => G (ix2 0 d)
/-- The memory's block as a function of row and lane. -/
abbrev mat (K : FVec Ideal S256x128 .bf16) : Fin 256 → Fin 128 → EReal := fun m d => K (ix2 m d)

theorem rs_at (r : Fin 512) (u : Fin 1) : k0_pay5 (F := Ideal) T (ix2 r u) = rsv (row T r) := by
  pointwise [k0_pay5, rsv, msq]
theorem that_at (r : Fin 512) (d : Fin 128) : k0_pay6 (F := Ideal) T (ix2 r d) = tht (row T r) d := by
  pointwise [k0_pay6, tht, rs_at]
theorem qn_at (r : Fin 512) (d : Fin 128) : k0_pay7 (F := Ideal) T G (ix2 r d) = qnv (row T r) (gain G) d := by
  pointwise [k0_pay7, qnv, that_at]
theorem prob_at (r : Fin 512) (m : Fin 256) : k0_pay9 (F := Ideal) T G K (ix2 r m) = prob (row T r) (gain G) (mat K) m := by
  pointwise [k0_pay9, prob, tot, ex, top, score, qn_at]
theorem dpr_at (r : Fin 512) (m : Fin 256) : k0_pay10 (F := Ideal) V D (ix2 r m) = dpr (row D r) (mat V) m := by
  pointwise [k0_pay10, k0_pay8, dpr]
theorem ds_at (r : Fin 512) (m : Fin 256) : k0_pay11 (F := Ideal) (k0_pay9 T G K) (k0_pay10 V D) (ix2 r m)
    = dsc (row T r) (gain G) (row D r) (mat K) (mat V) m := by
  pointwise [k0_pay11, dsc, prob_at, dpr_at]
theorem dqn_at (r : Fin 512) (d : Fin 128) : k0_pay12 (F := Ideal) K (k0_pay9 T G K) (k0_pay10 V D) (ix2 r d)
    = dqn (row T r) (gain G) (row D r) (mat K) (mat V) d := by
  pointwise [k0_pay12, dqn, ds_at]
theorem dth_at (r : Fin 512) (d : Fin 128) : k0_pay16 (F := Ideal) K (k0_pay9 T G K) (k0_pay10 V D) G (ix2 r d)
    = dth (row T r) (gain G) (row D r) (mat K) (mat V) d := by
  pointwise [k0_pay16, dth, dqn_at]

theorem dk_at (m : Fin 256) (d : Fin 128) : dk T G K V D old (ix2 m d)
    = old (ix2 m d) + ∑ r, dsc (row T r) (gain G) (row D r) (mat K) (mat V) m * qnv (row T r) (gain G) d := by
  pointwise [dk, k0_pay13, ds_at, qn_at]
theorem dv_at (m : Fin 256) (d : Fin 128) : dv T G K D old (ix2 m d)
    = old (ix2 m d) + ∑ r, prob (row T r) (gain G) (mat K) m * row D r d := by
  pointwise [dv, k0_pay14, k0_pay8, prob_at]
theorem dg_at (u : Fin 1) (d : Fin 128) : dg T G K V D oldg (ix2 u d)
    = oldg (ix2 u d) + ∑ r, dqn (row T r) (gain G) (row D r) (mat K) (mat V) d * tht (row T r) d := by
  pointwise [dg, k0_pay15, dqn_at, that_at]
theorem dq_at (r : Fin 512) (d : Fin 128) : dq T G K V D (ix2 r d)
    = dxq (row T r) (gain G) (row D r) (mat K) (mat V) d := by
  pointwise [dq, k0_pay19, k0_pay17, k0_pay18, dxq, rs_at, that_at, dth_at]
end

end Cert.KernelIdeal.Head
-- ==== Proof.Tiles.lean ====
/-
  A 512-row block of the kernel, four heads wide: each head's lanes, and what a block adds to each gradient.
-/
module

public import proofs.«01_k».proof.Proof.Block

@[expose] public section

set_option maxRecDepth 16384

noncomputable section

namespace Cert.KernelIdeal.Head

open Idealize.ShloMosaic Idealize.ShloMosaic.TcCoe Idealize.SL.Sem
open Cert.KernelIdeal MemGrad

/-- Lane `d` of head `h`, of 512. -/
abbrev lane (h : Fin 4) (d : Fin 128) : Fin 512 := ⟨h.val * 128 + d.val, by omega⟩
/-- The head of a cell of a block 512 lanes wide. -/
abbrev hd {M : Nat} (j : (⟨2, ![M, 512]⟩ : Shape).Idx) : Fin 4 := ⟨(j 1).val / 128, Nat.div_lt_of_lt_mul (j 1).isLt⟩
/-- The cell's lane within its head. -/
abbrev ln {M : Nat} (j : (⟨2, ![M, 512]⟩ : Shape).Idx) : Fin 128 := ⟨(j 1).val % 128, Nat.mod_lt _ (by decide)⟩
/-- Row `r` of head `h` of a block. -/
abbrev brow (X : FVec Ideal S512x512 .f32) (h : Fin 4) (r : Fin 512) : Fin 128 → EReal := fun d => X (ix2 r (lane h d))
/-- The memory of head `h`. -/
abbrev bmem (K : FVec Ideal S256x512 .bf16) (h : Fin 4) : Fin 256 → Fin 128 → EReal := fun m d => K (ix2 m (lane h d))

section
variable (X D : FVec Ideal S512x512 .f32) (K V : FVec Ideal S256x512 .bf16) (G : FVec Ideal S1x128 .f32)

/-- What a block adds to the keys' gradient. -/
def partK (h : Fin 4) (m : Fin 256) (d : Fin 128) : EReal :=
  ∑ r, dsc (brow X h r) (gain G) (brow D h r) (bmem K h) (bmem V h) m * qnv (brow X h r) (gain G) d
/-- What a block adds to the values' gradient. -/
def partV (h : Fin 4) (m : Fin 256) (d : Fin 128) : EReal :=
  ∑ r, prob (brow X h r) (gain G) (bmem K h) m * brow D h r d
/-- What one head of a block adds to the gain's gradient. -/
def partG (h : Fin 4) (d : Fin 128) : EReal :=
  ∑ r, dqn (brow X h r) (gain G) (brow D h r) (bmem K h) (bmem V h) d * tht (brow X h r) d
/-- What a block writes of the queries' gradient. -/
def partQ (h : Fin 4) (r : Fin 512) (d : Fin 128) : EReal :=
  dxq (brow X h r) (gain G) (brow D h r) (bmem K h) (bmem V h) d

variable (n : Fin 4) (T E : FVec Ideal S512x128 .f32) (Kh Vh : FVec Ideal S256x128 .bf16)
  (hT : ∀ r d, T (ix2 r d) = X (ix2 r (lane n d))) (hE : ∀ r d, E (ix2 r d) = D (ix2 r (lane n d)))
  (hK : ∀ m d, Kh (ix2 m d) = K (ix2 m (lane n d)))

/-- The cell `j` that is the cell `x` of the tile of head `n`. -/
theorem tile_cell {M : Nat} (x : (⟨2, ![M, 128]⟩ : Shape).Idx) (j : (⟨2, ![M, 512]⟩ : Shape).Idx)
    (k0 : (j 0).val = (x 0).val) (k1 : (j 1).val = n.val * 128 + (x 1).val) :
    ∃ (i : Fin M) (d : Fin 128), x = ix2 i d ∧ j = ix2 i (lane n d) := by
  refine ⟨x 0, x 1, by idx_ext, ?_⟩
  idx_ext

theorem hd_lane {M : Nat} (i : Fin M) (d : Fin 128) : hd (ix2 i (lane n d)) = n := by
  ext; show (n.val * 128 + d.val) / 128 = n.val; omega
theorem ln_lane {M : Nat} (i : Fin M) (d : Fin 128) : ln (ix2 i (lane n d)) = d := by
  ext; show (n.val * 128 + d.val) % 128 = d.val; omega

include hT hE hK
theorem dv_tile (old : FVec Ideal S256x128 .f32) (j : S256x512.Idx) (x : S256x128.Idx)
    (k0 : (j 0).val = (x 0).val) (k1 : (j 1).val = n.val * 128 + (x 1).val) :
    dv T G Kh E old x = old x + partV X D K G (hd j) (j 0) (ln j) := by
  obtain ⟨i, d, rfl, rfl⟩ := tile_cell n x j k0 k1
  rw [hd_lane, ln_lane]
  show _ = _ + partV X D K G n i d
  have e1 : ∀ r, row T r = brow X n r := fun r => funext (hT r)
  have e2 : ∀ r, row E r = brow D n r := fun r => funext (hE r)
  have e3 : mat Kh = bmem K n := funext fun m => funext (hK m)
  rw [dv_at, partV, ← e3]; simp only [← e1]
  refine congrArg _ (Finset.sum_congr rfl fun r _ => ?_)
  rw [e2]

variable (hV : ∀ m d, Vh (ix2 m d) = V (ix2 m (lane n d)))
include hV
theorem dk_tile (old : FVec Ideal S256x128 .f32) (j : S256x512.Idx) (x : S256x128.Idx)
    (k0 : (j 0).val = (x 0).val) (k1 : (j 1).val = n.val * 128 + (x 1).val) :
    dk T G Kh Vh E old x = old x + partK X D K V G (hd j) (j 0) (ln j) := by
  obtain ⟨i, d, rfl, rfl⟩ := tile_cell n x j k0 k1
  rw [hd_lane, ln_lane]
  show _ = _ + partK X D K V G n i d
  have e1 : ∀ r, row T r = brow X n r := fun r => funext (hT r)
  have e2 : ∀ r, row E r = brow D n r := fun r => funext (hE r)
  have e3 : mat Kh = bmem K n := funext fun m => funext (hK m)
  have e4 : mat Vh = bmem V n := funext fun m => funext (hV m)
  rw [dk_at, partK, ← e3, ← e4]; simp only [← e1, ← e2]
theorem dg_tile (old : FVec Ideal S1x128 .f32) (u : Fin 1) (d : Fin 128) :
    dg T G Kh Vh E old (ix2 u d) = old (ix2 u d) + partG X D K V G n d := by
  have e1 : ∀ r, row T r = brow X n r := fun r => funext (hT r)
  have e2 : ∀ r, row E r = brow D n r := fun r => funext (hE r)
  have e3 : mat Kh = bmem K n := funext fun m => funext (hK m)
  have e4 : mat Vh = bmem V n := funext fun m => funext (hV m)
  rw [dg_at, partG, ← e3, ← e4]; simp only [← e1, ← e2]
theorem dq_tile (j : S512x512.Idx) (x : S512x128.Idx)
    (k0 : (j 0).val = (x 0).val) (k1 : (j 1).val = n.val * 128 + (x 1).val) :
    dq T G Kh Vh E x = partQ X D K V G (hd j) (j 0) (ln j) := by
  obtain ⟨i, d, rfl, rfl⟩ := tile_cell n x j k0 k1
  rw [hd_lane, ln_lane]
  show _ = partQ X D K V G n i d
  have e1 : ∀ r, row T r = brow X n r := fun r => funext (hT r)
  have e2 : ∀ r, row E r = brow D n r := fun r => funext (hE r)
  have e3 : mat Kh = bmem K n := funext fun m => funext (hK m)
  have e4 : mat Vh = bmem V n := funext fun m => funext (hV m)
  rw [dq_at, partQ, ← e3, ← e4, ← e1, ← e2]
end

end Cert.KernelIdeal.Head
-- ==== Proof.Points.lean ====
/-
  The kernel's blocks after a grid point: the queries' gradient of its 512 rows, and the three sums carried from point to point.
-/
module

public import proofs.«01_k».proof.Proof.Tiles
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Points

open Idealize.ShloMosaic Idealize.ShloMosaic.TcCoe Idealize.SL.Sem
open Idealize.ShloMosaic.Pipeline (Dat)
open Cert.KernelIdeal Cert.KernelIdeal.Gen Cert.KernelIdeal.Head

variable (m : (ℓ : Loc nD τ sig) → Buf (Elt Ideal) ℓ)

/-- The queries' gradient that a point writes. -/
theorem q_A (c : Dev nD) (t : Fin cfg0.N) (h0 : t.val % 8 = 0) (j : S512x512.Idx) :
    ((outsAt0 m c t.val t.isLt).1 : FVec Ideal S512x512 .bf16) j
      = partQ (iblk m c 0 t) (iblk m c 4 t) (iblk m c 1 t) (iblk m c 2 t) (iblk m c 3 t) (hd j) (j 0) (ln j) := by
  rw [outsAt0_A m c t h0]
  frame_out
  canon_tiles x k
  · rw [dq3]; exact dq_tile (iblk m c 0 t) (iblk m c 4 t) (iblk m c 1 t) (iblk m c 2 t) _ 3 _ _ _ _ (fun r d => by pointwise; rfl) (fun r d => by pointwise; rfl) (fun r d => by pointwise; rfl) (fun r d => by pointwise; rfl) j x k0 k1
  · rw [dq2]; exact dq_tile (iblk m c 0 t) (iblk m c 4 t) (iblk m c 1 t) (iblk m c 2 t) _ 2 _ _ _ _ (fun r d => by pointwise; rfl) (fun r d => by pointwise; rfl) (fun r d => by pointwise; rfl) (fun r d => by pointwise; rfl) j x k0 k1
  · rw [dq1]; exact dq_tile (iblk m c 0 t) (iblk m c 4 t) (iblk m c 1 t) (iblk m c 2 t) _ 1 _ _ _ _ (fun r d => by pointwise; rfl) (fun r d => by pointwise; rfl) (fun r d => by pointwise; rfl) (fun r d => by pointwise; rfl) j x k0 k1
  · rw [dq0]; exact dq_tile (iblk m c 0 t) (iblk m c 4 t) (iblk m c 1 t) (iblk m c 2 t) _ 0 _ _ _ _ (fun r d => by pointwise; blk_ext) (fun r d => by pointwise; blk_ext) (fun r d => by pointwise; blk_ext) (fun r d => by pointwise; blk_ext) j x k0 (k1.trans (by simp))

/-- The queries' gradient that a point writes. -/
theorem q_B (c : Dev nD) (t : Fin cfg0.N) (h0 : ¬ t.val % 8 = 0) (j : S512x512.Idx) :
    ((outsAt0 m c t.val t.isLt).1 : FVec Ideal S512x512 .bf16) j
      = partQ (iblk m c 0 t) (iblk m c 4 t) (iblk m c 1 t) (iblk m c 2 t) (iblk m c 3 t) (hd j) (j 0) (ln j) := by
  rw [outsAt0_B m c t h0]
  frame_out
  canon_tiles x k
  · rw [dq3]; exact dq_tile (iblk m c 0 t) (iblk m c 4 t) (iblk m c 1 t) (iblk m c 2 t) _ 3 _ _ _ _ (fun r d => by pointwise; rfl) (fun r d => by pointwise; rfl) (fun r d => by pointwise; rfl) (fun r d => by pointwise; rfl) j x k0 k1
  · rw [dq2]; exact dq_tile (iblk m c 0 t) (iblk m c 4 t) (iblk m c 1 t) (iblk m c 2 t) _ 2 _ _ _ _ (fun r d => by pointwise; rfl) (fun r d => by pointwise; rfl) (fun r d => by pointwise; rfl) (fun r d => by pointwise; rfl) j x k0 k1
  · rw [dq1]; exact dq_tile (iblk m c 0 t) (iblk m c 4 t) (iblk m c 1 t) (iblk m c 2 t) _ 1 _ _ _ _ (fun r d => by pointwise; rfl) (fun r d => by pointwise; rfl) (fun r d => by pointwise; rfl) (fun r d => by pointwise; rfl) j x k0 k1
  · rw [dq0]; exact dq_tile (iblk m c 0 t) (iblk m c 4 t) (iblk m c 1 t) (iblk m c 2 t) _ 0 _ _ _ _ (fun r d => by pointwise; blk_ext) (fun r d => by pointwise; blk_ext) (fun r d => by pointwise; blk_ext) (fun r d => by pointwise; blk_ext) j x k0 (k1.trans (by simp))

/-- The keys' gradient after a point that is not the first: the point adds its rows'. -/
theorem k_B (c : Dev nD) (t : Fin cfg0.N) (h0 : ¬ t.val % 8 = 0) (j : S256x512.Idx) :
    ((outsAt0 m c t.val t.isLt).2.1 : FVec Ideal S256x512 .f32) j
      = ((outsAt0 m c (t.val - 1) (Nat.lt_of_le_of_lt (Nat.sub_le _ _) t.isLt)).2.1 : FVec Ideal S256x512 .f32) j
        + partK (iblk m c 0 t) (iblk m c 4 t) (iblk m c 1 t) (iblk m c 2 t) (iblk m c 3 t) (hd j) (j 0) (ln j) := by
  rw [outsAt0_B m c t h0]
  frame_out
  canon_tiles x k
  · rw [dk3]
    refine (dk_tile (iblk m c 0 t) (iblk m c 4 t) (iblk m c 1 t) (iblk m c 2 t) _ 3 _ _ _ _ (fun r d => by pointwise; rfl) (fun r d => by pointwise; rfl) (fun r d => by pointwise; rfl) (fun r d => by pointwise; rfl) _ j x k0 k1).trans (congrArg (· + _) ?_)
    pointwise; blk_ext
  · rw [dk2]
    refine (dk_tile (iblk m c 0 t) (iblk m c 4 t) (iblk m c 1 t) (iblk m c 2 t) _ 2 _ _ _ _ (fun r d => by pointwise; rfl) (fun r d => by pointwise; rfl) (fun r d => by pointwise; rfl) (fun r d => by pointwise; rfl) _ j x k0 k1).trans (congrArg (· + _) ?_)
    pointwise; blk_ext
  · rw [dk1]
    refine (dk_tile (iblk m c 0 t) (iblk m c 4 t) (iblk m c 1 t) (iblk m c 2 t) _ 1 _ _ _ _ (fun r d => by pointwise; rfl) (fun r d => by pointwise; rfl) (fun r d => by pointwise; rfl) (fun r d => by pointwise; rfl) _ j x k0 k1).trans (congrArg (· + _) ?_)
    pointwise; blk_ext
  · rw [dk0]
    refine (dk_tile (iblk m c 0 t) (iblk m c 4 t) (iblk m c 1 t) (iblk m c 2 t) _ 0 _ _ _ _ (fun r d => by pointwise; blk_ext) (fun r d => by pointwise; blk_ext) (fun r d => by pointwise; blk_ext) (fun r d => by pointwise; blk_ext) _ j x k0 (k1.trans (by simp))).trans (congrArg (· + _) ?_)
    pointwise; blk_ext

/-- The keys' gradient after the first point: its rows'. -/
theorem k_A (c : Dev nD) (t : Fin cfg0.N) (h0 : t.val % 8 = 0) (j : S256x512.Idx) :
    ((outsAt0 m c t.val t.isLt).2.1 : FVec Ideal S256x512 .f32) j = 0 + partK (iblk m c 0 t) (iblk m c 4 t) (iblk m c 1 t) (iblk m c 2 t) (iblk m c 3 t) (hd j) (j 0) (ln j) := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (s := S256x512)
    (fun j : S256x512.Idx => (0 : EReal) + partK (iblk m c 0 t) (iblk m c 4 t) (iblk m c 1 t) (iblk m c 2 t) (iblk m c 3 t) (hd j) (j 0) (ln j)) [_] [_, _, _, _]
    ⟨fun x => ?_, fun x => ?_, fun x => ?_, fun x => ?_, trivial⟩ j (View.cover_of_tiledL _ ![256, 128] (by sl_kernel_rfl) j)
  · rw [dk3]
    refine (dk_tile (iblk m c 0 t) (iblk m c 4 t) (iblk m c 1 t) (iblk m c 2 t) _ 3 _ _ _ _ (fun r d => by pointwise; rfl) (fun r d => by pointwise; rfl) (fun r d => by pointwise; rfl) (fun r d => by pointwise; rfl) _ _ x ?_ ?_).trans (congrArg (· + _) ?_)
    · show 0 + 1 * (x 0).val = (x 0).val; omega
    · show 384 + 1 * (x 1).val = 384 + (x 1).val; omega
    · pointwise [k0_pay2]
  · rw [dk2]
    refine (dk_tile (iblk m c 0 t) (iblk m c 4 t) (iblk m c 1 t) (iblk m c 2 t) _ 2 _ _ _ _ (fun r d => by pointwise; rfl) (fun r d => by pointwise; rfl) (fun r d => by pointwise; rfl) (fun r d => by pointwise; rfl) _ _ x ?_ ?_).trans (congrArg (· + _) ?_)
    · show 0 + 1 * (x 0).val = (x 0).val; omega
    · show 256 + 1 * (x 1).val = 256 + (x 1).val; omega
    · pointwise [k0_pay2]
  · rw [dk1]
    refine (dk_tile (iblk m c 0 t) (iblk m c 4 t) (iblk m c 1 t) (iblk m c 2 t) _ 1 _ _ _ _ (fun r d => by pointwise; rfl) (fun r d => by pointwise; rfl) (fun r d => by pointwise; rfl) (fun r d => by pointwise; rfl) _ _ x ?_ ?_).trans (congrArg (· + _) ?_)
    · show 0 + 1 * (x 0).val = (x 0).val; omega
    · show 128 + 1 * (x 1).val = 128 + (x 1).val; omega
    · pointwise [k0_pay2]
  · rw [dk0]
    refine (dk_tile (iblk m c 0 t) (iblk m c 4 t) (iblk m c 1 t) (iblk m c 2 t) _ 0 _ _ _ _ (fun r d => by pointwise; blk_ext) (fun r d => by pointwise; blk_ext) (fun r d => by pointwise; blk_ext) (fun r d => by pointwise; blk_ext) _ _ x ?_ ?_).trans (congrArg (· + _) ?_)
    · show 0 + 1 * (x 0).val = (x 0).val; omega
    · show 0 + 1 * (x 1).val = 0 * 128 + (x 1).val; omega
    · pointwise [k0_pay2]

/-- The values' gradient after a point that is not the first: the point adds its rows'. -/
theorem v_B (c : Dev nD) (t : Fin cfg0.N) (h0 : ¬ t.val % 8 = 0) (j : S256x512.Idx) :
    ((outsAt0 m c t.val t.isLt).2.2.1 : FVec Ideal S256x512 .f32) j
      = ((outsAt0 m c (t.val - 1) (Nat.lt_of_le_of_lt (Nat.sub_le _ _) t.isLt)).2.2.1 : FVec Ideal S256x512 .f32) j
        + partV (iblk m c 0 t) (iblk m c 4 t) (iblk m c 1 t) (iblk m c 3 t) (hd j) (j 0) (ln j) := by
  rw [outsAt0_B m c t h0]
  frame_out
  canon_tiles x k
  · rw [dv3]
    refine (dv_tile (iblk m c 0 t) (iblk m c 4 t) (iblk m c 1 t) _ 3 _ _ _ (fun r d => by pointwise; rfl) (fun r d => by pointwise; rfl) (fun r d => by pointwise; rfl) _ j x k0 k1).trans (congrArg (· + _) ?_)
    pointwise; blk_ext
  · rw [dv2]
    refine (dv_tile (iblk m c 0 t) (iblk m c 4 t) (iblk m c 1 t) _ 2 _ _ _ (fun r d => by pointwise; rfl) (fun r d => by pointwise; rfl) (fun r d => by pointwise; rfl) _ j x k0 k1).trans (congrArg (· + _) ?_)
    pointwise; blk_ext
  · rw [dv1]
    refine (dv_tile (iblk m c 0 t) (iblk m c 4 t) (iblk m c 1 t) _ 1 _ _ _ (fun r d => by pointwise; rfl) (fun r d => by pointwise; rfl) (fun r d => by pointwise; rfl) _ j x k0 k1).trans (congrArg (· + _) ?_)
    pointwise; blk_ext
  · rw [dv0]
    refine (dv_tile (iblk m c 0 t) (iblk m c 4 t) (iblk m c 1 t) _ 0 _ _ _ (fun r d => by pointwise; blk_ext) (fun r d => by pointwise; blk_ext) (fun r d => by pointwise; blk_ext) _ j x k0 (k1.trans (by simp))).trans (congrArg (· + _) ?_)
    pointwise; blk_ext

/-- The values' gradient after the first point: its rows'. -/
theorem v_A (c : Dev nD) (t : Fin cfg0.N) (h0 : t.val % 8 = 0) (j : S256x512.Idx) :
    ((outsAt0 m c t.val t.isLt).2.2.1 : FVec Ideal S256x512 .f32) j = 0 + partV (iblk m c 0 t) (iblk m c 4 t) (iblk m c 1 t) (iblk m c 3 t) (hd j) (j 0) (ln j) := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (s := S256x512)
    (fun j : S256x512.Idx => (0 : EReal) + partV (iblk m c 0 t) (iblk m c 4 t) (iblk m c 1 t) (iblk m c 3 t) (hd j) (j 0) (ln j)) [_] [_, _, _, _]
    ⟨fun x => ?_, fun x => ?_, fun x => ?_, fun x => ?_, trivial⟩ j (View.cover_of_tiledL _ ![256, 128] (by sl_kernel_rfl) j)
  · rw [dv3]
    refine (dv_tile (iblk m c 0 t) (iblk m c 4 t) (iblk m c 1 t) _ 3 _ _ _ (fun r d => by pointwise; rfl) (fun r d => by pointwise; rfl) (fun r d => by pointwise; rfl) _ _ x ?_ ?_).trans (congrArg (· + _) ?_)
    · show 0 + 1 * (x 0).val = (x 0).val; omega
    · show 384 + 1 * (x 1).val = 384 + (x 1).val; omega
    · pointwise [k0_pay3]
  · rw [dv2]
    refine (dv_tile (iblk m c 0 t) (iblk m c 4 t) (iblk m c 1 t) _ 2 _ _ _ (fun r d => by pointwise; rfl) (fun r d => by pointwise; rfl) (fun r d => by pointwise; rfl) _ _ x ?_ ?_).trans (congrArg (· + _) ?_)
    · show 0 + 1 * (x 0).val = (x 0).val; omega
    · show 256 + 1 * (x 1).val = 256 + (x 1).val; omega
    · pointwise [k0_pay3]
  · rw [dv1]
    refine (dv_tile (iblk m c 0 t) (iblk m c 4 t) (iblk m c 1 t) _ 1 _ _ _ (fun r d => by pointwise; rfl) (fun r d => by pointwise; rfl) (fun r d => by pointwise; rfl) _ _ x ?_ ?_).trans (congrArg (· + _) ?_)
    · show 0 + 1 * (x 0).val = (x 0).val; omega
    · show 128 + 1 * (x 1).val = 128 + (x 1).val; omega
    · pointwise [k0_pay3]
  · rw [dv0]
    refine (dv_tile (iblk m c 0 t) (iblk m c 4 t) (iblk m c 1 t) _ 0 _ _ _ (fun r d => by pointwise; blk_ext) (fun r d => by pointwise; blk_ext) (fun r d => by pointwise; blk_ext) _ _ x ?_ ?_).trans (congrArg (· + _) ?_)
    · show 0 + 1 * (x 0).val = (x 0).val; omega
    · show 0 + 1 * (x 1).val = 0 * 128 + (x 1).val; omega
    · pointwise [k0_pay3]

/-- The gain's gradient after a point: the point adds its four heads'. -/
theorem g_A (c : Dev nD) (t : Fin cfg0.N) (h0 : t.val % 8 = 0) (j : S1x128.Idx) :
    ((outsAt0 m c t.val t.isLt).2.2.2 : FVec Ideal S1x128 .f32) j
      = 0
        + ∑ h : Fin 4, partG (iblk m c 0 t) (iblk m c 4 t) (iblk m c 1 t) (iblk m c 2 t) (iblk m c 3 t) h (j 1) := by
  rw [outsAt0_A m c t h0]
  frame_open
  simp (disch := decide) only [↓ View.readCov_skip, ↓ View.readCov_cons_toLoadRect, ↓ View.readCov_fill]
  frame_out
  obtain ⟨u, d, rfl⟩ : ∃ (u : Fin 1) (d : Fin 128), j = ix2 u d := ⟨j 0, j 1, by idx_ext⟩
  rw [dg3, dg2, dg1, dg0]
  refine (dg_tile (iblk m c 0 t) (iblk m c 4 t) (iblk m c 1 t) (iblk m c 2 t) _ 3 _ _ _ _ (fun r d => by pointwise; rfl) (fun r d => by pointwise; rfl) (fun r d => by pointwise; rfl) (fun r d => by pointwise; rfl) _ u d).trans ?_
  rw [dg_tile (iblk m c 0 t) (iblk m c 4 t) (iblk m c 1 t) (iblk m c 2 t) _ 2 _ _ _ _ (fun r d => by pointwise; rfl) (fun r d => by pointwise; rfl) (fun r d => by pointwise; rfl) (fun r d => by pointwise; rfl) _ u d,
    dg_tile (iblk m c 0 t) (iblk m c 4 t) (iblk m c 1 t) (iblk m c 2 t) _ 1 _ _ _ _ (fun r d => by pointwise; rfl) (fun r d => by pointwise; rfl) (fun r d => by pointwise; rfl) (fun r d => by pointwise; rfl) _ u d,
    dg_tile (iblk m c 0 t) (iblk m c 4 t) (iblk m c 1 t) (iblk m c 2 t) _ 0 _ _ _ _ (fun r d => by pointwise; blk_ext) (fun r d => by pointwise; blk_ext) (fun r d => by pointwise; blk_ext) (fun r d => by pointwise; blk_ext) _ u d, Fin.sum_univ_four]
  have hz : k0_pay4 (F := Ideal) (ix2 u d) = 0 := by pointwise [k0_pay4]
  rw [hz]; simp only [← add_assoc]; rfl

/-- The gain's gradient after a point: the point adds its four heads'. -/
theorem g_B (c : Dev nD) (t : Fin cfg0.N) (h0 : ¬ t.val % 8 = 0) (j : S1x128.Idx) :
    ((outsAt0 m c t.val t.isLt).2.2.2 : FVec Ideal S1x128 .f32) j
      = ((outsAt0 m c (t.val - 1) (Nat.lt_of_le_of_lt (Nat.sub_le _ _) t.isLt)).2.2.2 : FVec Ideal S1x128 .f32) j
        + ∑ h : Fin 4, partG (iblk m c 0 t) (iblk m c 4 t) (iblk m c 1 t) (iblk m c 2 t) (iblk m c 3 t) h (j 1) := by
  rw [outsAt0_B m c t h0]
  frame_open
  simp (disch := decide) only [↓ View.readCov_skip, ↓ View.readCov_cons_toLoadRect, ↓ View.readCov_fill]
  frame_out
  obtain ⟨u, d, rfl⟩ : ∃ (u : Fin 1) (d : Fin 128), j = ix2 u d := ⟨j 0, j 1, by idx_ext⟩
  rw [dg3, dg2, dg1, dg0]
  refine (dg_tile (iblk m c 0 t) (iblk m c 4 t) (iblk m c 1 t) (iblk m c 2 t) _ 3 _ _ _ _ (fun r d => by pointwise; rfl) (fun r d => by pointwise; rfl) (fun r d => by pointwise; rfl) (fun r d => by pointwise; rfl) _ u d).trans ?_
  rw [dg_tile (iblk m c 0 t) (iblk m c 4 t) (iblk m c 1 t) (iblk m c 2 t) _ 2 _ _ _ _ (fun r d => by pointwise; rfl) (fun r d => by pointwise; rfl) (fun r d => by pointwise; rfl) (fun r d => by pointwise; rfl) _ u d,
    dg_tile (iblk m c 0 t) (iblk m c 4 t) (iblk m c 1 t) (iblk m c 2 t) _ 1 _ _ _ _ (fun r d => by pointwise; rfl) (fun r d => by pointwise; rfl) (fun r d => by pointwise; rfl) (fun r d => by pointwise; rfl) _ u d,
    dg_tile (iblk m c 0 t) (iblk m c 4 t) (iblk m c 1 t) (iblk m c 2 t) _ 0 _ _ _ _ (fun r d => by pointwise; blk_ext) (fun r d => by pointwise; blk_ext) (fun r d => by pointwise; blk_ext) (fun r d => by pointwise; blk_ext) _ u d, Fin.sum_univ_four]
  simp only [← add_assoc]; rfl

end Cert.KernelIdeal.Points
-- ==== Proof.RefRows.lean ====
/-
  What the reference computes: each of its arrays, read at an index, is a row function of `Row.lean`.
-/
module

public import proofs.«01_k».proof.Proof.Gen.ReferenceIdeal.Read
public import proofs.«01_k».proof.Proof.Row

@[expose] public section

set_option maxRecDepth 16384

noncomputable section

namespace Cert.ReferenceIdeal.Rows

open Idealize.ShloMosaic Idealize.ShloMosaic.TcCoe Idealize.SL.Sem
open Cert.ReferenceIdeal Cert.ReferenceIdeal.Read MemGrad

/-- The row of head `h` of token `s`, among the columns that hold the memory attention's queries. -/
abbrev tok (x0 : FVec Ideal S4096x3584 .f32) (h : Fin 4) (s : Fin 4096) : Fin 128 → EReal :=
  fun d => x0 (ix2 s ⟨3072 + (h.val * 128 + d.val), by omega⟩)
/-- The memory of head `h`. -/
abbrev mem (x : FVec Ideal S256x512 .bf16) (h : Fin 4) : Fin 256 → Fin 128 → EReal :=
  fun m d => x (ix2 m ⟨h.val * 128 + d.val, by omega⟩)
/-- The cotangent of head `h` of token `s`. -/
abbrev cot (x4 : FVec Ideal S4096x512 .f32) (h : Fin 4) (s : Fin 4096) : Fin 128 → EReal :=
  fun d => x4 (ix2 s ⟨h.val * 128 + d.val, by omega⟩)
/-- The gain of the queries. -/
abbrev gain (x3 : FVec Ideal S1x128 .f32) : Fin 128 → EReal := fun d => x3 (ix2 0 d)

section
variable (x0 : FVec Ideal S4096x3584 .f32) (x1 x2 : FVec Ideal S256x512 .bf16) (x3 : FVec Ideal S1x128 .f32)
  (x4 : FVec Ideal S4096x512 .f32)

theorem x_at (s : Fin 4096) (h : Fin 4) (d : Fin 128) :
    val_main_v3 (F := Ideal) x0 (ix3 s h d) = tok x0 h s d := by
  pointwise [val_main_v3, val_main_v0]
theorem msq_at (s : Fin 4096) (h : Fin 4) (u : Fin 1) :
    val_main_v11 (F := Ideal) x0 (ix3 s h u) = msq (tok x0 h s) := by
  pointwise [val_main_v11, val_main_v9, val_main_v10, val_main_v8, val_main_v7, val_main_v6, val_main_v5, val_main_cst,
    val_main_cst_0, val_main_cst_1, x_at, msq]
theorem rs_at (s : Fin 4096) (h : Fin 4) (u : Fin 1) :
    val_main_v12 (F := Ideal) x0 (ix3 s h u) = rsv (tok x0 h s) := by
  pointwise [val_main_v12, msq_at, rsv]
theorem that_at (s : Fin 4096) (h : Fin 4) (d : Fin 128) :
    val_main_v17 (F := Ideal) x0 (ix3 s h d) = tht (tok x0 h s) d := by
  pointwise [val_main_v17, val_main_v16, x_at, rs_at, tht]
theorem gain_at (s : Fin 4096) (h : Fin 4) (d : Fin 128) :
    val_main_v19 (F := Ideal) x3 (ix3 s h d) = gain x3 d := by
  pointwise [val_main_v19, val_main_v18, val_main_v4]
theorem qn_at (s : Fin 4096) (h : Fin 4) (d : Fin 128) :
    val_main_v20 (F := Ideal) x0 x3 (ix3 s h d) = qnv (tok x0 h s) (gain x3) d := by
  pointwise [val_main_v20, that_at, gain_at, qnv]
theorem key_at (m : Fin 256) (h : Fin 4) (d : Fin 128) :
    val_main_v21 (F := Ideal) x1 (ix3 m h d) = mem x1 h m d := by
  pointwise [val_main_v21, val_main_v1]
theorem val_at (m : Fin 256) (h : Fin 4) (d : Fin 128) :
    val_main_v53 (F := Ideal) x2 (ix3 m h d) = mem x2 h m d := by
  pointwise [val_main_v53, val_main_v2]
theorem score_at (h : Fin 4) (s : Fin 4096) (m : Fin 256) :
    val_main_v24 (F := Ideal) x0 x1 x3 (ix3 h s m) = score (tok x0 h s) (gain x3) (mem x1 h) m := by
  pointwise [val_main_v24, val_main_v22, val_main_v23, val_main_cst_3, qn_at, key_at, score]
/-- A maximum over the last axis, of any array. -/
theorem max_at (hr : S4x4096x256.ReducesTo [2] S4x4096) (h0 : 0 < S_.numel) (X : FVec Ideal S4x4096x256 .f32)
    (h : Fin 4) (s : Fin 4096) :
    Host.reduce FloatOps.maximumf X (val_main_cst_4 (F := Ideal)) hr h0 (ix2 h s)
      = Finset.univ.fold max low (fun m : Fin 256 => X (ix3 h s m)) := by
  pointwise [val_main_cst_4]
theorem max_of (Y : FVec Ideal S4x4096x256 .f32) (hY : val_main_v24 (F := Ideal) x0 x1 x3 = Y) (h : Fin 4)
    (s : Fin 4096) :
    val_main_v25 (F := Ideal) x0 x1 x3 (ix2 h s) = Finset.univ.fold max low (fun m : Fin 256 => Y (ix3 h s m)) := by
  rw [val_main_v25, hY]
  exact max_at _ _ Y h s
theorem low_at (h : Fin 4) (s : Fin 4096) : val_main_v31 (F := Ideal) (ix2 h s) = ⊥ := by
  pointwise [val_main_v31, val_main_cst_6]
  exact low_eq
theorem max_read (a b : FVec Ideal S4x4096 .f32) (i : S4x4096.Idx) : maximumf a b i = max (a i) (b i) := rfl
theorem fold_at (Y : FVec Ideal S4x4096x256 .f32) (f : Fin 256 → EReal) (h : Fin 4) (s : Fin 4096)
    (hY : ∀ m, Y (ix3 h s m) = f m) :
    Finset.univ.fold max low (fun m : Fin 256 => Y (ix3 h s m)) = Finset.univ.fold max low f := by
  rw [show (fun m : Fin 256 => Y (ix3 h s m)) = f from funext hY]
theorem top_of (h : Fin 4) (s : Fin 4096) :
    val_main_v25 (F := Ideal) x0 x1 x3 (ix2 h s) = MemGrad.top (tok x0 h s) (gain x3) (mem x1 h) :=
  (max_of x0 x1 x3 _ rfl h s).trans (fold_at _ _ h s fun m => score_at x0 x1 x3 h s m)
theorem top_at (h : Fin 4) (s : Fin 4096) :
    val_main_v32 (F := Ideal) x0 x1 x3 (ix2 h s) = MemGrad.top (tok x0 h s) (gain x3) (mem x1 h) := by
  rw [val_main_v32, max_read, low_at, top_of]
  exact max_eq_right bot_le
theorem ex_at (h : Fin 4) (s : Fin 4096) (m : Fin 256) :
    val_main_v45 (F := Ideal) x0 x1 x3 (ix3 h s m) = ex (tok x0 h s) (gain x3) (mem x1 h) m := by
  pointwise [val_main_v45, val_main_v44, val_main_v43, val_main_v42, score_at, top_at, ex]
theorem tot_at (h : Fin 4) (s : Fin 4096) (u : Fin 1) :
    val_main_v47 (F := Ideal) x0 x1 x3 (ix3 h s u) = tot (tok x0 h s) (gain x3) (mem x1 h) := by
  pointwise [val_main_v47, val_main_v46, val_main_cst_12, ex_at, tot]
theorem cot_at (h : Fin 4) (d : Fin 128) (s : Fin 4096) :
    val_main_v58 (F := Ideal) x4 (ix3 h d s) = cot x4 h s d := by
  pointwise [val_main_v58, val_main_v57]
theorem dpr_at (h : Fin 4) (s : Fin 4096) (m : Fin 256) :
    val_main_v59 (F := Ideal) x2 x4 (ix3 h s m) = dpr (cot x4 h s) (mem x2 h) m := by
  pointwise [val_main_v59, cot_at, val_at, dpr]
theorem ds_at (h : Fin 4) (s : Fin 4096) (m : Fin 256) :
    val_main_v76 (F := Ideal) x0 x1 x2 x3 x4 (ix3 h s m)
      = dscRef (tok x0 h s) (gain x3) (cot x4 h s) (mem x1 h) (mem x2 h) m := by
  pointwise [val_main_v76, val_main_v75, val_main_v74, val_main_v73, val_main_v72, val_main_v71, val_main_v70,
    val_main_v69, val_main_v68, val_main_v67, val_main_v66, val_main_v65, val_main_v64, val_main_v63, val_main_v52,
    val_main_v51, val_main_v50, val_main_cst_13, val_main_cst_14, val_main_cst_15, val_main_cst_16,
    ex_at, tot_at, dpr_at, dscRef]
  rw [Fin.sum_univ_one]
end

end Cert.ReferenceIdeal.Rows
-- ==== Proof.RefGrads.lean ====
/-
  What the reference returns: the four gradients, read at an index, as sums of row functions of `Row.lean`.
-/
module

public import proofs.«01_k».proof.Proof.RefRows

@[expose] public section

set_option maxRecDepth 16384

noncomputable section

namespace Cert.ReferenceIdeal.Rows

open Idealize.ShloMosaic Idealize.ShloMosaic.TcCoe Idealize.SL.Sem
open Cert.ReferenceIdeal Cert.ReferenceIdeal.Read MemGrad

/-- A sum over the two leading axes of a rank three array, read at an index of the last. -/
theorem sum_lead {n0 n1 n2 : Nat} (hr : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd hr v init (ix1 d) = init + ∑ a : Fin n0, ∑ b : Fin n1, v (ix3 a b d) := by
  unfold Ideal.hostReduceAdd
  refine congrArg (init + ·) ?_
  refine (Finset.sum_filter_eq_sum_of_fiber _ (fun k : Fin n0 × Fin n1 => ix3 k.1 k.2 d)
    (fun _ _ e => Prod.ext (congrFun e 0) (congrFun e 1)) (fun i => ?_) v).trans (Fintype.sum_prod_type _)
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- Every entry of the keys is a number. -/
abbrev RealKeys (x1 : FVec Ideal S256x512 .bf16) : Prop := ∀ i, ∃ y : ℝ, x1 i = (y : EReal)
/-- Every entry of the gain is a number. -/
abbrev RealGain (x3 : FVec Ideal S1x128 .f32) : Prop := ∀ i, ∃ y : ℝ, x3 i = (y : EReal)

section
variable (x0 : FVec Ideal S4096x3584 .f32) (x1 x2 : FVec Ideal S256x512 .bf16) (x3 : FVec Ideal S1x128 .f32)
  (x4 : FVec Ideal S4096x512 .f32) (hk : RealKeys x1) (hg : RealGain x3)
include hk hg

theorem dsc_at (h : Fin 4) (s : Fin 4096) (m : Fin 256) :
    val_main_v76 (F := Ideal) x0 x1 x2 x3 x4 (ix3 h s m)
      = dsc (tok x0 h s) (gain x3) (cot x4 h s) (mem x1 h) (mem x2 h) m :=
  (ds_at x0 x1 x2 x3 x4 h s m).trans (dscRef_eq (fun _ => hg _) (fun _ _ => hk _) m)
theorem prob_at (h : Fin 4) (s : Fin 4096) (m : Fin 256) :
    val_main_v49 (F := Ideal) x0 x1 x3 (ix3 h s m) = prob (tok x0 h s) (gain x3) (mem x1 h) m := by
  pointwise [val_main_v49, val_main_v48, ex_at, tot_at]
  exact prob_eq (fun _ => hg _) (fun _ _ => hk _) m
theorem dqn_at (s : Fin 4096) (h : Fin 4) (d : Fin 128) :
    val_main_v80 (F := Ideal) x0 x1 x2 x3 x4 (ix3 s h d)
      = dqn (tok x0 h s) (gain x3) (cot x4 h s) (mem x1 h) (mem x2 h) d := by
  pointwise [val_main_v80, val_main_v79, dsc_at x0 x1 x2 x3 x4 hk hg, key_at, dqn]
theorem dth_at (s : Fin 4096) (h : Fin 4) (d : Fin 128) :
    val_main_v86 (F := Ideal) x0 x1 x2 x3 x4 (ix3 s h d)
      = dth (tok x0 h s) (gain x3) (cot x4 h s) (mem x1 h) (mem x2 h) d := by
  pointwise [val_main_v86, val_main_v85, val_main_v18, val_main_v4, dqn_at x0 x1 x2 x3 x4 hk hg, dth]
theorem slope_at (s : Fin 4096) (h : Fin 4) :
    val_main_v96 (F := Ideal) x0 x1 x2 x3 x4 (ix2 s h)
      = slope (tok x0 h s) (dth (tok x0 h s) (gain x3) (cot x4 h s) (mem x1 h) (mem x2 h)) := by
  pointwise [val_main_v96, val_main_v95, val_main_v94, val_main_v93, val_main_v90, val_main_v89, val_main_v88,
    val_main_v15, val_main_v14, val_main_v13, val_main_cst_2, val_main_cst_19, val_main_cst_20, val_main_cst_21,
    dth_at x0 x1 x2 x3 x4 hk hg, x_at, msq_at, rs_at, MemGrad.slope]
  rw [Fin.sum_univ_one]
theorem dq_at (s : Fin 4096) (h : Fin 4) (d : Fin 128) :
    val_main_v101 (F := Ideal) x0 x1 x2 x3 x4 (ix3 s h d)
      = dxq (tok x0 h s) (gain x3) (cot x4 h s) (mem x1 h) (mem x2 h) d := by
  refine Eq.trans ?_ (dxqRef_eq (tok x0 h s) (dth (tok x0 h s) (gain x3) (cot x4 h s) (mem x1 h) (mem x2 h)) d)
  pointwise [val_main_v101, val_main_v100, val_main_v99, val_main_v98, val_main_v97, val_main_v92, val_main_v91,
    dth_at x0 x1 x2 x3 x4 hk hg, slope_at x0 x1 x2 x3 x4 hk hg, x_at, rs_at, dxqRef]
theorem dk_at (m : Fin 256) (h : Fin 4) (d : Fin 128) :
    val_main_v78 (F := Ideal) x0 x1 x2 x3 x4 (ix3 m h d)
      = ∑ s : Fin 4096, dsc (tok x0 h s) (gain x3) (cot x4 h s) (mem x1 h) (mem x2 h) m
          * qnv (tok x0 h s) (gain x3) d := by
  pointwise [val_main_v78, val_main_v77, dsc_at x0 x1 x2 x3 x4 hk hg, qn_at]
theorem dv_at (m : Fin 256) (h : Fin 4) (d : Fin 128) :
    val_main_v61 (F := Ideal) x0 x1 x3 x4 (ix3 m h d)
      = ∑ s : Fin 4096, prob (tok x0 h s) (gain x3) (mem x1 h) m * cot x4 h s d := by
  pointwise [val_main_v61, val_main_v60, prob_at x0 x1 x3 hk hg, cot_at]
  exact Finset.sum_congr rfl fun s _ => mul_comm _ _

/-- The gradient of the queries' columns. -/
theorem resQ (s : Fin 4096) (j : Fin 512) (h : Fin 4) (d : Fin 128) (hj : j.val = h.val * 128 + d.val) :
    val_main_v104 (F := Ideal) x0 x1 x2 x3 x4 (ix2 s j)
      = dxq (tok x0 h s) (gain x3) (cot x4 h s) (mem x1 h) (mem x2 h) d := by
  rw [← dq_at x0 x1 x2 x3 x4 hk hg]
  pointwise [val_main_v104, val_main_v103]
  exact congrArg _ ((ix3_inj ..).2 ⟨rfl, Fin.ext (by simp only; omega), Fin.ext (by simp only; omega)⟩)
/-- The gradient of the keys. -/
theorem resK (m : Fin 256) (j : Fin 512) (h : Fin 4) (d : Fin 128) (hj : j.val = h.val * 128 + d.val) :
    val_main_v81 (F := Ideal) x0 x1 x2 x3 x4 (ix2 m j)
      = ∑ s : Fin 4096, dsc (tok x0 h s) (gain x3) (cot x4 h s) (mem x1 h) (mem x2 h) m
          * qnv (tok x0 h s) (gain x3) d := by
  rw [← dk_at x0 x1 x2 x3 x4 hk hg]
  pointwise [val_main_v81]
  exact congrArg _ ((ix3_inj ..).2 ⟨rfl, Fin.ext (by simp only; omega), Fin.ext (by simp only; omega)⟩)
/-- The gradient of the values. -/
theorem resV (m : Fin 256) (j : Fin 512) (h : Fin 4) (d : Fin 128) (hj : j.val = h.val * 128 + d.val) :
    val_main_v62 (F := Ideal) x0 x1 x3 x4 (ix2 m j)
      = ∑ s : Fin 4096, prob (tok x0 h s) (gain x3) (mem x1 h) m * cot x4 h s d := by
  rw [← dv_at x0 x1 x3 x4 hk hg]
  pointwise [val_main_v62]
  exact congrArg _ ((ix3_inj ..).2 ⟨rfl, Fin.ext (by simp only; omega), Fin.ext (by simp only; omega)⟩)
/-- The gradient of the gain. -/
theorem resG (u : Fin 1) (d : Fin 128) :
    val_main_v102 (F := Ideal) x0 x1 x2 x3 x4 (ix2 u d)
      = ∑ s : Fin 4096, ∑ h : Fin 4, dqn (tok x0 h s) (gain x3) (cot x4 h s) (mem x1 h) (mem x2 h) d
          * tht (tok x0 h s) d := by
  have e : val_main_v83 (F := Ideal) x0 x1 x2 x3 x4 (ix1 d)
      = ∑ s : Fin 4096, ∑ h : Fin 4, tht (tok x0 h s) d
          * dqn (tok x0 h s) (gain x3) (cot x4 h s) (mem x1 h) (mem x2 h) d := by
    pointwise [val_main_v83, val_main_cst_17]
    rw [sum_lead]
    pointwise [val_main_v82, dqn_at x0 x1 x2 x3 x4 hk hg, that_at]
  have e' : val_main_v87 (F := Ideal) x0 x1 x2 x3 x4 (ix1 d) = val_main_v83 (F := Ideal) x0 x1 x2 x3 x4 (ix1 d) := by
    pointwise [val_main_v87, val_main_cst_18]
    rw [sum_lead]
    pointwise [val_main_v84]
    simp only [Fin.sum_univ_one]
  pointwise [val_main_v102, e', e]
  exact Finset.sum_congr rfl fun s _ => Finset.sum_congr rfl fun h _ => mul_comm _ _
end

end Cert.ReferenceIdeal.Rows
-- ==== Proof.Arrays.lean ====
/-
  The kernel's four result arrays after the run, each equal to the reference's array.
-/
module

public import proofs.«01_k».proof.Proof.Points
public import proofs.«01_k».proof.Proof.RefGrads

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Head Cert.KernelIdeal.Points MemGrad
open Cert.ReferenceIdeal.Rows (tok mem cot)
open Cert.ReferenceIdeal.Read

variable (m : (ℓ : Loc nD τ sig) → Buf (Elt Ideal) ℓ) (c : Dev nD)

abbrev a0 : FVec Ideal S4096x3584 .f32 := m ((c : Thread nD τ).loc main_arg0)
abbrev a1 : FVec Ideal S256x512 .bf16 := m ((c : Thread nD τ).loc main_arg1)
abbrev a2 : FVec Ideal S256x512 .bf16 := m ((c : Thread nD τ).loc main_arg2)
abbrev a3 : FVec Ideal S1x128 .f32 := m ((c : Thread nD τ).loc main_arg3)
abbrev a4 : FVec Ideal S4096x512 .f32 := m ((c : Thread nD τ).loc main_arg4)

theorem idx : ∀ t : Fin cfg0.N, win0_0.index t = ![t.val, 6] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem lt8 (t : Fin cfg0.N) : t.val < 8 := lt_of_lt_of_eq t.isLt (show cfg0.N = 8 from N_0)

/-- Row `r` of the block of point `t`, of 4096. -/
abbrev trow (t : Fin cfg0.N) (r : Fin 512) : Fin 4096 := ⟨t.val * 512 + r.val, by have := lt8 t; omega⟩

theorem brow_x (t : Fin cfg0.N) (h : Fin 4) (r : Fin 512) : brow (iblk m c 0 t) h r = tok (a0 m c) h (trow t r) := by
  funext d
  show iblk m c 0 t (ix2 r (lane h d)) = a0 m c (ix2 (trow t r) ⟨3072 + (h.val * 128 + d.val), by omega⟩)
  blk_ext [iblk, V, idx t]
theorem brow_d (t : Fin cfg0.N) (h : Fin 4) (r : Fin 512) : brow (iblk m c 4 t) h r = cot (a4 m c) h (trow t r) := by
  funext d
  show iblk m c 4 t (ix2 r (lane h d)) = a4 m c (ix2 (trow t r) ⟨h.val * 128 + d.val, by omega⟩)
  blk_ext [iblk, V, idx t]
theorem bmem_k (t : Fin cfg0.N) (h : Fin 4) : bmem (iblk m c 1 t) h = mem (a1 m c) h := by
  funext n d
  show iblk m c 1 t (ix2 n (lane h d)) = a1 m c (ix2 n ⟨h.val * 128 + d.val, by omega⟩)
  blk_ext [iblk, V, idx t]
theorem bmem_v (t : Fin cfg0.N) (h : Fin 4) : bmem (iblk m c 2 t) h = mem (a2 m c) h := by
  funext n d
  show iblk m c 2 t (ix2 n (lane h d)) = a2 m c (ix2 n ⟨h.val * 128 + d.val, by omega⟩)
  blk_ext [iblk, V, idx t]
theorem gain_g (t : Fin cfg0.N) : gain (iblk m c 3 t) = Cert.ReferenceIdeal.Rows.gain (a3 m c) := by
  funext d
  show iblk m c 3 t (ix2 0 d) = a3 m c (ix2 0 d)
  blk_ext [iblk, V, idx t]

/-- The points' rows are the array's rows. -/
theorem sum_rows (f : Fin 4096 → EReal) : ∑ p : Fin cfg0.N, ∑ r : Fin 512, f (trow p r) = ∑ s, f s :=
  (Fin.sum_univ_tiles 8 512 rfl f).symm

theorem cell {M : Nat} (j : (⟨2, ![M, 512]⟩ : Shape).Idx) : ∃ (i : Fin M) (h : Fin 4) (d : Fin 128), j = ix2 i (lane h d) := by
  refine ⟨j 0, hd j, ln j, ?_⟩
  idx_ext

variable (hk : Cert.ReferenceIdeal.Rows.RealKeys (a1 m c)) (hg : Cert.ReferenceIdeal.Rows.RealGain (a3 m c))
include hk hg

theorem final5 : (dats m 0 c).arrAt 5 cfg0.N = val_main_v104 (F := Ideal) (a0 m c) (a1 m c) (a2 m c) (a3 m c) (a4 m c) := by
  refine (dats m 0 c).arrAt_eq_of_covers 5 _ (by decide +kernel) fun t hf y => ?_
  blk_simp
  rw [after0_5]
  have e : ((outsAt0 m c t.val t.isLt).1 : FVec Ideal S512x512 .bf16) y
      = partQ (iblk m c 0 t) (iblk m c 4 t) (iblk m c 1 t) (iblk m c 2 t) (iblk m c 3 t) (hd y) (y 0) (ln y) := by
    by_cases h0 : t.val % 8 = 0
    · exact q_A m c t h0 y
    · exact q_B m c t h0 y
  refine e.trans ?_
  obtain ⟨r, h, d, rfl⟩ := cell (M := 512) y
  rw [hd_lane, ln_lane]
  show partQ _ _ _ _ _ h r d = _
  rw [partQ, brow_x, brow_d, bmem_k, bmem_v, gain_g, ← Cert.ReferenceIdeal.Rows.resQ (a0 m c) (a1 m c) (a2 m c) (a3 m c) (a4 m c) hk hg (trow t r) (lane h d) h d rfl]
  refine congrArg _ ?_
  blk_ext [idx t]

theorem final6 : (dats m 0 c).arrAt 6 cfg0.N = val_main_v81 (F := Ideal) (a0 m c) (a1 m c) (a2 m c) (a3 m c) (a4 m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => k_A m c t h j) (fun t h j => k_B m c t h j) (le_of_eq N_0) t0_7 rfl j, zero_add]
  obtain ⟨n, h, d, rfl⟩ := cell (M := 256) j
  refine Eq.trans (α := EReal) ?_ (Cert.ReferenceIdeal.Rows.resK (a0 m c) (a1 m c) (a2 m c) (a3 m c) (a4 m c) hk hg n (lane h d) h d rfl).symm
  refine Eq.trans (α := EReal) ?_ (sum_rows _)
  refine Finset.sum_congr rfl fun p _ => ?_
  rw [hd_lane, ln_lane]
  show partK _ _ _ _ _ h n d = _
  simp only [partK, brow_x, brow_d, bmem_k, bmem_v, gain_g]

theorem final7 : (dats m 0 c).arrAt 7 cfg0.N = val_main_v62 (F := Ideal) (a0 m c) (a1 m c) (a3 m c) (a4 m c) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => v_A m c t h j) (fun t h j => v_B m c t h j) (le_of_eq N_0) t0_7 rfl j, zero_add]
  obtain ⟨n, h, d, rfl⟩ := cell (M := 256) j
  refine Eq.trans (α := EReal) ?_ (Cert.ReferenceIdeal.Rows.resV (a0 m c) (a1 m c) (a3 m c) (a4 m c) hk hg n (lane h d) h d rfl).symm
  refine Eq.trans (α := EReal) ?_ (sum_rows _)
  refine Finset.sum_congr rfl fun p _ => ?_
  rw [hd_lane, ln_lane]
  show partV _ _ _ _ h n d = _
  rw [partV, bmem_k, gain_g]
  refine Finset.sum_congr rfl fun r _ => ?_
  rw [brow_x, brow_d]

theorem final8 : (dats m 0 c).arrAt 8 cfg0.N = val_main_v102 (F := Ideal) (a0 m c) (a1 m c) (a2 m c) (a3 m c) (a4 m c) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => g_A m c t h j) (fun t h j => g_B m c t h j) (le_of_eq N_0) t0_7 rfl j, zero_add]
  obtain ⟨u, d, rfl⟩ : ∃ (u : Fin 1) (d : Fin 128), j = ix2 u d := ⟨j 0, j 1, by idx_ext⟩
  refine Eq.trans (α := EReal) ?_ (Cert.ReferenceIdeal.Rows.resG (a0 m c) (a1 m c) (a2 m c) (a3 m c) (a4 m c) hk hg u d).symm
  refine Eq.trans (α := EReal) ?_ (sum_rows _)
  refine Finset.sum_congr rfl fun p _ => ?_
  rw [Finset.sum_comm]
  refine Finset.sum_congr rfl fun h _ => ?_
  show partG _ _ _ _ _ h d = _
  simp only [partG, brow_x, brow_d, bmem_k, bmem_v, gain_g]

end Cert.KernelIdeal.Arrays
-- ==== Proof.Finite.lean ====
/-
  The precondition in words: the memory's keys and the gain of the queries are real numbers.
-/
module

public import proofs.«01_k».proof.Defs
public import proofs.«01_k».proof.Proof.Arrays

@[expose] public section

set_option maxRecDepth 16384

noncomputable section

namespace Cert.Finite

open Idealize.ShloMosaic Idealize.ShloMosaic.TcCoe Idealize.SL.Sem
open Cert.ReferenceIdeal.Rows

theorem facts : Cert.Pre_finite.Facts where
  bitsLt_bf16_f32 := by decide
  bcast_S_S256x512 := by decide
  bcast_S_S1x128 := by decide

/-- What is below the infinity in absolute value is a real number. -/
theorem real_of_lt (x : EReal) (h : Ideal.cmp .olt (max x (-x)) (Ideal.ofBits .f32 0x7F800000#32) = 1#1) :
    ∃ y : ℝ, x = y := by
  have e : Ideal.ofBits .f32 0x7F800000#32 = ⊤ := by simp [Ideal.ofBits, Ideal.ieee]
  rw [e] at h
  induction x using EReal.rec with
  | coe y => exact ⟨y, rfl⟩
  | bot => simp [Ideal.cmp] at h
  | top => simp [Ideal.cmp] at h

theorem keys [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : RealKeys (Cert.KernelIdeal.Arrays.a1 m c) := by
  intro i
  refine real_of_lt _ ?_
  exact congrFun (h c).1 i
theorem gain [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : RealGain (Cert.KernelIdeal.Arrays.a3 m c) := by
  intro i
  refine real_of_lt _ ?_
  exact congrFun (h c).2 i

end Cert.Finite
-- ==== Proof.Norm.lean ====
/-
  A normalized row of any width, over the extended reals: its gradient as a kernel computes it and as the derivative
  spells it are one function, whatever the row holds.
-/
module

public import proofs.«01_k».proof.Proof.Row

@[expose] public section

set_option maxRecDepth 16384

noncomputable section

namespace NormGrad

open Idealize.ShloMosaic MemGrad

variable {n : ℕ}

/-- The mean square of a row of width `L`, moved from zero. -/
def msq (L : EReal) (x : Fin n → EReal) : EReal := Ideal.div (∑ d, x d * x d) L + tiny
/-- The row's normalizer. -/
def rsv (L : EReal) (x : Fin n → EReal) : EReal := Ideal.rsqrt (msq L x)
/-- The normalized row. -/
def hat (L : EReal) (x : Fin n → EReal) (d : Fin n) : EReal := x d * rsv L x
/-- The gradient of the row, of a gradient `y` of the normalized row. -/
def dx (L : EReal) (x y : Fin n → EReal) (d : Fin n) : EReal :=
  rsv L x * (y d - hat L x d * Ideal.div (∑ e, y e * hat L x e) L)
/-- The common factor of the derivative of the normalizer. -/
def slope (L : EReal) (x y : Fin n → EReal) : EReal :=
  Ideal.div ((∑ e, x e * y e) * (mhalf * Ideal.div (rsv L x) (msq L x))) L

/-- Either every entry of a row is a number, or its sum of squares is infinite. -/
theorem sumsq (x : Fin n → EReal) : (∃ y : Fin n → ℝ, ∀ d, x d = (y d : EReal)) ∨ ∑ d, x d * x d = ⊤ := by
  by_cases h : ∀ d, x d ≠ ⊤ ∧ x d ≠ ⊥
  · exact .inl ⟨fun d => (x d).toReal, fun d => (EReal.coe_toReal (h d).1 (h d).2).symm⟩
  · right
    push Not at h
    obtain ⟨d, hd⟩ := h
    have hx : x d * x d = ⊤ := by
      by_cases h1 : x d = ⊤
      · rw [h1]; simp
      · rw [hd h1]; simp
    rw [← Finset.add_sum_erase _ _ (Finset.mem_univ d), hx]
    refine EReal.top_add_of_ne_bot (ne_of_gt (lt_of_lt_of_le EReal.bot_lt_zero ?_))
    exact Finset.sum_nonneg fun i _ => mul_self_nonneg' (x i)

variable {L : EReal} {N : ℝ} (hL : L = (N : EReal)) (hN : 0 < N)
include hL hN

/-- What is known of the normalizer: it is a number, zero exactly when the row is not one of numbers. -/
theorem rsv_cases (x : Fin n → EReal) :
    rsv L x = 0 ∧ msq L x = ⊤ ∨
    ∃ (y : Fin n → ℝ) (M : ℝ), (∀ d, x d = (y d : EReal)) ∧ 0 < M ∧ msq L x = (M : EReal) ∧
      rsv L x = (((Real.sqrt M)⁻¹ : ℝ) : EReal) := by
  obtain ⟨e, he, hee⟩ := tiny_eq
  rcases sumsq x with ⟨y, hy⟩ | h
  · right
    have hM : msq L x = (((∑ d, y d * y d) * (1 / N) + e : ℝ) : EReal) := by
      rw [msq, hee, hL, Ideal.div_coe hN.ne', EReal.coe_add, EReal.coe_mul, ← sum_coe]
      simp only [hy, EReal.coe_mul]
    have hpos : 0 < (∑ d, y d * y d) * (1 / N) + e := by
      have : 0 ≤ ∑ d, y d * y d := Finset.sum_nonneg fun i _ => mul_self_nonneg (y i)
      positivity
    refine ⟨y, _, hy, hpos, hM, ?_⟩
    rw [rsv, hM, Ideal.rsqrt_coe, if_neg (not_lt.2 hpos.le), if_neg hpos.ne']
  · left
    have hM : msq L x = ⊤ := by
      rw [msq, h, hee, hL, Ideal.div_coe hN.ne', EReal.top_mul_coe_of_pos (by positivity)]
      rfl
    exact ⟨by rw [rsv, hM]; rfl, hM⟩

/-- The two spellings of the gradient of a row are one number. -/
theorem dx_eq (x y : Fin n → EReal) (d : Fin n) :
    y d * rsv L x + (x d * slope L x y + slope L x y * x d) = dx L x y d := by
  rw [dx]
  rcases rsv_cases hL hN x with ⟨h, hM⟩ | ⟨z, M, hz, hMp, hM, h⟩
  · have hs : slope L x y = 0 := by
      rw [slope, h, hM, Ideal.zero_div (by simp), mul_zero, mul_zero, hL, Ideal.zero_div (by exact_mod_cast hN.ne')]
    rw [hs, h]; simp
  · have hr : 0 < (Real.sqrt M)⁻¹ := inv_pos.2 (Real.sqrt_pos.2 hMp)
    have hrr : (Real.sqrt M)⁻¹ * (Real.sqrt M)⁻¹ = 1 / M := by
      rw [← mul_inv, Real.mul_self_sqrt hMp.le, one_div]
    generalize (Real.sqrt M)⁻¹ = r at h hr hrr
    set W : EReal := ∑ e, x e * y e with hW
    have hU : (∑ e, y e * hat L x e) = (r : EReal) * W := by
      rw [hW, coe_mul_sum _ _ hr.le]
      refine Finset.sum_congr rfl fun e _ => ?_
      rw [hat, h]; ac_rfl
    have hs : slope L x y = W * ((-(r * r * r / (2 * N)) : ℝ) : EReal) := by
      rw [slope, h, hM, ← hW, mhalf_eq, hL, Ideal.div_coe hMp.ne', Ideal.div_coe hN.ne', ← EReal.coe_mul,
        ← EReal.coe_mul, mul_assoc, ← EReal.coe_mul, ← hrr]
      congr 2; field_simp
    have two : ∀ a : EReal, a + a = ((2 : ℝ) : EReal) * a := fun a => by
      have : ((2 : ℝ) : EReal) = 1 + 1 := by
        rw [show (2 : ℝ) = 1 + 1 by norm_num, EReal.coe_add, EReal.coe_one]
      rw [this, EReal.right_distrib_of_nonneg zero_le_one zero_le_one, one_mul]
    rw [hs, hU, hat, h, hL, Ideal.div_coe hN.ne', hz d,
      mul_comm (W * _) (z d : EReal), two, sub_eq_add_neg, coe_mul_add _ hr.le, mul_comm (y d)]
    congr 1
    rw [← neg_mul]
    have e1 : ((2 : ℝ) : EReal) * ((z d : EReal) * (W * ((-(r * r * r / (2 * N)) : ℝ) : EReal)))
        = (((2 : ℝ) * z d * (-(r * r * r / (2 * N))) : ℝ) : EReal) * W := by
      rw [EReal.coe_mul, EReal.coe_mul]; ac_rfl
    have e2 : (r : EReal) * (-((z d : EReal) * (r : EReal)) * ((r : EReal) * W * ((1 / N : ℝ) : EReal)))
        = ((r * -(z d * r) * r * (1 / N) : ℝ) : EReal) * W := by
      rw [EReal.coe_mul, EReal.coe_mul, EReal.coe_mul, EReal.coe_neg, EReal.coe_mul]; ac_rfl
    rw [e1, e2]; congr 2; field_simp

omit hL hN

/-- The width of the model, as the float literal the programs carry. -/
abbrev width : EReal := Ideal.ofBits .f32 0x44800000#32
theorem width_eq : width = ((1024 : ℝ) : EReal) := by
  simp [width, Ideal.ofBits, Ideal.ieee, -EReal.coe_mul]; norm_num

/-- The gradient of a row as the derivative spells it, added to `a`. -/
theorem dx_add (a : EReal) (x y : Fin n → EReal) (d : Fin n) :
    a + y d * rsv width x + x d * slope width x y + slope width x y * x d = a + dx width x y d := by
  rw [← dx_eq width_eq (by norm_num) x y d]; simp only [add_assoc]

end NormGrad
-- ==== Proof.RefProject.lean ====
/-
  The gradient through the two input projections, as the reference returns it: its arrays, read at an index.
-/
module

public import proofs.«01_k».proof.Proof.Gen.Reference2Ideal.Read
public import proofs.«01_k».proof.Proof.Norm

@[expose] public section

set_option maxRecDepth 16384

noncomputable section

namespace Cert.Reference2Ideal.Rows

open Idealize.ShloMosaic Idealize.ShloMosaic.TcCoe Idealize.SL.Sem
open Cert.Reference2Ideal Cert.Reference2Ideal.Read NormGrad

/-- Row `s` of the input. -/
abbrev row (x0 : FVec Ideal S4096x1024 .f32) (s : Fin 4096) : Fin 1024 → EReal := fun d => x0 (ix2 s d)

section
variable (x0 : FVec Ideal S4096x1024 .f32) (x1 : FVec Ideal S1x1024 .f32) (x2 : FVec Ideal S1024x3584 .bf16)
  (x3 : FVec Ideal S1024x3072 .bf16) (x4 x5 x6 x7 : FVec Ideal S4096x768 .bf16) (x8 : FVec Ideal S4096x512 .bf16)
  (x9 : FVec Ideal S4096x3072 .bf16) (x10 : FVec Ideal S4096x1024 .f32)

/-- Row `s` of the five parts, one after the other. -/
def parts (s : Fin 4096) (k : Fin 3584) : EReal := val_main_v0 (F := Ideal) x4 x5 x6 x7 x8 (ix2 s k)
/-- The gradient of the normalized row with its gain. -/
def dh (s : Fin 4096) (d : Fin 1024) : EReal :=
  (∑ k : Fin 3072, x9 (ix2 s k) * x3 (ix2 d k)) + ∑ k : Fin 3584, parts x4 x5 x6 x7 x8 s k * x2 (ix2 d k)

theorem msq_at (s : Fin 4096) (u : Fin 1) : val_main_v10 (F := Ideal) x0 (ix2 s u) = msq width (row x0 s) := by
  pointwise [val_main_v10, val_main_v9, val_main_v8, val_main_v7, val_main_v6, val_main_v5, val_main_v4, val_main_cst,
    val_main_cst_0, val_main_cst_1, msq]
theorem rs_at (s : Fin 4096) (u : Fin 1) : val_main_v11 (F := Ideal) x0 (ix2 s u) = rsv width (row x0 s) := by
  pointwise [val_main_v11, msq_at, rsv]
theorem hat_at (s : Fin 4096) (d : Fin 1024) :
    val_main_v16 (F := Ideal) x0 (ix2 s d) = hat width (row x0 s) d := by
  pointwise [val_main_v16, val_main_v15, rs_at, hat]
theorem dh_at (s : Fin 4096) (d : Fin 1024) :
    val_main_v24 (F := Ideal) x2 x3 x4 x5 x6 x7 x8 x9 (ix2 s d) = dh x2 x3 x4 x5 x6 x7 x8 x9 s d := by
  pointwise [val_main_v24, val_main_v23, val_main_v22, val_main_v21, val_main_v3, val_main_v2, val_main_v1, dh, parts]
theorem dy_at (s : Fin 4096) (d : Fin 1024) :
    val_main_v29 (F := Ideal) x1 x2 x3 x4 x5 x6 x7 x8 x9 (ix2 s d)
      = dh x2 x3 x4 x5 x6 x7 x8 x9 s d * x1 (ix2 0 d) := by
  pointwise [val_main_v29, val_main_v28, dh_at]
theorem slope_at (s : Fin 4096) (d : Fin 1024) :
    val_main_v40 (F := Ideal) x0 x1 x2 x3 x4 x5 x6 x7 x8 x9 (ix2 s d)
      = NormGrad.slope width (row x0 s) (fun e => dh x2 x3 x4 x5 x6 x7 x8 x9 s e * x1 (ix2 0 e)) := by
  pointwise [val_main_v40, val_main_v39, val_main_v38, val_main_v37, val_main_v36, val_main_v32, val_main_v31,
    val_main_v30, val_main_v14, val_main_v13, val_main_v12, val_main_cst_2, val_main_cst_4, val_main_cst_5,
    val_main_cst_6, dy_at, rs_at, msq_at, NormGrad.slope]
  rw [Fin.sum_univ_one]
/-- The gradient of the input. -/
theorem resX (s : Fin 4096) (d : Fin 1024) :
    val_main_v44 (F := Ideal) x0 x1 x2 x3 x4 x5 x6 x7 x8 x9 x10 (ix2 s d)
      = x10 (ix2 s d) + dx width (row x0 s) (fun e => dh x2 x3 x4 x5 x6 x7 x8 x9 s e * x1 (ix2 0 e)) d := by
  rw [← dx_add]
  pointwise [val_main_v44, val_main_v43, val_main_v42, val_main_v41, val_main_v35, val_main_v34, val_main_v33,
    dy_at, rs_at, slope_at]
/-- The gradient of the gain. -/
theorem resG (u : Fin 1) (d : Fin 1024) :
    val_main_v27 (F := Ideal) x0 x2 x3 x4 x5 x6 x7 x8 x9 (ix2 u d)
      = ∑ s : Fin 4096, hat width (row x0 s) d * dh x2 x3 x4 x5 x6 x7 x8 x9 s d := by
  pointwise [val_main_v27, val_main_v26, val_main_v25, val_main_cst_3, hat_at, dh_at]

theorem parts0 (s : Fin 4096) (k : Fin 768) : parts x4 x5 x6 x7 x8 s ⟨k.val, by omega⟩ = x4 (ix2 s k) := by
  pointwise [parts, val_main_v0]
theorem parts1 (s : Fin 4096) (k : Fin 768) : parts x4 x5 x6 x7 x8 s ⟨768 + k.val, by omega⟩ = x5 (ix2 s k) := by
  pointwise [parts, val_main_v0]
theorem parts2 (s : Fin 4096) (k : Fin 768) : parts x4 x5 x6 x7 x8 s ⟨1536 + k.val, by omega⟩ = x6 (ix2 s k) := by
  pointwise [parts, val_main_v0]
  rw [dif_neg (by omega), dif_neg (by omega), dif_pos (by omega)]
  exact congrArg _ ((ix2_inj ..).2 ⟨rfl, Fin.ext (by simp only; omega)⟩)
theorem parts3 (s : Fin 4096) (k : Fin 768) : parts x4 x5 x6 x7 x8 s ⟨2304 + k.val, by omega⟩ = x7 (ix2 s k) := by
  pointwise [parts, val_main_v0]
  rw [dif_neg (by omega), dif_neg (by omega), dif_neg (by omega), dif_pos (by omega)]
  exact congrArg _ ((ix2_inj ..).2 ⟨rfl, Fin.ext (by simp only; omega)⟩)
theorem parts4 (s : Fin 4096) (k : Fin 512) : parts x4 x5 x6 x7 x8 s ⟨3072 + k.val, by omega⟩ = x8 (ix2 s k) := by
  pointwise [parts, val_main_v0]
  rw [dif_neg (by omega), dif_neg (by omega), dif_neg (by omega), dif_neg (by omega)]
  exact congrArg _ ((ix2_inj ..).2 ⟨rfl, Fin.ext (by simp only; omega)⟩)
/-- A sum cut at the four borders of the parts. -/
theorem sum_cut (g : Fin 3584 → EReal) :
    ∑ k, g k = (∑ k : Fin 768, g ⟨k.val, by omega⟩) + (∑ k : Fin 768, g ⟨768 + k.val, by omega⟩)
        + (∑ k : Fin 768, g ⟨1536 + k.val, by omega⟩) + (∑ k : Fin 768, g ⟨2304 + k.val, by omega⟩)
        + ∑ k : Fin 512, g ⟨3072 + k.val, by omega⟩ := by
  refine (Fin.sum_univ_add (a := 3072) (b := 512) g).trans (congrArg (· + _) ?_)
  refine (Fin.sum_univ_add (a := 2304) (b := 768) _).trans (congrArg (· + _) ?_)
  refine (Fin.sum_univ_add (a := 1536) (b := 768) _).trans (congrArg (· + _) ?_)
  exact Fin.sum_univ_add (a := 768) (b := 768) _
/-- A sum along the five parts is the five sums. -/
theorem parts_sum (s : Fin 4096) (f : Fin 3584 → EReal) :
    ∑ k, parts x4 x5 x6 x7 x8 s k * f k
      = (∑ k : Fin 768, x4 (ix2 s k) * f ⟨k.val, by omega⟩)
        + (∑ k : Fin 768, x5 (ix2 s k) * f ⟨768 + k.val, by omega⟩)
        + (∑ k : Fin 768, x6 (ix2 s k) * f ⟨1536 + k.val, by omega⟩)
        + (∑ k : Fin 768, x7 (ix2 s k) * f ⟨2304 + k.val, by omega⟩)
        + ∑ k : Fin 512, x8 (ix2 s k) * f ⟨3072 + k.val, by omega⟩ := by
  rw [sum_cut]
  simp only [parts0, parts1, parts2, parts3, parts4]
end

end Cert.Reference2Ideal.Rows
-- ==== Proof.Project.lean ====
/-
  The gradient through the two input projections, as the kernel leaves it: blocks of 512 rows of the input's gradient,
  and the gain's gradient carried from point to point.
-/
module

public import proofs.«01_k».proof.Proof.Gen.Kernel2Ideal.Frame
public import proofs.«01_k».proof.Proof.RefProject
public import Idealize.ShloMosaic.Lib.Pipeline.ValueKit
public import Idealize.ShloMosaic.Lib.Pipeline.ReadBack

@[expose] public section

set_option maxRecDepth 16384

noncomputable section

namespace Cert.Kernel2Ideal.Points

open Idealize.ShloMosaic Idealize.ShloMosaic.TcCoe Idealize.SL.Sem
open Idealize.ShloMosaic.Pipeline (Dat)
open Cert.Kernel2Ideal Cert.Kernel2Ideal.Gen NormGrad

section
variable (a0 : FVec Ideal S512x768 .bf16) (b0 : FVec Ideal S1024x768 .bf16) (a1 : FVec Ideal S512x768 .bf16)
  (b1 : FVec Ideal S1024x768 .bf16) (a2 : FVec Ideal S512x768 .bf16) (b2 : FVec Ideal S1024x768 .bf16)
  (a3 : FVec Ideal S512x768 .bf16) (b3 : FVec Ideal S1024x768 .bf16) (a4 : FVec Ideal S512x512 .bf16)
  (b4 : FVec Ideal S1024x512 .bf16) (a5 : FVec Ideal S512x3072 .bf16) (b5 : FVec Ideal S1024x3072 .bf16)
  (D X E : FVec Ideal S512x1024 .f32) (R : FVec Ideal S512x1 .f32) (G A : FVec Ideal S1x1024 .f32)

theorem dh_pay (r : Fin 512) (d : Fin 1024) :
    k0_pay5 (F := Ideal) a0 b0 a1 b1 a2 b2 a3 b3 a4 b4 a5 b5 (ix2 r d)
      = (∑ k : Fin 3072, a5 (ix2 r k) * b5 (ix2 d k))
        + ((∑ k : Fin 768, a0 (ix2 r k) * b0 (ix2 d k)) + (∑ k : Fin 768, a1 (ix2 r k) * b1 (ix2 d k))
          + (∑ k : Fin 768, a2 (ix2 r k) * b2 (ix2 d k)) + (∑ k : Fin 768, a3 (ix2 r k) * b3 (ix2 d k))
          + ∑ k : Fin 512, a4 (ix2 r k) * b4 (ix2 d k)) := by
  rw [add_comm]
  pointwise [k0_pay5]
theorem dx_pay (r : Fin 512) (d : Fin 1024) (hR : R (ix2 r 0) = rsv width fun e => X (ix2 r e)) :
    k0_pay4 (F := Ideal) D R X G E (ix2 r d)
      = E (ix2 r d) + dx width (fun e => X (ix2 r e)) (fun e => D (ix2 r e) * G (ix2 0 e)) d := by
  pointwise [k0_pay4, k0_pay2, k0_pay1, dx, hat, hR]
theorem dg_pay (u : Fin 1) (d : Fin 1024) (hR : ∀ r, R (ix2 r 0) = rsv width fun e => X (ix2 r e)) :
    k0_pay3 (F := Ideal) D R X A (ix2 u d)
      = A (ix2 u d) + ∑ r : Fin 512, hat width (fun e => X (ix2 r e)) d * D (ix2 r d) := by
  pointwise [k0_pay3, k0_pay2, k0_pay1, hat, hR]
  exact congrArg _ (Finset.sum_congr rfl fun r _ => mul_comm _ _)
end

variable (m : (ℓ : Loc nD τ sig) → Buf (Elt Ideal) ℓ) (c : Dev nD)

abbrev x0 : FVec Ideal S4096x1024 .f32 := m ((c : Thread nD τ).loc main_arg0)
abbrev x1 : FVec Ideal S1x1024 .f32 := m ((c : Thread nD τ).loc main_arg1)
abbrev x2 : FVec Ideal S1024x3584 .bf16 := m ((c : Thread nD τ).loc main_arg2)
abbrev x3 : FVec Ideal S1024x3072 .bf16 := m ((c : Thread nD τ).loc main_arg3)
abbrev x4 : FVec Ideal S4096x768 .bf16 := m ((c : Thread nD τ).loc main_arg4)
abbrev x5 : FVec Ideal S4096x768 .bf16 := m ((c : Thread nD τ).loc main_arg5)
abbrev x6 : FVec Ideal S4096x768 .bf16 := m ((c : Thread nD τ).loc main_arg6)
abbrev x7 : FVec Ideal S4096x768 .bf16 := m ((c : Thread nD τ).loc main_arg7)
abbrev x8 : FVec Ideal S4096x512 .bf16 := m ((c : Thread nD τ).loc main_arg8)
abbrev x9 : FVec Ideal S4096x3072 .bf16 := m ((c : Thread nD τ).loc main_arg9)
abbrev x10 : FVec Ideal S4096x1024 .f32 := m ((c : Thread nD τ).loc main_arg10)

theorem idx : ∀ t : Fin cfg0.N, win0_0.index t = ![t.val, 0] ∧ win0_1.index t = ![0, 0] ∧ win0_2.index t = ![t.val, 0]
    ∧ win0_3.index t = ![0, 1] ∧ win0_4.index t = ![t.val, 0] ∧ win0_5.index t = ![0, 2] ∧ win0_6.index t = ![t.val, 0]
    ∧ win0_7.index t = ![0, 3] ∧ win0_8.index t = ![t.val, 0] ∧ win0_9.index t = ![0, 6] ∧ win0_10.index t = ![t.val, 0]
    ∧ win0_11.index t = ![0, 0] ∧ win0_12.index t = ![t.val, 0] ∧ win0_13.index t = ![t.val, 0]
    ∧ win0_14.index t = ![0, 0] ∧ win0_15.index t = ![t.val, 0] ∧ win0_16.index t = ![t.val, 0]
    ∧ win0_17.index t = ![0, 0] :=
  (by decide +kernel : ∀ t : Fin grid0.N, _)

theorem lt8 (t : Fin cfg0.N) : t.val < 8 := lt_of_lt_of_eq t.isLt (show cfg0.N = 8 from N_0)

/-- Row `r` of the block of point `t`, of 4096. -/
abbrev trow (t : Fin cfg0.N) (r : Fin 512) : Fin 4096 := ⟨t.val * 512 + r.val, by have := lt8 t; omega⟩

theorem b1_at (t : Fin cfg0.N) (d : Fin 1024) (k : Fin 768) :
    X0_1 m c t (ix2 d k) = x2 m c (ix2 d ⟨k.val, by omega⟩) := by
  unfold X0_1 Pipeline.Window.fill
  rw [dif_pos (moved0_1 t _)]
  blk_ext [iblk, V, idx t]
theorem b3_at (t : Fin cfg0.N) (d : Fin 1024) (k : Fin 768) :
    X0_3 m c t (ix2 d k) = x2 m c (ix2 d ⟨768 + k.val, by omega⟩) := by
  unfold X0_3 Pipeline.Window.fill
  rw [dif_pos (moved0_3 t _)]
  blk_ext [iblk, V, idx t]
theorem b5_at (t : Fin cfg0.N) (d : Fin 1024) (k : Fin 768) :
    X0_5 m c t (ix2 d k) = x2 m c (ix2 d ⟨1536 + k.val, by omega⟩) := by
  unfold X0_5 Pipeline.Window.fill
  rw [dif_pos (moved0_5 t _)]
  blk_ext [iblk, V, idx t]
theorem b7_at (t : Fin cfg0.N) (d : Fin 1024) (k : Fin 768) :
    X0_7 m c t (ix2 d k) = x2 m c (ix2 d ⟨2304 + k.val, by omega⟩) := by
  unfold X0_7 Pipeline.Window.fill
  rw [dif_pos (moved0_7 t _)]
  blk_ext [iblk, V, idx t]

/-- The normalizers the host hands over. -/
theorem r_at (s : Fin 4096) :
    (V m c main_v7 : FVec Ideal S4096x1 .f32) (ix2 s 0) = rsv width fun e => x0 m c (ix2 s e) := by
  entry_read
  pointwise [rsv, msq]

theorem x_blk (t : Fin cfg0.N) (r : Fin 512) (e : Fin 1024) : iblk m c 12 t (ix2 r e) = x0 m c (ix2 (trow t r) e) := by
  blk_ext [iblk, V, idx t]
theorem r_blk (t : Fin cfg0.N) (r : Fin 512) :
    iblk m c 13 t (ix2 r 0) = rsv width fun e => iblk m c 12 t (ix2 r e) := by
  simp only [x_blk]
  rw [← r_at]
  blk_ext [iblk, idx t]

/-- The gradient of the normalized rows of a point. -/
abbrev dhb (t : Fin cfg0.N) : FVec Ideal S512x1024 .f32 :=
  k0_pay5 (F := Ideal) (iblk m c 0 t) (X0_1 m c t) (iblk m c 2 t) (X0_3 m c t) (iblk m c 4 t) (X0_5 m c t) (iblk m c 6 t)
    (X0_7 m c t) (iblk m c 8 t) (iblk m c 9 t) (iblk m c 10 t) (iblk m c 11 t)

open Cert.Reference2Ideal.Rows in
theorem dhb_at (t : Fin cfg0.N) (r : Fin 512) (d : Fin 1024) :
    dhb m c t (ix2 r d)
      = dh (x2 m c) (x3 m c) (x4 m c) (x5 m c) (x6 m c) (x7 m c) (x8 m c) (x9 m c) (trow t r) d := by
  refine (dh_pay _ _ _ _ _ _ _ _ _ _ _ _ r d).trans ?_
  rw [dh, parts_sum]
  simp only [b1_at, b3_at, b5_at, b7_at]
  blk_point [iblk, V, idx t]

/-- The block of the gradient to add. -/
abbrev dx1b (t : Fin cfg0.N) : FVec Ideal S512x1024 .f32 := iblk m c 15 t
/-- The block of the input's gradient that a point writes. -/
def blkX (t : Fin cfg0.N) (j : S512x1024.Idx) : EReal :=
  dx1b m c t j + dx width (fun e => iblk m c 12 t (ix2 (j 0) e))
    (fun e => dhb m c t (ix2 (j 0) e) * iblk m c 14 t (ix2 0 e)) (j 1)
/-- What a point adds to the gain's gradient. -/
def blkG (t : Fin cfg0.N) (j : S1x1024.Idx) : EReal :=
  ∑ r : Fin 512, hat width (fun e => iblk m c 12 t (ix2 r e)) (j 1) * dhb m c t (ix2 r (j 1))

theorem x_A (t : Fin cfg0.N) (h0 : t.val % 8 = 0) (j : S512x1024.Idx) :
    ((outsAt0 m c t.val t.isLt).1 : FVec Ideal S512x1024 .f32) j = blkX m c t j := by
  rw [outsAt0_A m c t h0]
  frame_out
  idx_vars j
  exact dx_pay _ _ _ _ _ _ _ (r_blk m c t _)
theorem x_B (t : Fin cfg0.N) (h0 : ¬ t.val % 8 = 0) (j : S512x1024.Idx) :
    ((outsAt0 m c t.val t.isLt).1 : FVec Ideal S512x1024 .f32) j = blkX m c t j := by
  rw [outsAt0_B m c t h0]
  frame_out
  idx_vars j
  exact dx_pay _ _ _ _ _ _ _ (r_blk m c t _)
theorem g_A (t : Fin cfg0.N) (h0 : t.val % 8 = 0) (j : S1x1024.Idx) :
    ((outsAt0 m c t.val t.isLt).2 : FVec Ideal S1x1024 .f32) j = 0 + blkG m c t j := by
  rw [outsAt0_A m c t h0]
  frame_open
  simp (disch := decide) only [↓ View.readCov_skip, ↓ View.readCov_cons_toLoadRect, ↓ View.readCov_fill]
  frame_out
  idx_vars j
  refine (dg_pay _ _ _ _ _ _ (r_blk m c t)).trans (congrArg (· + _) ?_)
  pointwise [k0_pay6]
theorem g_B (t : Fin cfg0.N) (h0 : ¬ t.val % 8 = 0) (j : S1x1024.Idx) :
    ((outsAt0 m c t.val t.isLt).2 : FVec Ideal S1x1024 .f32) j
      = ((outsAt0 m c (t.val - 1) (Nat.lt_of_le_of_lt (Nat.sub_le _ _) t.isLt)).2 : FVec Ideal S1x1024 .f32) j
        + blkG m c t j := by
  rw [outsAt0_B m c t h0]
  frame_out
  idx_vars j
  exact dg_pay _ _ _ _ _ _ (r_blk m c t)

open Cert.Reference2Ideal.Read in
theorem final16 : (dats m 0 c).arrAt 16 cfg0.N = val_main_v44 (F := Ideal) (x0 m c) (x1 m c) (x2 m c) (x3 m c) (x4 m c)
    (x5 m c) (x6 m c) (x7 m c) (x8 m c) (x9 m c) (x10 m c) := by
  refine (dats m 0 c).arrAt_eq_of_covers 16 _ (by decide +kernel) fun t hf y => ?_
  blk_simp
  rw [after0_16]
  have e : ((outsAt0 m c t.val t.isLt).1 : FVec Ideal S512x1024 .f32) y = blkX m c t y := by
    by_cases h0 : t.val % 8 = 0
    · exact x_A m c t h0 y
    · exact x_B m c t h0 y
  refine e.trans ?_
  obtain ⟨r, d, rfl⟩ : ∃ (r : Fin 512) (d : Fin 1024), y = ix2 r d := ⟨y 0, y 1, by idx_ext⟩
  refine Eq.trans (α := EReal) ?_ ((Cert.Reference2Ideal.Rows.resX (x0 m c) (x1 m c) (x2 m c) (x3 m c) (x4 m c)
    (x5 m c) (x6 m c) (x7 m c) (x8 m c) (x9 m c) (x10 m c) (trow t r) d).symm.trans (congrArg _ ?_))
  · show dx1b m c t (ix2 r d) + dx width (fun e => iblk m c 12 t (ix2 r e))
      (fun e => dhb m c t (ix2 r e) * iblk m c 14 t (ix2 0 e)) d = _
    simp only [dhb_at, x_blk]
    have e14 (e : Fin 1024) : iblk m c 14 t (ix2 0 e) = x1 m c (ix2 0 e) := by blk_ext [iblk, V, idx t]
    have e15 : dx1b m c t (ix2 r d) = x10 m c (ix2 (trow t r) d) := by blk_ext [iblk, V, idx t]
    simp only [e14, e15]
  · blk_ext [idx t]

open Cert.Reference2Ideal.Read in
theorem final17 : (dats m 0 c).arrAt 17 cfg0.N = val_main_v27 (F := Ideal) (x0 m c) (x2 m c) (x3 m c) (x4 m c)
    (x5 m c) (x6 m c) (x7 m c) (x8 m c) (x9 m c) := by
  refine (dats m 0 c).arrAt_eq_of_after_last 17 t0_7 (by decide +kernel) _ fun j => ?_
  blk_simp
  rw [after0_17, Pipeline.eq_sum_fin_of_reset_step_apply_last (fun n h => (outsAt0 m c n h).2) 8 (fun _ => 0) _
    (fun t h j => g_A m c t h j) (fun t h j => g_B m c t h j) (le_of_eq N_0) t0_7 rfl j, zero_add]
  obtain ⟨u, d, rfl⟩ : ∃ (u : Fin 1) (d : Fin 1024), j = ix2 u d := ⟨j 0, j 1, by idx_ext⟩
  refine Eq.trans (α := EReal) ?_ (Cert.Reference2Ideal.Rows.resG (x0 m c) (x2 m c) (x3 m c) (x4 m c)
    (x5 m c) (x6 m c) (x7 m c) (x8 m c) (x9 m c) u d).symm
  refine Eq.trans (α := EReal) ?_ (Fin.sum_univ_tiles 8 512 rfl _).symm
  refine Finset.sum_congr rfl fun p _ => ?_
  show ∑ r : Fin 512, hat width (fun e => iblk m c 12 p (ix2 r e)) d * dhb m c p (ix2 r d) = _
  simp only [dhb_at, x_blk]

end Cert.Kernel2Ideal.Points
-- ==== Proof.Claim2.lean ====
/-
  The gradient through the two input projections: the reference's frame, and the equality of the results.
-/
module

public import proofs.«01_k».proof.Defs
public import proofs.«01_k».proof.Proof.Gen.Kernel2Ideal.Value
public import proofs.«01_k».proof.Proof.Project
public import Idealize.ShloMosaic.Lib.Claim
public import Idealize.ShloMosaic.Adequacy
public import Idealize.ShloMosaic.Init

@[expose] public section

noncomputable section

namespace Cert.Claim2

open Idealize.ShloMosaic Idealize.SL.Sem Cert.Kernel2Ideal.Points Cert.Reference2Ideal.Read

theorem frame_reference : Cert.quiescent_Reference2Ideal (hReference2Ideal := Cert.Reference2Ideal.Gen.facts) :=
  fun m g _ => (θ_run Cert.Reference2Ideal.defs _ _).mono
    (fun r h => ⟨fun c => (h c).2.2, sem_eq_zero_of_no_sems (by decide) r.2⟩)
    (Cert.Reference2Ideal.Value.run (F := Ideal) m g)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => val_main_v44 (F := Ideal) (x0 m c) (x1 m c) (x2 m c) (x3 m c) (x4 m c) (x5 m c) (x6 m c) (x7 m c) (x8 m c) (x9 m c) (x10 m c),
    fun c => val_main_v27 (F := Ideal) (x0 m c) (x2 m c) (x3 m c) (x4 m c) (x5 m c) (x6 m c) (x7 m c) (x8 m c) (x9 m c),
    θ_run_mono (Cert.Kernel2Ideal.Value.run_blocks m g) fun r h c =>
      ⟨(h c).1.trans (final16 m c), (h c).2.1.trans (final17 m c), (h c).2.2⟩,
    θ_run_mono (Cert.Reference2Ideal.Value.run m' g') fun r h c =>
      ⟨(h c).1.trans ((val_main_v44_eq m' c).trans ?_), (h c).2.1.trans ((val_main_v27_eq ..).trans ?_), (h c).2.2⟩⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · rw [(hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]

end Cert.Claim2

end
-- ==== Proof.Run3.lean ====
/-
  What every array holds when the calls have run, one after the other.
-/
module

public import proofs.«01_k».proof.Proof.Gen.Kernel3Ideal.Frame

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every run ends, with every array at the contents the last boundary names. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.Kernel3Ideal.Gen
-- ==== Proof.RefForward.lean ====
/-
  The input projections of the normalized rows and their weights' gradients, as the reference returns them: its arrays,
  read at an index.
-/
module

public import proofs.«01_k».proof.Proof.Gen.Reference3Ideal.Read
public import proofs.«01_k».proof.Proof.Norm

@[expose] public section

set_option maxRecDepth 16384

noncomputable section

namespace NormGrad

open Idealize.ShloMosaic

/-- The number one, as the program spells it. -/
def one : EReal := Ideal.ofBits .f32 0x3F800000#32
/-- The logistic curve. -/
def sigm (z : EReal) : EReal := Ideal.div one (one + Ideal.exp (-z))

end NormGrad

namespace Cert.Reference3Ideal.Rows

open Idealize.ShloMosaic Idealize.ShloMosaic.TcCoe Idealize.SL.Sem
open Cert.Reference3Ideal Cert.Reference3Ideal.Read NormGrad

section
variable (x0 : FVec Ideal S4096x1024 .f32) (x1 : FVec Ideal S1x1024 .f32) (x2 : FVec Ideal S1024x3584 .bf16)
  (x3 : FVec Ideal S1024x3072 .bf16) (x4 : FVec Ideal S1x3072 .f32) (x5 x6 x7 x8 : FVec Ideal S4096x768 .bf16)
  (x9 : FVec Ideal S4096x512 .bf16) (x10 : FVec Ideal S4096x3072 .bf16)

/-- The normalized row `s` with its gain. -/
def h (s : Fin 4096) (d : Fin 1024) : EReal := hat width (fun e => x0 (ix2 s e)) d * x1 (ix2 0 d)
/-- Row `s` of the five parts, one after the other. -/
def parts (s : Fin 4096) (k : Fin 3584) : EReal := val_main_v0 (F := Ideal) x5 x6 x7 x8 x9 (ix2 s k)

theorem h_at (s : Fin 4096) (d : Fin 1024) : val_main_v15 (F := Ideal) x0 x1 (ix2 s d) = h x0 x1 s d := by
  pointwise [val_main_v15, val_main_v14, val_main_v13, val_main_v12, val_main_v11, val_main_v10, val_main_v9, val_main_v8,
    val_main_v7, val_main_v6, val_main_v5, val_main_v4, val_main_cst, val_main_cst_0, val_main_cst_1, msq, h, hat, rsv]
/-- The projected rows. -/
theorem res0 (s : Fin 4096) (d : Fin 3584) :
    val_main_v16 (F := Ideal) x0 x1 x2 (ix2 s d) = ∑ k, h x0 x1 s k * x2 (ix2 k d) := by
  pointwise [val_main_v16, val_main_v2, h_at]
/-- The gates. -/
theorem res1 (s : Fin 4096) (d : Fin 3072) :
    val_main_v31 (F := Ideal) x0 x1 x3 x4 (ix2 s d) = sigm ((∑ k, h x0 x1 s k * x3 (ix2 k d)) + x4 (ix2 0 d)) := by
  pointwise [val_main_v31, val_main_v30, val_main_v29, val_main_v28, val_main_v27, val_main_v26, val_main_v25,
    val_main_v19, val_main_v18, val_main_v17, val_main_v3, val_main_cst_2, val_main_cst_3, h_at, sigm, one]
/-- The gradient of the projection's weights. -/
theorem res2 (p : Fin 1024) (d : Fin 3584) :
    val_main_v32 (F := Ideal) x0 x1 x5 x6 x7 x8 x9 (ix2 p d) = ∑ s, h x0 x1 s p * parts x5 x6 x7 x8 x9 s d := by
  rw [Finset.sum_congr rfl fun s _ => mul_comm (h x0 x1 s p) _]
  pointwise [val_main_v32, val_main_v24, val_main_v23, val_main_v1, h_at, parts]
/-- The gradient of the gate's weights. -/
theorem res3 (p : Fin 1024) (d : Fin 3072) :
    val_main_v33 (F := Ideal) x0 x1 x10 (ix2 p d) = ∑ s, h x0 x1 s p * x10 (ix2 s d) := by
  rw [Finset.sum_congr rfl fun s _ => mul_comm (h x0 x1 s p) _]
  pointwise [val_main_v33, val_main_v22, val_main_v21, val_main_v20, h_at]

theorem parts0 (s : Fin 4096) (k : Fin 768) (j : Fin 3584) (e : j.val = k.val) :
    parts x5 x6 x7 x8 x9 s j = x5 (ix2 s k) := by
  obtain rfl : j = ⟨k.val, Nat.lt_of_lt_of_le k.isLt (by decide)⟩ := Fin.ext e
  pointwise [parts, val_main_v0]
theorem parts1 (s : Fin 4096) (k : Fin 768) (j : Fin 3584) (e : j.val = 768 + k.val) :
    parts x5 x6 x7 x8 x9 s j = x6 (ix2 s k) := by
  obtain rfl : j = ⟨768 + k.val, Nat.lt_of_lt_of_le (Nat.add_lt_add_left k.isLt 768) (by decide)⟩ := Fin.ext e
  pointwise [parts, val_main_v0]
theorem parts2 (s : Fin 4096) (k : Fin 768) (j : Fin 3584) (e : j.val = 1536 + k.val) :
    parts x5 x6 x7 x8 x9 s j = x7 (ix2 s k) := by
  obtain rfl : j = ⟨1536 + k.val, Nat.lt_of_lt_of_le (Nat.add_lt_add_left k.isLt 1536) (by decide)⟩ := Fin.ext e
  pointwise [parts, val_main_v0]
  rw [dif_neg (by omega), dif_neg (by omega), dif_pos (by omega)]
  exact congrArg _ ((ix2_inj ..).2 ⟨rfl, Fin.ext (by simp only; omega)⟩)
theorem parts3 (s : Fin 4096) (k : Fin 768) (j : Fin 3584) (e : j.val = 2304 + k.val) :
    parts x5 x6 x7 x8 x9 s j = x8 (ix2 s k) := by
  obtain rfl : j = ⟨2304 + k.val, Nat.lt_of_lt_of_le (Nat.add_lt_add_left k.isLt 2304) (by decide)⟩ := Fin.ext e
  pointwise [parts, val_main_v0]
  rw [dif_neg (by omega), dif_neg (by omega), dif_neg (by omega), dif_pos (by omega)]
  exact congrArg _ ((ix2_inj ..).2 ⟨rfl, Fin.ext (by simp only; omega)⟩)
theorem parts4 (s : Fin 4096) (k : Fin 512) (j : Fin 3584) (e : j.val = 3072 + k.val) :
    parts x5 x6 x7 x8 x9 s j = x9 (ix2 s k) := by
  obtain rfl : j = ⟨3072 + k.val, Nat.lt_of_lt_of_le (Nat.add_lt_add_left k.isLt 3072) (by decide)⟩ := Fin.ext e
  pointwise [parts, val_main_v0]
  rw [dif_neg (by omega), dif_neg (by omega), dif_neg (by omega), dif_neg (by omega)]
  exact congrArg _ ((ix2_inj ..).2 ⟨rfl, Fin.ext (by simp only; omega)⟩)
end

end Cert.Reference3Ideal.Rows
-- ==== Proof.Forward.lean ====
/-
  The input projections and their weights' gradients, call by call: what each call leaves in its result, of whatever
  its arguments hold.
-/
module

public import proofs.«01_k».proof.Proof.Gen.Kernel3Ideal.Frame
public import proofs.«01_k».proof.Proof.RefForward
public import Idealize.ShloMosaic.Lib.Pipeline.ValueKit
public import Idealize.ShloMosaic.Lib.Pipeline.ReadBack

@[expose] public section

set_option maxRecDepth 16384

noncomputable section

namespace Cert.Kernel3Ideal.Points

open Idealize.ShloMosaic Idealize.ShloMosaic.TcCoe Idealize.SL.Sem
open Idealize.ShloMosaic.Pipeline (Dat)
open Cert.Kernel3Ideal Cert.Kernel3Ideal.Gen NormGrad

section
variable (X : FVec Ideal S512x1024 .f32) (G : FVec Ideal S1x1024 .f32) (H : FVec Ideal S512x1024 .bf16)
  (W : FVec Ideal S1024x3584 .bf16) (W' : FVec Ideal S1024x3072 .bf16) (B : FVec Ideal S1x3072 .f32)

theorem h_pay (r : Fin 512) (d : Fin 1024) :
    k0_pay2 (F := Ideal) X G (ix2 r d) = hat width (fun e => X (ix2 r e)) d * G (ix2 0 d) := by
  pointwise [k0_pay2, k0_pay1, hat, rsv, msq]
theorem ht_pay (d : Fin 1024) (r : Fin 512) :
    k0_pay3 (F := Ideal) X G (ix2 d r) = hat width (fun e => X (ix2 r e)) d * G (ix2 0 d) := by
  pointwise [k0_pay3, h_pay]
theorem in_pay (r : Fin 512) (d : Fin 3584) :
    k1_pay1 (F := Ideal) H W (ix2 r d) = ∑ k : Fin 1024, H (ix2 r k) * W (ix2 k d) := by
  pointwise [k1_pay1]
theorem gate_pay (r : Fin 512) (d : Fin 3072) :
    k2_pay1 (F := Ideal) H W' B (ix2 r d)
      = sigm ((∑ k : Fin 1024, H (ix2 r k) * W' (ix2 k d)) + B (ix2 0 d)) := by
  pointwise [k2_pay1, sigm, one]
  rw [zero_sub]
end

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0]
    ∧ win0_3.index t = ![0, t.val] := (by decide +kernel : ∀ t : Fin grid0.N, _)
theorem idx1 : ∀ t : Fin cfg1.N, win1_0.index t = ![t.val, 0] ∧ win1_1.index t = ![0, 0] ∧ win1_2.index t = ![t.val, 0] :=
  (by decide +kernel : ∀ t : Fin grid1.N, _)
theorem idx2 : ∀ t : Fin cfg2.N, win2_0.index t = ![t.val, 0] ∧ win2_1.index t = ![0, 0] ∧ win2_2.index t = ![0, 0]
    ∧ win2_3.index t = ![t.val, 0] := (by decide +kernel : ∀ t : Fin grid2.N, _)
theorem idx3 : ∀ t : Fin cfg3.N, win3_0.index t = ![t.val, 0] ∧ win3_1.index t = ![0, 0] ∧ win3_2.index t = ![0, 0]
    ∧ win3_3.index t = ![0, 0] ∧ win3_4.index t = ![0, 0] ∧ win3_5.index t = ![0, 0] ∧ win3_6.index t = ![t.val, 0] :=
  (by decide +kernel : ∀ t : Fin grid3.N, _)
theorem idx4 : ∀ t : Fin cfg4.N, win4_0.index t = ![0, 0] ∧ win4_1.index t = ![0, t.val] ∧ win4_2.index t = ![0, t.val] :=
  (by decide +kernel : ∀ t : Fin grid4.N, _)

/-- The normalized rows. -/
def hV (x : FVec Ideal S4096x1024 .f32) (g : FVec Ideal S1x1024 .f32) : FVec Ideal S4096x1024 .bf16 :=
  fun j => hat width (fun e => x (ix2 (j 0) e)) (j 1) * g (ix2 0 (j 1))
/-- The same, transposed. -/
def htV (x : FVec Ideal S4096x1024 .f32) (g : FVec Ideal S1x1024 .f32) : FVec Ideal S1024x4096 .bf16 :=
  fun j => hat width (fun e => x (ix2 (j 1) e)) (j 0) * g (ix2 0 (j 0))
/-- The projected rows. -/
def inV (h : FVec Ideal S4096x1024 .bf16) (w : FVec Ideal S1024x3584 .bf16) : FVec Ideal S4096x3584 .f32 :=
  fun j => ∑ k : Fin 1024, h (ix2 (j 0) k) * w (ix2 k (j 1))
/-- The gates. -/
def gateV (h : FVec Ideal S4096x1024 .bf16) (w : FVec Ideal S1024x3072 .bf16) (b : FVec Ideal S1x3072 .f32) :
    FVec Ideal S4096x3072 .bf16 :=
  fun j => sigm ((∑ k : Fin 1024, h (ix2 (j 0) k) * w (ix2 k (j 1))) + b (ix2 0 (j 1)))
/-- A product with a transposed left operand kept whole. -/
def dgV (ht : FVec Ideal S1024x4096 .bf16) (g : FVec Ideal S4096x3072 .bf16) : FVec Ideal S1024x3072 .bf16 :=
  fun j => ∑ s : Fin 4096, ht (ix2 (j 0) s) * g (ix2 s (j 1))
open Cert.Reference3Ideal.Rows in
/-- The product with the five parts side by side. -/
def dwV (ht : FVec Ideal S1024x4096 .bf16) (a b e f : FVec Ideal S4096x768 .bf16) (g : FVec Ideal S4096x512 .bf16) :
    FVec Ideal S1024x3584 .bf16 :=
  fun j => ∑ s : Fin 4096, ht (ix2 (j 0) s) * parts a b e f g s (j 1)

theorem reg0_h : (dat0 V c).arrAt 2 cfg0.N = hV (V c main_arg0) (V c main_arg1) := by
  refine (dat0 V c).arrAt_eq_of_covers 2 _ (by decide +kernel) fun t hf y => ?_
  blk_simp
  rw [after0_2]
  frame_out
  obtain ⟨r, d, rfl⟩ : ∃ (r : Fin 512) (d : Fin 1024), y = ix2 r d := ⟨y 0, y 1, by idx_ext⟩
  refine (h_pay _ _ r d).trans ?_
  blk_point [iblk0, hV, idx0 t]
theorem reg0_t : (dat0 V c).arrAt 3 cfg0.N = htV (V c main_arg0) (V c main_arg1) := by
  refine (dat0 V c).arrAt_eq_of_covers 3 _ (by decide +kernel) fun t hf y => ?_
  blk_simp
  rw [after0_3]
  frame_out
  obtain ⟨d, r, rfl⟩ : ∃ (d : Fin 1024) (r : Fin 512), y = ix2 d r := ⟨y 0, y 1, by idx_ext⟩
  refine (ht_pay _ _ d r).trans ?_
  blk_point [iblk0, htV, idx0 t]
theorem reg1 : (dat1 V c).arrAt 2 cfg1.N = inV (V c main_v0_0) (V c main_arg2) := by
  refine (dat1 V c).arrAt_eq_of_covers 2 _ (by decide +kernel) fun t hf y => ?_
  blk_simp
  rw [after1_2]
  frame_out
  obtain ⟨r, d, rfl⟩ : ∃ (r : Fin 512) (d : Fin 3584), y = ix2 r d := ⟨y 0, y 1, by idx_ext⟩
  refine (in_pay _ _ r d).trans ?_
  blk_point [iblk1, inV, idx1 t]
theorem reg2 : (dat2 V c).arrAt 3 cfg2.N = gateV (V c main_v0_0) (V c main_arg3) (V c main_arg4) := by
  refine (dat2 V c).arrAt_eq_of_covers 3 _ (by decide +kernel) fun t hf y => ?_
  blk_simp
  rw [after2_3]
  frame_out
  obtain ⟨r, d, rfl⟩ : ∃ (r : Fin 512) (d : Fin 3072), y = ix2 r d := ⟨y 0, y 1, by idx_ext⟩
  refine (gate_pay _ _ _ r d).trans ?_
  blk_point [iblk2, gateV, idx2 t]
theorem reg4 : (dat4 V c).arrAt 2 cfg4.N = dgV (V c main_v0_1) (V c main_arg10) := by
  refine (dat4 V c).arrAt_eq_of_covers 2 _ (by decide +kernel) fun t hf y => ?_
  blk_simp
  rw [after4_2, outsAt4]
  frame_out
  obtain ⟨r, d, rfl⟩ : ∃ (r : Fin 1024) (d : Fin 256), y = ix2 r d := ⟨y 0, y 1, by idx_ext⟩
  pointwise [k4_pay1]
  blk_point [iblk4, dgV, idx4 t]

theorem lt4 (t : Fin cfg3.N) : t.val < 4 := lt_of_lt_of_eq t.isLt (show cfg3.N = 4 from N_3)
/-- Row `p` of the block of point `t`, of 1024. -/
abbrev prow (t : Fin cfg3.N) (p : Fin 256) : Fin 1024 := ⟨t.val * 256 + p.val, by have := lt4 t; omega⟩

theorem ht_blk (t : Fin cfg3.N) (p : Fin 256) (s : Fin 4096) :
    iblk3 V c 0 t (ix2 p s) = (V c main_v0_1 : FVec Ideal S1024x4096 .bf16) (ix2 (prow t p) s) := by
  blk_ext [iblk3, idx3 t]

open Cert.Reference3Ideal.Rows in
theorem reg3 : (dat3 V c).arrAt 6 cfg3.N
    = dwV (V c main_v0_1) (V c main_arg5) (V c main_arg6) (V c main_arg7) (V c main_arg8) (V c main_arg9) := by
  refine (dat3 V c).arrAt_eq_of_covers 6 _ (by decide +kernel) fun t hf y => ?_
  blk_simp
  rw [after3_6, outsAt3]
  frame_out
  obtain ⟨p, q, rfl⟩ : ∃ (p : Fin 256) (q : Fin 3584), y = ix2 p q := ⟨y 0, y 1, by idx_ext⟩
  refine Eq.trans (b := dwV (V c main_v0_1) (V c main_arg5) (V c main_arg6) (V c main_arg7) (V c main_arg8)
    (V c main_arg9) (ix2 (prow t p) q)) ?_ (congrArg _ (by blk_ext [idx3 t]))
  canon_tiles x k using (View.cover_of_tiledBy _ ![256, 256] (by sl_kernel_rfl) (ix2 p q))
  · obtain ⟨a, b, rfl⟩ : ∃ (a : Fin 256) (b : Fin 512), x = ix2 a b := ⟨x 0, x 1, by idx_ext⟩
    obtain rfl : p = a := Fin.ext k0
    pointwise [k3_pay6, k3_pay1]
    refine Finset.sum_congr rfl fun s _ => ?_
    refine congrArg₂ (fun a b : EReal => a * b) (ht_blk V c t p s) (Eq.trans ?_ (parts4 _ _ _ _ _ s b q k1).symm)
    blk_ext [iblk3, idx3 t]
  · obtain ⟨a, b, rfl⟩ : ∃ (a : Fin 256) (b : Fin 768), x = ix2 a b := ⟨x 0, x 1, by idx_ext⟩
    obtain rfl : p = a := Fin.ext k0
    pointwise [k3_pay5, k3_pay1]
    refine Finset.sum_congr rfl fun s _ => ?_
    refine congrArg₂ (fun a b : EReal => a * b) (ht_blk V c t p s) (Eq.trans ?_ (parts3 _ _ _ _ _ s b q k1).symm)
    blk_ext [iblk3, idx3 t]
  · obtain ⟨a, b, rfl⟩ : ∃ (a : Fin 256) (b : Fin 768), x = ix2 a b := ⟨x 0, x 1, by idx_ext⟩
    obtain rfl : p = a := Fin.ext k0
    pointwise [k3_pay4, k3_pay1]
    refine Finset.sum_congr rfl fun s _ => ?_
    refine congrArg₂ (fun a b : EReal => a * b) (ht_blk V c t p s) (Eq.trans ?_ (parts2 _ _ _ _ _ s b q k1).symm)
    blk_ext [iblk3, idx3 t]
  · obtain ⟨a, b, rfl⟩ : ∃ (a : Fin 256) (b : Fin 768), x = ix2 a b := ⟨x 0, x 1, by idx_ext⟩
    obtain rfl : p = a := Fin.ext k0
    pointwise [k3_pay3, k3_pay1]
    refine Finset.sum_congr rfl fun s _ => ?_
    refine congrArg₂ (fun a b : EReal => a * b) (ht_blk V c t p s) (Eq.trans ?_ (parts1 _ _ _ _ _ s b q k1).symm)
    blk_ext [iblk3, idx3 t]
  · obtain ⟨a, b, rfl⟩ : ∃ (a : Fin 256) (b : Fin 768), x = ix2 a b := ⟨x 0, x 1, by idx_ext⟩
    obtain rfl : p = a := Fin.ext k0
    pointwise [k3_pay2, k3_pay1]
    refine Finset.sum_congr rfl fun s _ => ?_
    refine congrArg₂ (fun a b : EReal => a * b) (ht_blk V c t p s) (Eq.trans ?_ (parts0 _ _ _ _ _ s b q k1).symm)
    blk_ext [iblk3, idx3 t]

end Cert.Kernel3Ideal.Points
-- ==== Proof.Claim3.lean ====
/-
  The input projections and their weights' gradients: the reference's frame, and the equality of the results.
-/
module

public import proofs.«01_k».proof.Defs
public import proofs.«01_k».proof.Proof.Run3
public import proofs.«01_k».proof.Proof.Forward
public import proofs.«01_k».proof.Proof.Gen.Reference3Ideal.Run
public import Idealize.ShloMosaic.Lib.Claim
public import Idealize.ShloMosaic.Adequacy
public import Idealize.ShloMosaic.Init

@[expose] public section

noncomputable section

namespace Cert.Claim3

open Idealize.ShloMosaic Idealize.ShloMosaic.TcCoe Idealize.SL.Sem Cert.Kernel3Ideal Cert.Kernel3Ideal.Gen
open Cert.Kernel3Ideal.Points Cert.Reference3Ideal.Read Cert.Reference3Ideal.Rows

theorem frame_reference : Cert.quiescent_Reference3Ideal (hReference3Ideal := Cert.Reference3Ideal.Gen.facts) :=
  fun m g _ => (θ_run Cert.Reference3Ideal.defs _ _).mono
    (fun r h => ⟨fun c => (h c).2.2.2.2, sem_eq_zero_of_no_sems (by decide) r.2⟩)
    (Cert.Reference3Ideal.Value.run (F := Ideal) m g)

section
variable (m : (ℓ : Loc nD τ sig) → Buf (Elt Ideal) ℓ) (ρ : Dev nD → PrngReg) (c : Dev nD)

abbrev x0 : FVec Ideal S4096x1024 .f32 := m ((c : Thread nD τ).loc main_arg0)
abbrev x1 : FVec Ideal S1x1024 .f32 := m ((c : Thread nD τ).loc main_arg1)
abbrev x2 : FVec Ideal S1024x3584 .bf16 := m ((c : Thread nD τ).loc main_arg2)
abbrev x3 : FVec Ideal S1024x3072 .bf16 := m ((c : Thread nD τ).loc main_arg3)
abbrev x4 : FVec Ideal S1x3072 .f32 := m ((c : Thread nD τ).loc main_arg4)
abbrev x5 : FVec Ideal S4096x768 .bf16 := m ((c : Thread nD τ).loc main_arg5)
abbrev x6 : FVec Ideal S4096x768 .bf16 := m ((c : Thread nD τ).loc main_arg6)
abbrev x7 : FVec Ideal S4096x768 .bf16 := m ((c : Thread nD τ).loc main_arg7)
abbrev x8 : FVec Ideal S4096x768 .bf16 := m ((c : Thread nD τ).loc main_arg8)
abbrev x9 : FVec Ideal S4096x512 .bf16 := m ((c : Thread nD τ).loc main_arg9)
abbrev x10 : FVec Ideal S4096x3072 .bf16 := m ((c : Thread nD τ).loc main_arg10)

theorem at_h1 : W1 m ρ c (Proc.devRef .tc main_v0_0) = hV (x0 m c) (x1 m c) :=
  (W1_arr m ρ c 2).trans (reg0_h (V0 m ρ) c)
theorem at_t1 : W1 m ρ c (Proc.devRef .tc main_v0_1) = htV (x0 m c) (x1 m c) :=
  (W1_arr m ρ c 3).trans (reg0_t (V0 m ρ) c)
theorem at_t3 : W3 m ρ c (Proc.devRef .tc main_v0_1) = htV (x0 m c) (x1 m c) :=
  (W3_of m ρ c main_v0_1 (by decide +kernel)).trans ((W2_of m ρ c main_v0_1 (by decide +kernel)).trans (at_t1 m ρ c))
theorem at_t4 : W4 m ρ c (Proc.devRef .tc main_v0_1) = htV (x0 m c) (x1 m c) :=
  (W4_of m ρ c main_v0_1 (by decide +kernel)).trans (at_t3 m ρ c)
theorem at_h2 : W2 m ρ c (Proc.devRef .tc main_v0_0) = hV (x0 m c) (x1 m c) :=
  (W2_of m ρ c main_v0_0 (by decide +kernel)).trans (at_h1 m ρ c)

theorem val_in : W5 m ρ c (Proc.devRef .tc main_v1) = val_main_v16 (F := Ideal) (x0 m c) (x1 m c) (x2 m c) := by
  refine (W5_of m ρ c main_v1 (by decide +kernel)).trans ((W4_of m ρ c main_v1 (by decide +kernel)).trans
    ((W3_of m ρ c main_v1 (by decide +kernel)).trans ((W2_arr m ρ c 2).trans ((reg1 (V1 m ρ) c).trans ?_))))
  have e1 : V1 m ρ c main_v0_0 = hV (x0 m c) (x1 m c) := at_h1 m ρ c
  have e2 : V1 m ρ c main_arg2 = x2 m c := W1_args m ρ c main_arg2 (by decide)
  rw [e1, e2]
  funext j
  obtain ⟨s, d, rfl⟩ : ∃ (s : Fin 4096) (d : Fin 3584), j = ix2 s d := ⟨j 0, j 1, by idx_ext⟩
  exact (res0 (x0 m c) (x1 m c) (x2 m c) s d).symm
theorem val_gate : W5 m ρ c (Proc.devRef .tc main_v2)
    = val_main_v31 (F := Ideal) (x0 m c) (x1 m c) (x3 m c) (x4 m c) := by
  refine (W5_of m ρ c main_v2 (by decide +kernel)).trans ((W4_of m ρ c main_v2 (by decide +kernel)).trans
    ((W3_arr m ρ c 3).trans ((reg2 (V2 m ρ) c).trans ?_)))
  have e1 : V2 m ρ c main_v0_0 = hV (x0 m c) (x1 m c) := at_h2 m ρ c
  have e2 : V2 m ρ c main_arg3 = x3 m c := W2_args m ρ c main_arg3 (by decide)
  have e3 : V2 m ρ c main_arg4 = x4 m c := W2_args m ρ c main_arg4 (by decide)
  rw [e1, e2, e3]
  funext j
  obtain ⟨s, d, rfl⟩ : ∃ (s : Fin 4096) (d : Fin 3072), j = ix2 s d := ⟨j 0, j 1, by idx_ext⟩
  exact (res1 (x0 m c) (x1 m c) (x3 m c) (x4 m c) s d).symm
theorem val_dw : W5 m ρ c (Proc.devRef .tc main_v3) = val_main_v32 (F := Ideal) (x0 m c) (x1 m c) (x5 m c) (x6 m c)
    (x7 m c) (x8 m c) (x9 m c) := by
  refine (W5_of m ρ c main_v3 (by decide +kernel)).trans ((W4_arr m ρ c 6).trans ((reg3 (V3 m ρ) c).trans ?_))
  have e1 : V3 m ρ c main_v0_1 = htV (x0 m c) (x1 m c) := at_t3 m ρ c
  have e5 : V3 m ρ c main_arg5 = x5 m c := W3_args m ρ c main_arg5 (by decide)
  have e6 : V3 m ρ c main_arg6 = x6 m c := W3_args m ρ c main_arg6 (by decide)
  have e7 : V3 m ρ c main_arg7 = x7 m c := W3_args m ρ c main_arg7 (by decide)
  have e8 : V3 m ρ c main_arg8 = x8 m c := W3_args m ρ c main_arg8 (by decide)
  have e9 : V3 m ρ c main_arg9 = x9 m c := W3_args m ρ c main_arg9 (by decide)
  rw [e1, e5, e6, e7, e8, e9]
  funext j
  obtain ⟨p, d, rfl⟩ : ∃ (p : Fin 1024) (d : Fin 3584), j = ix2 p d := ⟨j 0, j 1, by idx_ext⟩
  exact (res2 (x0 m c) (x1 m c) (x5 m c) (x6 m c) (x7 m c) (x8 m c) (x9 m c) p d).symm
theorem val_dgate : W5 m ρ c (Proc.devRef .tc main_v4) = val_main_v33 (F := Ideal) (x0 m c) (x1 m c) (x10 m c) := by
  refine (W5_arr m ρ c 2).trans ((reg4 (V4 m ρ) c).trans ?_)
  have e1 : V4 m ρ c main_v0_1 = htV (x0 m c) (x1 m c) := at_t4 m ρ c
  have e2 : V4 m ρ c main_arg10 = x10 m c := W4_args m ρ c main_arg10 (by decide)
  rw [e1, e2]
  funext j
  obtain ⟨p, d, rfl⟩ : ∃ (p : Fin 1024) (d : Fin 3072), j = ix2 p d := ⟨j 0, j 1, by idx_ext⟩
  exact (res3 (x0 m c) (x1 m c) (x10 m c) p d).symm
end

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => val_main_v16 (F := Ideal) (x0 m c) (x1 m c) (x2 m c),
    fun c => val_main_v31 (F := Ideal) (x0 m c) (x1 m c) (x3 m c) (x4 m c),
    fun c => val_main_v32 (F := Ideal) (x0 m c) (x1 m c) (x5 m c) (x6 m c) (x7 m c) (x8 m c) (x9 m c),
    fun c => val_main_v33 (F := Ideal) (x0 m c) (x1 m c) (x10 m c),
    θ_run_mono (run_all m g) fun r h c =>
      ⟨(h c _ (mem_uc main_v1 (by decide))).trans (val_in m g c),
       (h c _ (mem_uc main_v2 (by decide))).trans (val_gate m g c),
       (h c _ (mem_uc main_v3 (by decide))).trans (val_dw m g c),
       (h c _ (mem_uc main_v4 (by decide))).trans (val_dgate m g c),
       (h c _ (mem_uc main_arg0 (by decide))).trans (W5_main_arg0 m g c),
       (h c _ (mem_uc main_arg1 (by decide))).trans (W5_main_arg1 m g c),
       (h c _ (mem_uc main_arg2 (by decide))).trans (W5_main_arg2 m g c),
       (h c _ (mem_uc main_arg3 (by decide))).trans (W5_main_arg3 m g c),
       (h c _ (mem_uc main_arg4 (by decide))).trans (W5_main_arg4 m g c),
       (h c _ (mem_uc main_arg5 (by decide))).trans (W5_main_arg5 m g c),
       (h c _ (mem_uc main_arg6 (by decide))).trans (W5_main_arg6 m g c),
       (h c _ (mem_uc main_arg7 (by decide))).trans (W5_main_arg7 m g c),
       (h c _ (mem_uc main_arg8 (by decide))).trans (W5_main_arg8 m g c),
       (h c _ (mem_uc main_arg9 (by decide))).trans (W5_main_arg9 m g c),
       (h c _ (mem_uc main_arg10 (by decide))).trans (W5_main_arg10 m g c)⟩,
    θ_run_mono (Cert.Reference3Ideal.Value.run m' g') fun r h c =>
      ⟨(h c).1.trans ((val_main_v16_eq ..).trans ?_), (h c).2.1.trans ((val_main_v31_eq ..).trans ?_),
       (h c).2.2.1.trans ((val_main_v32_eq ..).trans ?_), (h c).2.2.2.1.trans ((val_main_v33_eq ..).trans ?_),
       (h c).2.2.2.2⟩⟩
  · rw [(hagree c).1, (hagree c).2.1, (hagree c).2.2.1]
  · rw [(hagree c).1, (hagree c).2.1, (hagree c).2.2.2.1, (hagree c).2.2.2.2.1]
  · rw [(hagree c).1, (hagree c).2.1, (hagree c).2.2.2.2.2.1, (hagree c).2.2.2.2.2.2.1,
      (hagree c).2.2.2.2.2.2.2.1, (hagree c).2.2.2.2.2.2.2.2.1, (hagree c).2.2.2.2.2.2.2.2.2.1]
  · rw [(hagree c).1, (hagree c).2.1, (hagree c).2.2.2.2.2.2.2.2.2.2]

end Cert.Claim3
-- ==== Proof.Run4.lean ====
/-
  What every array holds when the calls have run, one after the other.
-/
module

public import proofs.«01_k».proof.Proof.Gen.Kernel4Ideal.Frame

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every run ends, with every array at the contents the last boundary names. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

end Cert.Kernel4Ideal.Gen
-- ==== Proof.RefDown.lean ====
/-
  The last product with the loss and its gradients, as the reference returns them: its arrays, read at an index.
-/
module

public import proofs.«01_k».proof.Proof.Gen.Reference4Ideal.Read
public import proofs.«01_k».proof.Proof.Norm

@[expose] public section

set_option maxRecDepth 16384

noncomputable section

namespace NormGrad

open Idealize.ShloMosaic

/-- One half, as the program spells it. -/
abbrev half : EReal := Ideal.ofBits .f32 0x3F000000#32
/-- One over the width, as the program spells it. -/
abbrev inv : EReal := Ideal.ofBits .f32 0x3A800000#32
theorem half_eq : half = ((1 / 2 : ℝ) : EReal) := by
  simp [half, Ideal.ofBits, Ideal.ieee, -EReal.coe_mul]; norm_num
theorem inv_eq : inv = ((1 / 1024 : ℝ) : EReal) := by
  simp [inv, Ideal.ofBits, Ideal.ieee, -EReal.coe_mul]; norm_num
theorem one_eq' : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Half the derivative of a square, over the width. -/
theorem scale_eq (z : EReal) :
    Ideal.div (half * Ideal.ofBits .f32 0x3F800000#32) width * (Ideal.ofBits .f32 0x40000000#32 * z) = z * inv := by
  rw [half_eq, one_eq', two_eq, width_eq, inv_eq, Ideal.div_coe (by norm_num), ← mul_assoc, ← EReal.coe_mul,
    ← EReal.coe_mul, ← EReal.coe_mul, mul_comm]
  congr 2
  norm_num

end NormGrad

namespace Cert.Reference4Ideal.Rows

open Idealize.ShloMosaic Idealize.ShloMosaic.TcCoe Idealize.SL.Sem
open Cert.Reference4Ideal Cert.Reference4Ideal.Read NormGrad

section
variable (x0 : FVec Ideal S4096x2816 .bf16) (x1 : FVec Ideal S2816x1024 .bf16) (x2 x3 : FVec Ideal S4096x1024 .f32)

/-- What an entry of the result is away from its target. -/
def err (s : Fin 4096) (d : Fin 1024) : EReal :=
  x2 (ix2 s d) + (∑ k : Fin 2816, x0 (ix2 s k) * x1 (ix2 k d)) - x3 (ix2 s d)

theorem err_at (s : Fin 4096) (d : Fin 1024) : val_main_v4 (F := Ideal) x0 x1 x2 x3 (ix2 s d) = err x0 x1 x2 x3 s d := by
  pointwise [val_main_v4, val_main_v3, val_main_v2, val_main_v1, val_main_v0, err]
/-- The gradient of the result. -/
theorem res0 (s : Fin 4096) (d : Fin 1024) :
    val_main_v18 (F := Ideal) x0 x1 x2 x3 (ix2 s d) = err x0 x1 x2 x3 s d * inv := by
  rw [← scale_eq]
  pointwise [val_main_v18, val_main_v17, val_main_v16, val_main_v15, val_main_v14, val_main_v13, val_main_cst_4,
    val_main_cst_5, val_main_cst_6, val_main_v7, val_main_v6, val_main_cst, err_at]
/-- The gradient of the product's left operand. -/
theorem res1 (s : Fin 4096) (k : Fin 2816) :
    val_main_v22 (F := Ideal) x0 x1 x2 x3 (ix2 s k) = ∑ d : Fin 1024, err x0 x1 x2 x3 s d * inv * x1 (ix2 k d) := by
  pointwise [val_main_v22, val_main_v21, res0, val_main_v1]
/-- The loss, in every entry of a tile. -/
theorem res2 (i : Fin 8) (j : Fin 128) :
    val_main_v23 (F := Ideal) x0 x1 x2 x3 (ix2 i j)
      = half * ∑ s : Fin 4096, Ideal.div (∑ d : Fin 1024, err x0 x1 x2 x3 s d * err x0 x1 x2 x3 s d) width := by
  pointwise [val_main_v23, val_main_v12, val_main_v11, val_main_v10, val_main_v9, val_main_v8, val_main_v5,
    val_main_cst_0, val_main_cst_1, val_main_cst_2, val_main_cst_3, err_at]
/-- The gradient of the weights. -/
theorem res3 (k : Fin 2816) (d : Fin 1024) :
    val_main_v24 (F := Ideal) x0 x1 x2 x3 (ix2 k d)
      = ∑ s : Fin 4096, x0 (ix2 s k) * (err x0 x1 x2 x3 s d * inv) := by
  rw [Finset.sum_congr rfl fun s _ => mul_comm (x0 (ix2 s k)) _]
  pointwise [val_main_v24, val_main_v20, val_main_v19, res0, val_main_v0]
end

end Cert.Reference4Ideal.Rows
-- ==== Proof.Down.lean ====
/-
  The last product with the loss, and the gradient of its weights, call by call: what each call leaves in its results,
  of whatever its arguments hold.
-/
module

public import proofs.«01_k».proof.Proof.Gen.Kernel4Ideal.Frame
public import proofs.«01_k».proof.Proof.RefDown
public import Idealize.ShloMosaic.Lib.Pipeline.ValueKit
public import Idealize.ShloMosaic.Lib.Pipeline.ReadBack

@[expose] public section

set_option maxRecDepth 16384

noncomputable section

namespace Cert.Kernel4Ideal.Points

open Idealize.ShloMosaic Idealize.ShloMosaic.TcCoe Idealize.SL.Sem
open Idealize.ShloMosaic.Pipeline (Dat)
open Cert.Kernel4Ideal Cert.Kernel4Ideal.Gen NormGrad
open Cert.Reference4Ideal.Rows (err)

section
variable (A : FVec Ideal S512x2816 .bf16) (W W' : FVec Ideal S2816x1024 .bf16) (X T : FVec Ideal S512x1024 .f32)
  (L : FVec Ideal S8x128 .f32)

/-- What an entry of a block is away from its target. -/
def errb (r : Fin 512) (d : Fin 1024) : EReal :=
  X (ix2 r d) + (∑ k : Fin 2816, A (ix2 r k) * W (ix2 k d)) - T (ix2 r d)
theorem err_pay (r : Fin 512) (d : Fin 1024) : k0_pay3 (F := Ideal) A W X T (ix2 r d) = errb A W X T r d := by
  pointwise [k0_pay3, errb]
theorem dy_pay (r : Fin 512) (d : Fin 1024) : k0_pay4 (F := Ideal) A W X T (ix2 r d) = errb A W X T r d * inv := by
  pointwise [k0_pay4, err_pay]
theorem dyb_pay (r : Fin 512) (d : Fin 1024) : k0_pay5 (F := Ideal) A W X T (ix2 r d) = errb A W X T r d * inv := by
  pointwise [k0_pay5, dy_pay]
theorem da_pay (r : Fin 512) (k : Fin 2816) :
    k0_pay6 (F := Ideal) A W X T W' (ix2 r k) = ∑ d : Fin 1024, errb A W X T r d * inv * W' (ix2 k d) := by
  pointwise [k0_pay6, dy_pay]
theorem l_pay (i : Fin 8) (j : Fin 128) :
    k0_pay1 (F := Ideal) (k0_pay7 (F := Ideal) A W X T) L (ix2 i j)
      = L (ix2 i j) + half * ∑ r : Fin 512, Ideal.div (∑ d : Fin 1024, errb A W X T r d * errb A W X T r d) width := by
  pointwise [k0_pay1, k0_pay7, err_pay]
end

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![0, 0] := (by decide +kernel : ∀ t : Fin grid0.N, _)
theorem idx1 : ∀ t : Fin cfg1.N, win1_0.index t = ![0, t.val] ∧ win1_1.index t = ![0, 0] ∧ win1_2.index t = ![t.val, 0] :=
  (by decide +kernel : ∀ t : Fin grid1.N, _)

theorem lt8 (t : Fin cfg0.N) : t.val < 8 := lt_of_lt_of_eq t.isLt (show cfg0.N = 8 from N_0)
/-- Row `r` of the block of point `t`, of 4096. -/
abbrev trow (t : Fin cfg0.N) (r : Fin 512) : Fin 4096 := ⟨t.val * 512 + r.val, by have := lt8 t; omega⟩

abbrev a0 : FVec Ideal S4096x2816 .bf16 := V c main_arg0
abbrev a1 : FVec Ideal S2816x1024 .bf16 := V c main_arg1
abbrev a2 : FVec Ideal S4096x1024 .f32 := V c main_arg2
abbrev a3 : FVec Ideal S4096x1024 .f32 := V c main_arg3

theorem err_blk (t : Fin cfg0.N) (r : Fin 512) (d : Fin 1024) :
    errb (iblk0 V c 0 t) (iblk0 V c 1 t) (iblk0 V c 2 t) (iblk0 V c 3 t) r d
      = err (a0 V c) (a1 V c) (a2 V c) (a3 V c) (trow t r) d := by
  rw [errb, err]
  blk_point [iblk0, idx0 t]
theorem w_blk (t : Fin cfg0.N) (k : Fin 2816) (d : Fin 1024) : iblk0 V c 1 t (ix2 k d) = a1 V c (ix2 k d) := by
  blk_ext [iblk0, idx0 t]

/-- The gradient of the result. -/
def dyV (x0 : FVec Ideal S4096x2816 .bf16) (x1 : FVec Ideal S2816x1024 .bf16) (x2 x3 : FVec Ideal S4096x1024 .f32) :
    FVec Ideal S4096x1024 .f32 := fun j => err x0 x1 x2 x3 (j 0) (j 1) * inv
/-- The gradient of the product's left operand. -/
def daV (x0 : FVec Ideal S4096x2816 .bf16) (x1 : FVec Ideal S2816x1024 .bf16) (x2 x3 : FVec Ideal S4096x1024 .f32) :
    FVec Ideal S4096x2816 .bf16 := fun j => ∑ d : Fin 1024, err x0 x1 x2 x3 (j 0) d * inv * x1 (ix2 (j 1) d)
/-- The loss. -/
def lossV (x0 : FVec Ideal S4096x2816 .bf16) (x1 : FVec Ideal S2816x1024 .bf16) (x2 x3 : FVec Ideal S4096x1024 .f32) :
    FVec Ideal S8x128 .f32 :=
  fun _ => half * ∑ s : Fin 4096, Ideal.div (∑ d : Fin 1024, err x0 x1 x2 x3 s d * err x0 x1 x2 x3 s d) width
/-- A product with a transposed left operand. -/
def dwV (x : FVec Ideal S4096x2816 .bf16) (g : FVec Ideal S4096x1024 .bf16) : FVec Ideal S2816x1024 .bf16 :=
  fun j => ∑ s : Fin 4096, x (ix2 s (j 0)) * g (ix2 s (j 1))

theorem dy_at (t : Fin cfg0.N) (r : Fin 512) (d : Fin 1024) :
    ((outsAt0 V c t.val t.isLt).1 : FVec Ideal S512x1024 .f32) (ix2 r d)
      = err (a0 V c) (a1 V c) (a2 V c) (a3 V c) (trow t r) d * inv := by
  by_cases h0 : t.val % 8 = 0
  · rw [outsAt0_A V c t h0]
    frame_out
    rw [← err_blk]
    exact dy_pay _ _ _ _ _ _
  · rw [outsAt0_B V c t h0]
    frame_out
    rw [← err_blk]
    exact dy_pay _ _ _ _ _ _
theorem dyb_at (t : Fin cfg0.N) (r : Fin 512) (d : Fin 1024) :
    ((outsAt0 V c t.val t.isLt).2.1 : FVec Ideal S512x1024 .bf16) (ix2 r d)
      = err (a0 V c) (a1 V c) (a2 V c) (a3 V c) (trow t r) d * inv := by
  by_cases h0 : t.val % 8 = 0
  · rw [outsAt0_A V c t h0]
    frame_out
    rw [← err_blk]
    exact dyb_pay _ _ _ _ _ _
  · rw [outsAt0_B V c t h0]
    frame_out
    rw [← err_blk]
    exact dyb_pay _ _ _ _ _ _
theorem da_at (t : Fin cfg0.N) (r : Fin 512) (k : Fin 2816) :
    ((outsAt0 V c t.val t.isLt).2.2.1 : FVec Ideal S512x2816 .bf16) (ix2 r k)
      = ∑ d : Fin 1024, err (a0 V c) (a1 V c) (a2 V c) (a3 V c) (trow t r) d * inv * a1 V c (ix2 k d) := by
  simp only [← err_blk, ← w_blk V c t]
  by_cases h0 : t.val % 8 = 0
  · rw [outsAt0_A V c t h0]
    frame_out
    exact da_pay _ _ _ _ _ _ _
  · rw [outsAt0_B V c t h0]
    frame_out
    exact da_pay _ _ _ _ _ _ _

/-- What a point adds to the loss. -/
def blkL (t : Fin cfg0.N) (_ : S8x128.Idx) : EReal :=
  half * ∑ r : Fin 512, Ideal.div (∑ d : Fin 1024, err (a0 V c) (a1 V c) (a2 V c) (a3 V c) (trow t r) d
    * err (a0 V c) (a1 V c) (a2 V c) (a3 V c) (trow t r) d) width
theorem l_A (t : Fin cfg0.N) (h0 : t.val % 8 = 0) (j : S8x128.Idx) :
    ((outsAt0 V c t.val t.isLt).2.2.2 : FVec Ideal S8x128 .f32) j = 0 + blkL V c t j := by
  simp only [blkL, ← err_blk]
  rw [outsAt0_A V c t h0]
  frame_open
  simp (disch := decide) only [↓ View.readCov_skip, ↓ View.readCov_cons_toLoadRect, ↓ View.readCov_fill]
  frame_out
  idx_vars j
  refine (l_pay _ _ _ _ _ _ _).trans (congrArg (· + _) ?_)
  pointwise [k0_pay2]
theorem l_B (t : Fin cfg0.N) (h0 : ¬ t.val % 8 = 0) (j : S8x128.Idx) :
    ((outsAt0 V c t.val t.isLt).2.2.2 : FVec Ideal S8x128 .f32) j
      = ((outsAt0 V c (t.val - 1) (Nat.lt_of_le_of_lt (Nat.sub_le _ _) t.isLt)).2.2.2 : FVec Ideal S8x128 .f32) j
        + blkL V c t j := by
  simp only [blkL, ← err_blk]
  rw [outsAt0_B V c t h0]
  frame_out
  idx_vars j
  exact l_pay _ _ _ _ _ _ _

theorem reg0_dy : (dat0 V c).arrAt 4 cfg0.N = dyV (a0 V c) (a1 V c) (a2 V c) (a3 V c) := by
  refine (dat0 V c).arrAt_eq_of_covers 4 _ (by decide +kernel) fun t hf y => ?_
  blk_simp
  rw [after0_4]
  obtain ⟨r, d, rfl⟩ : ∃ (r : Fin 512) (d : Fin 1024), y = ix2 r d := ⟨y 0, y 1, by idx_ext⟩
  exact (dy_at V c t r d).trans (congrArg (dyV (a0 V c) (a1 V c) (a2 V c) (a3 V c))
    (show ix2 (trow t r) d = _ by blk_ext [idx0 t]))
theorem reg0_dyb : (dat0 V c).arrAt 5 cfg0.N = dyV (a0 V c) (a1 V c) (a2 V c) (a3 V c) := by
  refine (dat0 V c).arrAt_eq_of_covers 5 _ (by decide +kernel) fun t hf y => ?_
  blk_simp
  rw [after0_5]
  obtain ⟨r, d, rfl⟩ : ∃ (r : Fin 512) (d : Fin 1024), y = ix2 r d := ⟨y 0, y 1, by idx_ext⟩
  exact (dyb_at V c t r d).trans (congrArg (dyV (a0 V c) (a1 V c) (a2 V c) (a3 V c))
    (show ix2 (trow t r) d = _ by blk_ext [idx0 t]))
theorem reg0_da : (dat0 V c).arrAt 6 cfg0.N = daV (a0 V c) (a1 V c) (a2 V c) (a3 V c) := by
  refine (dat0 V c).arrAt_eq_of_covers 6 _ (by decide +kernel) fun t hf y => ?_
  blk_simp
  rw [after0_6]
  obtain ⟨r, k, rfl⟩ : ∃ (r : Fin 512) (k : Fin 2816), y = ix2 r k := ⟨y 0, y 1, by idx_ext⟩
  have e : ((outsAt0 V c t.val t.isLt).2.2.1 : FVec Ideal S512x2816 .bf16) (ix2 r k)
      = daV (a0 V c) (a1 V c) (a2 V c) (a3 V c) (ix2 (trow t r) k) := by
    rw [da_at, daV]
    exact Finset.sum_congr rfl fun d _ => rfl
  refine Eq.trans (α := EReal) e ?_
  generalize daV (a0 V c) (a1 V c) (a2 V c) (a3 V c) = D
  blk_ext [idx0 t]
theorem reg0_loss : (dat0 V c).arrAt 7 cfg0.N = lossV (a0 V c) (a1 V c) (a2 V c) (a3 V c) := by
  refine (dat0 V c).arrAt_eq_of_after_last 7 t0_7 (by decide +kernel) _ fun j => ?_
  blk_simp
  rw [after0_7, Pipeline.eq_sum_fin_of_reset_step_apply_last (fun n h => (outsAt0 V c n h).2.2.2) 8 (fun _ => 0) _
    (fun t h j => l_A V c t h j) (fun t h j => l_B V c t h j) (le_of_eq N_0) t0_7 rfl j, zero_add]
  rw [lossV, half_eq]
  refine Eq.trans (α := EReal) ?_ (congrArg (fun z : EReal => ((1 / 2 : ℝ) : EReal) * z)
    (Fin.sum_univ_tiles 8 512 rfl _).symm)
  rw [MemGrad.coe_mul_sum _ _ (by norm_num)]
  refine Finset.sum_congr rfl fun p _ => ?_
  rw [blkL, half_eq]
theorem reg1 : (dat1 V c).arrAt 2 cfg1.N = dwV (V c main_arg0) (V c main_v0_1) := by
  refine (dat1 V c).arrAt_eq_of_covers 2 _ (by decide +kernel) fun t hf y => ?_
  blk_simp
  rw [after1_2]
  frame_out
  obtain ⟨r, d, rfl⟩ : ∃ (r : Fin 256) (d : Fin 1024), y = ix2 r d := ⟨y 0, y 1, by idx_ext⟩
  pointwise [k1_pay1]
  blk_point [iblk1, dwV, idx1 t]

end Cert.Kernel4Ideal.Points
-- ==== Proof.Claim4.lean ====
/-
  The last product with the loss, and the gradient of its weights: the reference's frame, and the equality of the
  results.
-/
module

public import proofs.«01_k».proof.Defs
public import proofs.«01_k».proof.Proof.Run4
public import proofs.«01_k».proof.Proof.Down
public import proofs.«01_k».proof.Proof.Gen.Reference4Ideal.Run
public import Idealize.ShloMosaic.Lib.Claim
public import Idealize.ShloMosaic.Adequacy
public import Idealize.ShloMosaic.Init

@[expose] public section

noncomputable section

namespace Cert.Claim4

open Idealize.ShloMosaic Idealize.ShloMosaic.TcCoe Idealize.SL.Sem Cert.Kernel4Ideal Cert.Kernel4Ideal.Gen
open Cert.Kernel4Ideal.Points Cert.Reference4Ideal.Read Cert.Reference4Ideal.Rows

theorem frame_reference : Cert.quiescent_Reference4Ideal (hReference4Ideal := Cert.Reference4Ideal.Gen.facts) :=
  fun m g _ => (θ_run Cert.Reference4Ideal.defs _ _).mono
    (fun r h => ⟨fun c => (h c).2.2.2.2, sem_eq_zero_of_no_sems (by decide) r.2⟩)
    (Cert.Reference4Ideal.Value.run (F := Ideal) m g)

section
variable (m : (ℓ : Loc nD τ sig) → Buf (Elt Ideal) ℓ) (ρ : Dev nD → PrngReg) (c : Dev nD)

abbrev x0 : FVec Ideal S4096x2816 .bf16 := m ((c : Thread nD τ).loc main_arg0)
abbrev x1 : FVec Ideal S2816x1024 .bf16 := m ((c : Thread nD τ).loc main_arg1)
abbrev x2 : FVec Ideal S4096x1024 .f32 := m ((c : Thread nD τ).loc main_arg2)
abbrev x3 : FVec Ideal S4096x1024 .f32 := m ((c : Thread nD τ).loc main_arg3)

theorem val_dy : W2 m ρ c (Proc.devRef .tc main_v0_0)
    = val_main_v18 (F := Ideal) (x0 m c) (x1 m c) (x2 m c) (x3 m c) := by
  refine (W2_of m ρ c main_v0_0 (by decide +kernel)).trans ((W1_arr m ρ c 4).trans ((reg0_dy (V0 m ρ) c).trans ?_))
  funext j
  obtain ⟨s, d, rfl⟩ : ∃ (s : Fin 4096) (d : Fin 1024), j = ix2 s d := ⟨j 0, j 1, by idx_ext⟩
  exact (res0 (x0 m c) (x1 m c) (x2 m c) (x3 m c) s d).symm
theorem val_da : W2 m ρ c (Proc.devRef .tc main_v0_2)
    = val_main_v22 (F := Ideal) (x0 m c) (x1 m c) (x2 m c) (x3 m c) := by
  refine (W2_of m ρ c main_v0_2 (by decide +kernel)).trans ((W1_arr m ρ c 6).trans ((reg0_da (V0 m ρ) c).trans ?_))
  funext j
  obtain ⟨s, d, rfl⟩ : ∃ (s : Fin 4096) (d : Fin 2816), j = ix2 s d := ⟨j 0, j 1, by idx_ext⟩
  exact (res1 (x0 m c) (x1 m c) (x2 m c) (x3 m c) s d).symm
theorem val_loss : W2 m ρ c (Proc.devRef .tc main_v0_3)
    = val_main_v23 (F := Ideal) (x0 m c) (x1 m c) (x2 m c) (x3 m c) := by
  refine (W2_of m ρ c main_v0_3 (by decide +kernel)).trans ((W1_arr m ρ c 7).trans ((reg0_loss (V0 m ρ) c).trans ?_))
  funext j
  obtain ⟨s, d, rfl⟩ : ∃ (s : Fin 8) (d : Fin 128), j = ix2 s d := ⟨j 0, j 1, by idx_ext⟩
  exact (res2 (x0 m c) (x1 m c) (x2 m c) (x3 m c) s d).symm
theorem val_dw : W2 m ρ c (Proc.devRef .tc main_v1)
    = val_main_v24 (F := Ideal) (x0 m c) (x1 m c) (x2 m c) (x3 m c) := by
  refine (W2_arr m ρ c 2).trans ((reg1 (V1 m ρ) c).trans ?_)
  have e1 : V1 m ρ c main_v0_1 = dyV (x0 m c) (x1 m c) (x2 m c) (x3 m c) :=
    (W1_arr m ρ c 5).trans (reg0_dyb (V0 m ρ) c)
  have e2 : V1 m ρ c main_arg0 = x0 m c := W1_args m ρ c main_arg0 (by decide)
  rw [e1, e2]
  funext j
  obtain ⟨s, d, rfl⟩ : ∃ (s : Fin 2816) (d : Fin 1024), j = ix2 s d := ⟨j 0, j 1, by idx_ext⟩
  exact (res3 (x0 m c) (x1 m c) (x2 m c) (x3 m c) s d).symm
end

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => val_main_v18 (F := Ideal) (x0 m c) (x1 m c) (x2 m c) (x3 m c),
    fun c => val_main_v22 (F := Ideal) (x0 m c) (x1 m c) (x2 m c) (x3 m c),
    fun c => val_main_v23 (F := Ideal) (x0 m c) (x1 m c) (x2 m c) (x3 m c),
    fun c => val_main_v24 (F := Ideal) (x0 m c) (x1 m c) (x2 m c) (x3 m c),
    θ_run_mono (run_all m g) fun r h c =>
      ⟨(h c _ (mem_uc main_v0_0 (by decide))).trans (val_dy m g c),
       (h c _ (mem_uc main_v0_2 (by decide))).trans (val_da m g c),
       (h c _ (mem_uc main_v0_3 (by decide))).trans (val_loss m g c),
       (h c _ (mem_uc main_v1 (by decide))).trans (val_dw m g c),
       (h c _ (mem_uc main_arg0 (by decide))).trans (W2_main_arg0 m g c),
       (h c _ (mem_uc main_arg1 (by decide))).trans (W2_main_arg1 m g c),
       (h c _ (mem_uc main_arg2 (by decide))).trans (W2_main_arg2 m g c),
       (h c _ (mem_uc main_arg3 (by decide))).trans (W2_main_arg3 m g c)⟩,
    θ_run_mono (Cert.Reference4Ideal.Value.run m' g') fun r h c =>
      ⟨(h c).1.trans ((val_main_v18_eq ..).trans ?_), (h c).2.1.trans ((val_main_v22_eq ..).trans ?_),
       (h c).2.2.1.trans ((val_main_v23_eq ..).trans ?_), (h c).2.2.2.1.trans ((val_main_v24_eq ..).trans ?_),
       (h c).2.2.2.2⟩⟩ <;>
    rw [(hagree c).1, (hagree c).2.1, (hagree c).2.2.1, (hagree c).2.2.2]

end Cert.Claim4
-- ==== Proof.Run5.lean ====
/-
  What every array holds when the calls have run, one after the other.
-/
module

public import proofs.«01_k».proof.Proof.Gen.Kernel5Ideal.Frame

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every run ends, with every array at the contents the last boundary names. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.Kernel5Ideal.Gen
-- ==== Proof.RefUp.lean ====
/-
  The gradient through the widening product, as the reference returns it: its arrays, read at an index.
-/
module

public import proofs.«01_k».proof.Proof.Gen.Reference5Ideal.Read
public import proofs.«01_k».proof.Proof.Norm

@[expose] public section

set_option maxRecDepth 16384

noncomputable section

namespace Cert.Reference5Ideal.Rows

open Idealize.ShloMosaic Idealize.ShloMosaic.TcCoe Idealize.SL.Sem
open Cert.Reference5Ideal Cert.Reference5Ideal.Read NormGrad

/-- Row `s` of the input. -/
abbrev row (x0 : FVec Ideal S4096x1024 .f32) (s : Fin 4096) : Fin 1024 → EReal := fun d => x0 (ix2 s d)

section
variable (x0 : FVec Ideal S4096x1024 .f32) (x1 : FVec Ideal S1x1024 .f32) (x2 : FVec Ideal S1024x5632 .bf16)
  (x3 x4 : FVec Ideal S4096x2816 .bf16) (x5 : FVec Ideal S4096x1024 .f32)

/-- Row `s` of the two parts, one after the other. -/
def parts (s : Fin 4096) (k : Fin 5632) : EReal := val_main_v0 (F := Ideal) x3 x4 (ix2 s k)
theorem parts0 (s : Fin 4096) (k : Fin 2816) : parts x3 x4 s ⟨k.val, by omega⟩ = x3 (ix2 s k) := by
  pointwise [parts, val_main_v0]
theorem parts1 (s : Fin 4096) (k : Fin 2816) : parts x3 x4 s ⟨2816 + k.val, by omega⟩ = x4 (ix2 s k) := by
  pointwise [parts, val_main_v0]
/-- A sum along the two parts is the two sums. -/
theorem parts_sum (s : Fin 4096) (f : Fin 5632 → EReal) :
    ∑ k, parts x3 x4 s k * f k
      = (∑ k : Fin 2816, x3 (ix2 s k) * f ⟨k.val, by omega⟩)
        + ∑ k : Fin 2816, x4 (ix2 s k) * f ⟨2816 + k.val, by omega⟩ := by
  refine (Fin.sum_univ_add (a := 2816) (b := 2816) _).trans (congrArg₂ (fun a b : EReal => a + b) ?_ ?_)
  · exact Finset.sum_congr rfl fun k _ => congrArg (· * _) (parts0 x3 x4 s k)
  · exact Finset.sum_congr rfl fun k _ => congrArg (· * _) (parts1 x3 x4 s k)

/-- The gradient of the normalized row with its gain. -/
def dh (s : Fin 4096) (d : Fin 1024) : EReal := ∑ k : Fin 5632, parts x3 x4 s k * x2 (ix2 d k)

theorem msq_at (s : Fin 4096) (u : Fin 1) : val_main_v9 (F := Ideal) x0 (ix2 s u) = msq width (row x0 s) := by
  pointwise [val_main_v9, val_main_v8, val_main_v7, val_main_v6, val_main_v5, val_main_v4, val_main_v3, val_main_cst,
    val_main_cst_0, val_main_cst_1, msq]
theorem rs_at (s : Fin 4096) (u : Fin 1) : val_main_v10 (F := Ideal) x0 (ix2 s u) = rsv width (row x0 s) := by
  pointwise [val_main_v10, msq_at, rsv]
theorem hat_at (s : Fin 4096) (d : Fin 1024) :
    val_main_v15 (F := Ideal) x0 (ix2 s d) = hat width (row x0 s) d := by
  pointwise [val_main_v15, val_main_v14, rs_at, hat]
theorem dh_at (s : Fin 4096) (d : Fin 1024) :
    val_main_v21 (F := Ideal) x2 x3 x4 (ix2 s d) = dh x2 x3 x4 s d := by
  pointwise [val_main_v21, val_main_v2, val_main_v1, dh, parts]
theorem dy_at (s : Fin 4096) (d : Fin 1024) :
    val_main_v26 (F := Ideal) x1 x2 x3 x4 (ix2 s d) = dh x2 x3 x4 s d * x1 (ix2 0 d) := by
  pointwise [val_main_v26, val_main_v25, dh_at]
theorem slope_at (s : Fin 4096) (d : Fin 1024) :
    val_main_v37 (F := Ideal) x0 x1 x2 x3 x4 (ix2 s d)
      = NormGrad.slope width (row x0 s) (fun e => dh x2 x3 x4 s e * x1 (ix2 0 e)) := by
  pointwise [val_main_v37, val_main_v36, val_main_v35, val_main_v34, val_main_v33, val_main_v29, val_main_v28,
    val_main_v27, val_main_v13, val_main_v12, val_main_v11, val_main_cst_2, val_main_cst_4, val_main_cst_5,
    val_main_cst_6, dy_at, rs_at, msq_at, NormGrad.slope]
  rw [Fin.sum_univ_one]
/-- The gradient of the input. -/
theorem resX (s : Fin 4096) (d : Fin 1024) :
    val_main_v41 (F := Ideal) x0 x1 x2 x3 x4 x5 (ix2 s d)
      = x5 (ix2 s d) + dx width (row x0 s) (fun e => dh x2 x3 x4 s e * x1 (ix2 0 e)) d := by
  rw [← dx_add]
  pointwise [val_main_v41, val_main_v40, val_main_v39, val_main_v38, val_main_v32, val_main_v31, val_main_v30,
    dy_at, rs_at, slope_at]
/-- The gradient of the gain. -/
theorem resG (u : Fin 1) (d : Fin 1024) :
    val_main_v24 (F := Ideal) x0 x2 x3 x4 (ix2 u d)
      = ∑ s : Fin 4096, hat width (row x0 s) d * dh x2 x3 x4 s d := by
  pointwise [val_main_v24, val_main_v23, val_main_v22, val_main_cst_3, hat_at, dh_at]
/-- The gradient of the weights. -/
theorem resW (p : Fin 1024) (q : Fin 5632) :
    val_main_v42 (F := Ideal) x0 x1 x3 x4 (ix2 p q)
      = ∑ s : Fin 4096, parts x3 x4 s q * (hat width (row x0 s) p * x1 (ix2 0 p)) := by
  pointwise [val_main_v42, val_main_v20, val_main_v19, val_main_v17, val_main_v16, val_main_v1, hat_at, parts]
end

end Cert.Reference5Ideal.Rows
-- ==== Proof.Up.lean ====
/-
  The gradient through the widening product, call by call: what each call leaves in its results, of whatever its
  arguments hold.
-/
module

public import proofs.«01_k».proof.Proof.Gen.Kernel5Ideal.Frame
public import proofs.«01_k».proof.Proof.RefUp
public import Idealize.ShloMosaic.Lib.Pipeline.ValueKit
public import Idealize.ShloMosaic.Lib.Pipeline.ReadBack

@[expose] public section

set_option maxRecDepth 16384

noncomputable section

namespace Cert.Kernel5Ideal.Points

open Idealize.ShloMosaic Idealize.ShloMosaic.TcCoe Idealize.SL.Sem
open Idealize.ShloMosaic.Pipeline (Dat)
open Cert.Kernel5Ideal Cert.Kernel5Ideal.Gen NormGrad
open Cert.Reference5Ideal.Rows (parts parts0 parts1 parts_sum dh)

section
variable (a0 : FVec Ideal S512x2816 .bf16) (b0 : FVec Ideal S1024x2816 .bf16) (a1 : FVec Ideal S512x2816 .bf16)
  (b1 : FVec Ideal S1024x2816 .bf16)
  (X E : FVec Ideal S512x1024 .f32) (R : FVec Ideal S512x1 .f32) (G A : FVec Ideal S1x1024 .f32)

theorem dh_pay (r : Fin 512) (d : Fin 1024) :
    k1_pay3 (F := Ideal) a0 b0 a1 b1 (ix2 r d)
      = (∑ k : Fin 2816, a0 (ix2 r k) * b0 (ix2 d k)) + ∑ k : Fin 2816, a1 (ix2 r k) * b1 (ix2 d k) := by
  pointwise [k1_pay3]
theorem dx_pay (r : Fin 512) (d : Fin 1024) (hR : R (ix2 r 0) = rsv width fun e => X (ix2 r e)) :
    k1_pay1 (F := Ideal) (k1_pay5 (F := Ideal) R) (k1_pay6 (F := Ideal) R X) (k1_pay8 (F := Ideal) a0 b0 a1 b1 G) E
        (k1_pay9 (F := Ideal) a0 b0 a1 b1 R X G) (k1_pay10 (F := Ideal)) (ix2 r d)
      = E (ix2 r d) + dx width (fun e => X (ix2 r e))
        (fun e => k1_pay3 (F := Ideal) a0 b0 a1 b1 (ix2 r e) * G (ix2 0 e)) d := by
  pointwise [k1_pay1, k1_pay5, k1_pay6, k1_pay8, k1_pay9, k1_pay10, dx, hat, hR]
theorem dg_pay (u : Fin 1) (d : Fin 1024) (hR : ∀ r, R (ix2 r 0) = rsv width fun e => X (ix2 r e)) :
    k1_pay7 (F := Ideal) a0 b0 a1 b1 R X A (ix2 u d)
      = A (ix2 u d) + ∑ r : Fin 512, hat width (fun e => X (ix2 r e)) d
        * k1_pay3 (F := Ideal) a0 b0 a1 b1 (ix2 r d) := by
  pointwise [k1_pay7, k1_pay5, k1_pay6, hat, hR]
  exact congrArg _ (Finset.sum_congr rfl fun r _ => mul_comm _ _)
end

variable (V : (c : Dev nD) → (b : Ref sig .tc) → Buf (Elt Ideal) ((c : Thread nD τ).loc b)) (c : Dev nD)

theorem idx0 : ∀ t : Fin cfg0.N, win0_0.index t = ![0, 0] ∧ win0_3.index t = ![0, t.val] :=
  (by decide +kernel : ∀ t : Fin grid0.N, _)
theorem idx0a : ∀ t : Fin cfg0.N, t.val < 11 → win0_1.index t = ![0, t.val] :=
  (by decide +kernel : ∀ t : Fin grid0.N, _)
theorem idx0b : ∀ t : Fin cfg0.N, 11 ≤ t.val → win0_2.index t = ![0, t.val - 11] :=
  (by decide +kernel : ∀ t : Fin grid0.N, _)
theorem idx1 : ∀ t : Fin cfg1.N, win1_0.index t = ![t.val, 0] ∧ win1_1.index t = ![0, 0] ∧ win1_2.index t = ![t.val, 0]
    ∧ win1_3.index t = ![0, 1] ∧ win1_4.index t = ![t.val, 0] ∧ win1_5.index t = ![t.val, 0]
    ∧ win1_6.index t = ![0, 0] ∧ win1_7.index t = ![t.val, 0] ∧ win1_8.index t = ![t.val, 0]
    ∧ win1_9.index t = ![t.val, 0] ∧ win1_10.index t = ![0, 0] := (by decide +kernel : ∀ t : Fin grid1.N, _)

theorem lt22 (t : Fin cfg0.N) : t.val < 22 := lt_of_lt_of_eq t.isLt (show cfg0.N = 22 from N_0)
theorem lt8 (t : Fin cfg1.N) : t.val < 8 := lt_of_lt_of_eq t.isLt (show cfg1.N = 8 from N_1)
/-- Row `r` of the block of point `t`, of 4096. -/
abbrev trow (t : Fin cfg1.N) (r : Fin 512) : Fin 4096 := ⟨t.val * 512 + r.val, by have := lt8 t; omega⟩
/-- Column `q` of the block of point `t`, of 5632. -/
abbrev tcol (t : Fin cfg0.N) (q : Fin 256) : Fin 5632 := ⟨t.val * 256 + q.val, by have := lt22 t; omega⟩

abbrev a0 : FVec Ideal S4096x1024 .f32 := V c main_arg0
abbrev a1 : FVec Ideal S1x1024 .f32 := V c main_arg1
abbrev a2 : FVec Ideal S1024x5632 .bf16 := V c main_arg2
abbrev a3 : FVec Ideal S4096x2816 .bf16 := V c main_arg3
abbrev a4 : FVec Ideal S4096x2816 .bf16 := V c main_arg4
abbrev a5 : FVec Ideal S4096x1024 .f32 := V c main_arg5
abbrev a13 : FVec Ideal S1024x4096 .bf16 := V c main_v13
abbrev a22 : FVec Ideal S4096x1 .f32 := V c main_v22

/-- The gradient of the weights. -/
def dwV (h : FVec Ideal S1024x4096 .bf16) (x3 x4 : FVec Ideal S4096x2816 .bf16) : FVec Ideal S1024x5632 .bf16 :=
  fun j => ∑ s : Fin 4096, h (ix2 (j 0) s) * parts x3 x4 s (j 1)
theorem dw_pay1 (h : FVec Ideal S1024x4096 .bf16) (g : FVec Ideal S4096x256 .bf16) (p : Fin 1024) (q : Fin 256) :
    k0_pay1 (F := Ideal) h g (ix2 p q) = ∑ s : Fin 4096, h (ix2 p s) * g (ix2 s q) := by
  pointwise [k0_pay1]
theorem dw_pay2 (h : FVec Ideal S1024x4096 .bf16) (g : FVec Ideal S4096x256 .bf16) (p : Fin 1024) (q : Fin 256) :
    k0_pay2 (F := Ideal) h g (ix2 p q) = ∑ s : Fin 4096, h (ix2 p s) * g (ix2 s q) := by
  pointwise [k0_pay2]
theorem h_blk (t : Fin cfg0.N) (p : Fin 1024) (s : Fin 4096) : iblk0 V c 0 t (ix2 p s) = a13 V c (ix2 p s) := by
  blk_ext [iblk0, idx0 t]
theorem dw_at (t : Fin cfg0.N) (p : Fin 1024) (q : Fin 256) :
    (outsAt0 V c t.val t.isLt : FVec Ideal S1024x256 .bf16) (ix2 p q)
      = ∑ s : Fin 4096, a13 V c (ix2 p s) * parts (a3 V c) (a4 V c) s (tcol t q) := by
  have ht := lt22 t
  by_cases h0 : t.val < 11
  · rw [outsAt0_A V c t h0 (by omega)]
    frame_out
    refine (dw_pay1 _ _ _ _).trans (Finset.sum_congr rfl fun s _ => ?_)
    refine congrArg₂ (fun a b : EReal => a * b) (h_blk V c t p s)
      (Eq.trans ?_ (parts0 (a3 V c) (a4 V c) s ⟨t.val * 256 + q.val, by omega⟩).symm)
    blk_ext [iblk0, idx0a t h0]
  · rw [outsAt0_B V c t h0 (by omega)]
    frame_out
    refine (dw_pay2 _ _ _ _).trans (Finset.sum_congr rfl fun s _ => ?_)
    refine congrArg₂ (fun a b : EReal => a * b) (h_blk V c t p s)
      (Eq.trans ?_ ((parts1 (a3 V c) (a4 V c) s ⟨(t.val - 11) * 256 + q.val, by omega⟩).symm.trans
        (congrArg (parts (a3 V c) (a4 V c) s) (Fin.ext (by simp only; omega)))))
    blk_ext [iblk0, idx0b t (by omega)]
theorem reg0 : (dat0 V c).arrAt 3 cfg0.N = dwV (a13 V c) (a3 V c) (a4 V c) := by
  refine (dat0 V c).arrAt_eq_of_covers 3 _ (by decide +kernel) fun t hf y => ?_
  blk_simp
  rw [after0_3]
  obtain ⟨p, q, rfl⟩ : ∃ (p : Fin 1024) (q : Fin 256), y = ix2 p q := ⟨y 0, y 1, by idx_ext⟩
  have e : (outsAt0 V c t.val t.isLt : FVec Ideal S1024x256 .bf16) (ix2 p q)
      = dwV (a13 V c) (a3 V c) (a4 V c) (ix2 p (tcol t q)) := by
    rw [dw_at, dwV]
    exact Finset.sum_congr rfl fun d _ => rfl
  refine Eq.trans (α := EReal) e ?_
  generalize dwV (a13 V c) (a3 V c) (a4 V c) = D
  blk_ext [idx0 t]

section
variable (hR : ∀ s, a22 V c (ix2 s 0) = rsv width fun e => a0 V c (ix2 s e))

theorem x_blk (t : Fin cfg1.N) (r : Fin 512) (e : Fin 1024) : iblk1 V c 4 t (ix2 r e) = a0 V c (ix2 (trow t r) e) := by
  blk_ext [iblk1, idx1 t]
include hR in
theorem r_blk (t : Fin cfg1.N) (r : Fin 512) :
    iblk1 V c 5 t (ix2 r 0) = rsv width fun e => iblk1 V c 4 t (ix2 r e) := by
  simp only [x_blk]
  rw [← hR]
  blk_ext [iblk1, idx1 t]

/-- The gradient of the normalized rows of a point. -/
abbrev dhb (t : Fin cfg1.N) : FVec Ideal S512x1024 .f32 :=
  k1_pay3 (F := Ideal) (iblk1 V c 0 t) (iblk1 V c 1 t) (iblk1 V c 2 t) (iblk1 V c 3 t)
theorem dhb_at (t : Fin cfg1.N) (r : Fin 512) (d : Fin 1024) :
    dhb V c t (ix2 r d) = dh (a2 V c) (a3 V c) (a4 V c) (trow t r) d := by
  refine (dh_pay _ _ _ _ r d).trans ?_
  rw [dh, parts_sum]
  blk_point [iblk1, idx1 t]

/-- The block of the gradient to add. -/
abbrev dyb (t : Fin cfg1.N) : FVec Ideal S512x1024 .f32 := iblk1 V c 7 t
/-- The block of the input's gradient that a point writes. -/
def blkX (t : Fin cfg1.N) (j : S512x1024.Idx) : EReal :=
  dyb V c t j + dx width (fun e => iblk1 V c 4 t (ix2 (j 0) e))
    (fun e => dhb V c t (ix2 (j 0) e) * iblk1 V c 6 t (ix2 0 e)) (j 1)
/-- What a point adds to the gain's gradient. -/
def blkG (t : Fin cfg1.N) (j : S1x1024.Idx) : EReal :=
  ∑ r : Fin 512, hat width (fun e => iblk1 V c 4 t (ix2 r e)) (j 1) * dhb V c t (ix2 r (j 1))

include hR in
theorem x_at (t : Fin cfg1.N) (j : S512x1024.Idx) :
    ((outsAt1 V c t.val t.isLt).1 : FVec Ideal S512x1024 .f32) j = blkX V c t j := by
  by_cases h0 : t.val % 8 = 0
  · rw [outsAt1_A V c t h0]
    frame_out
    idx_vars j
    exact dx_pay _ _ _ _ _ _ _ _ _ _ (r_blk V c hR t _)
  · rw [outsAt1_B V c t h0]
    frame_out
    idx_vars j
    exact dx_pay _ _ _ _ _ _ _ _ _ _ (r_blk V c hR t _)
include hR in
theorem g_A (t : Fin cfg1.N) (h0 : t.val % 8 = 0) (j : S1x1024.Idx) :
    ((outsAt1 V c t.val t.isLt).2.2 : FVec Ideal S1x1024 .f32) j = 0 + blkG V c t j := by
  rw [outsAt1_A V c t h0]
  frame_open
  simp (disch := decide) only [↓ View.readCov_skip, ↓ View.readCov_cons_toLoadRect, ↓ View.readCov_fill]
  frame_out
  idx_vars j
  refine (dg_pay _ _ _ _ _ _ _ _ _ (r_blk V c hR t)).trans (congrArg (· + _) ?_)
  pointwise [k1_pay4]
include hR in
theorem g_B (t : Fin cfg1.N) (h0 : ¬ t.val % 8 = 0) (j : S1x1024.Idx) :
    ((outsAt1 V c t.val t.isLt).2.2 : FVec Ideal S1x1024 .f32) j
      = ((outsAt1 V c (t.val - 1) (Nat.lt_of_le_of_lt (Nat.sub_le _ _) t.isLt)).2.2 : FVec Ideal S1x1024 .f32) j
        + blkG V c t j := by
  rw [outsAt1_B V c t h0]
  frame_out
  idx_vars j
  exact dg_pay _ _ _ _ _ _ _ _ _ (r_blk V c hR t)

/-- The gradient of the input. -/
def dxV (x0 : FVec Ideal S4096x1024 .f32) (x1 : FVec Ideal S1x1024 .f32) (x2 : FVec Ideal S1024x5632 .bf16)
    (x3 x4 : FVec Ideal S4096x2816 .bf16) (x5 : FVec Ideal S4096x1024 .f32) : FVec Ideal S4096x1024 .f32 :=
  fun j => x5 (ix2 (j 0) (j 1))
    + dx width (fun e => x0 (ix2 (j 0) e)) (fun e => dh x2 x3 x4 (j 0) e * x1 (ix2 0 e)) (j 1)
/-- The gradient of the gain. -/
def dgV (x0 : FVec Ideal S4096x1024 .f32) (x2 : FVec Ideal S1024x5632 .bf16) (x3 x4 : FVec Ideal S4096x2816 .bf16) :
    FVec Ideal S1x1024 .f32 :=
  fun j => ∑ s : Fin 4096, hat width (fun e => x0 (ix2 s e)) (j 1) * dh x2 x3 x4 s (j 1)

include hR in
theorem reg1_dx : (dat1 V c).arrAt 8 cfg1.N = dxV (a0 V c) (a1 V c) (a2 V c) (a3 V c) (a4 V c) (a5 V c) := by
  refine (dat1 V c).arrAt_eq_of_covers 8 _ (by decide +kernel) fun t hf y => ?_
  blk_simp
  rw [after1_8]
  obtain ⟨r, d, rfl⟩ : ∃ (r : Fin 512) (d : Fin 1024), y = ix2 r d := ⟨y 0, y 1, by idx_ext⟩
  have e : ((outsAt1 V c t.val t.isLt).1 : FVec Ideal S512x1024 .f32) (ix2 r d)
      = dxV (a0 V c) (a1 V c) (a2 V c) (a3 V c) (a4 V c) (a5 V c) (ix2 (trow t r) d) := by
    refine (x_at V c hR t _).trans ?_
    show dyb V c t (ix2 r d) + dx width (fun e => iblk1 V c 4 t (ix2 r e))
      (fun e => dhb V c t (ix2 r e) * iblk1 V c 6 t (ix2 0 e)) d
      = a5 V c (ix2 (trow t r) d) + dx width (fun e => a0 V c (ix2 (trow t r) e))
        (fun e => dh (a2 V c) (a3 V c) (a4 V c) (trow t r) e * a1 V c (ix2 0 e)) d
    simp only [dhb_at, x_blk]
    have e6 (e : Fin 1024) : iblk1 V c 6 t (ix2 0 e) = a1 V c (ix2 0 e) := by blk_ext [iblk1, idx1 t]
    have e7 : dyb V c t (ix2 r d) = a5 V c (ix2 (trow t r) d) := by blk_ext [iblk1, idx1 t]
    simp only [e6, e7]
  refine Eq.trans (α := EReal) e ?_
  generalize dxV (a0 V c) (a1 V c) (a2 V c) (a3 V c) (a4 V c) (a5 V c) = D
  blk_ext [idx1 t]
include hR in
theorem reg1_dg : (dat1 V c).arrAt 10 cfg1.N = dgV (a0 V c) (a2 V c) (a3 V c) (a4 V c) := by
  refine (dat1 V c).arrAt_eq_of_after_last 10 t1_7 (by decide +kernel) _ fun j => ?_
  blk_simp
  rw [after1_10, Pipeline.eq_sum_fin_of_reset_step_apply_last (fun n h => (outsAt1 V c n h).2.2) 8 (fun _ => 0) _
    (fun t h j => g_A V c hR t h j) (fun t h j => g_B V c hR t h j) (le_of_eq N_1) t1_7 rfl j, zero_add]
  obtain ⟨u, d, rfl⟩ : ∃ (u : Fin 1) (d : Fin 1024), j = ix2 u d := ⟨j 0, j 1, by idx_ext⟩
  refine Eq.trans (α := EReal) ?_ (Fin.sum_univ_tiles 8 512 rfl _).symm
  refine Finset.sum_congr rfl fun p _ => ?_
  show ∑ r : Fin 512, hat width (fun e => iblk1 V c 4 p (ix2 r e)) d * dhb V c p (ix2 r d) = _
  simp only [dhb_at, x_blk]
  exact Finset.sum_congr rfl fun r _ => rfl
end

end Cert.Kernel5Ideal.Points
-- ==== Proof.Claim5.lean ====
/-
  The gradient through the widening product: the reference's frame, and the equality of the results.
-/
module

public import proofs.«01_k».proof.Defs
public import proofs.«01_k».proof.Proof.Run5
public import proofs.«01_k».proof.Proof.Up
public import proofs.«01_k».proof.Proof.Gen.Reference5Ideal.Run
public import Idealize.ShloMosaic.Lib.Claim
public import Idealize.ShloMosaic.Adequacy
public import Idealize.ShloMosaic.Init

@[expose] public section

set_option maxRecDepth 16384

noncomputable section

namespace Cert.Claim5

open Idealize.ShloMosaic Idealize.ShloMosaic.TcCoe Idealize.SL.Sem Cert.Kernel5Ideal Cert.Kernel5Ideal.Gen
open Cert.Kernel5Ideal.Points Cert.Reference5Ideal.Read Cert.Reference5Ideal.Rows NormGrad

theorem frame_reference : Cert.quiescent_Reference5Ideal (hReference5Ideal := Cert.Reference5Ideal.Gen.facts) :=
  fun m g _ => (θ_run Cert.Reference5Ideal.defs _ _).mono
    (fun r h => ⟨fun c => (h c).2.2.2, sem_eq_zero_of_no_sems (by decide) r.2⟩)
    (Cert.Reference5Ideal.Value.run (F := Ideal) m g)

section
variable (m : (ℓ : Loc nD τ sig) → Buf (Elt Ideal) ℓ) (ρ : Dev nD → PrngReg) (c : Dev nD)

abbrev x0 : FVec Ideal S4096x1024 .f32 := m ((c : Thread nD τ).loc main_arg0)
abbrev x1 : FVec Ideal S1x1024 .f32 := m ((c : Thread nD τ).loc main_arg1)
abbrev x2 : FVec Ideal S1024x5632 .bf16 := m ((c : Thread nD τ).loc main_arg2)
abbrev x3 : FVec Ideal S4096x2816 .bf16 := m ((c : Thread nD τ).loc main_arg3)
abbrev x4 : FVec Ideal S4096x2816 .bf16 := m ((c : Thread nD τ).loc main_arg4)
abbrev x5 : FVec Ideal S4096x1024 .f32 := m ((c : Thread nD τ).loc main_arg5)

/-- The normalized rows the host hands over. -/
theorem h_at (p : Fin 1024) (s : Fin 4096) :
    (StableHlo.after hostOps0 (W0 m ρ c) (Proc.devRef .tc main_v13) : FVec Ideal S1024x4096 .bf16) (ix2 p s)
      = hat width (fun e => x0 m c (ix2 s e)) p * x1 m c (ix2 0 p) := by
  entry_read
  pointwise [hat, rsv, msq]
/-- The normalizers the host hands over. -/
theorem r_at (s : Fin 4096) :
    (StableHlo.after hostOps1 (W2 m ρ c) (Proc.devRef .tc main_v22) : FVec Ideal S4096x1 .f32) (ix2 s 0)
      = rsv width fun e => x0 m c (ix2 s e) := by
  have e0 : W2 m ρ c (Proc.devRef .tc main_arg0) = x0 m c := W2_args m ρ c main_arg0 (by decide)
  entry_read
  rw [e0]
  pointwise [rsv, msq]

theorem e30 : V3 m ρ c main_arg0 = x0 m c := W3_args m ρ c main_arg0 (by decide)
theorem hR (s : Fin 4096) : a22 (V3 m ρ) c (ix2 s 0) = rsv width fun e => a0 (V3 m ρ) c (ix2 s e) := by
  rw [a0, e30]
  exact r_at m ρ c s

theorem val_dx : W4 m ρ c (Proc.devRef .tc main_v23_0)
    = val_main_v41 (F := Ideal) (x0 m c) (x1 m c) (x2 m c) (x3 m c) (x4 m c) (x5 m c) := by
  refine (W4_arr m ρ c 8).trans ((reg1_dx (V3 m ρ) c (hR m ρ c)).trans ?_)
  have e1 : V3 m ρ c main_arg1 = x1 m c := W3_args m ρ c main_arg1 (by decide)
  have e2 : V3 m ρ c main_arg2 = x2 m c := W3_args m ρ c main_arg2 (by decide)
  have e3 : V3 m ρ c main_arg3 = x3 m c := W3_args m ρ c main_arg3 (by decide)
  have e4 : V3 m ρ c main_arg4 = x4 m c := W3_args m ρ c main_arg4 (by decide)
  have e5 : V3 m ρ c main_arg5 = x5 m c := W3_args m ρ c main_arg5 (by decide)
  rw [a0, a1, a2, a3, a4, a5, e30, e1, e2, e3, e4, e5]
  funext j
  obtain ⟨s, d, rfl⟩ : ∃ (s : Fin 4096) (d : Fin 1024), j = ix2 s d := ⟨j 0, j 1, by idx_ext⟩
  exact (resX (x0 m c) (x1 m c) (x2 m c) (x3 m c) (x4 m c) (x5 m c) s d).symm
theorem val_dg : W4 m ρ c (Proc.devRef .tc main_v23_2)
    = val_main_v24 (F := Ideal) (x0 m c) (x2 m c) (x3 m c) (x4 m c) := by
  refine (W4_arr m ρ c 10).trans ((reg1_dg (V3 m ρ) c (hR m ρ c)).trans ?_)
  have e2 : V3 m ρ c main_arg2 = x2 m c := W3_args m ρ c main_arg2 (by decide)
  have e3 : V3 m ρ c main_arg3 = x3 m c := W3_args m ρ c main_arg3 (by decide)
  have e4 : V3 m ρ c main_arg4 = x4 m c := W3_args m ρ c main_arg4 (by decide)
  rw [a0, a2, a3, a4, e30, e2, e3, e4]
  funext j
  obtain ⟨s, d, rfl⟩ : ∃ (s : Fin 1) (d : Fin 1024), j = ix2 s d := ⟨j 0, j 1, by idx_ext⟩
  exact (resG (x0 m c) (x2 m c) (x3 m c) (x4 m c) s d).symm
theorem val_dw : W4 m ρ c (Proc.devRef .tc main_v14)
    = val_main_v42 (F := Ideal) (x0 m c) (x1 m c) (x3 m c) (x4 m c) := by
  refine (W4_of m ρ c main_v14 (by decide +kernel)).trans ((W3_of m ρ c main_v14 (by decide +kernel)).trans
    ((W2_arr m ρ c 3).trans ((reg0 (V1 m ρ) c).trans ?_)))
  have e3 : V1 m ρ c main_arg3 = x3 m c := W1_args m ρ c main_arg3 (by decide)
  have e4 : V1 m ρ c main_arg4 = x4 m c := W1_args m ρ c main_arg4 (by decide)
  rw [a3, a4, e3, e4]
  funext j
  obtain ⟨s, d, rfl⟩ : ∃ (s : Fin 1024) (d : Fin 5632), j = ix2 s d := ⟨j 0, j 1, by idx_ext⟩
  refine Eq.trans (α := EReal) ?_ (resW (x0 m c) (x1 m c) (x3 m c) (x4 m c) s d).symm
  refine Finset.sum_congr rfl fun k _ => ?_
  exact (mul_comm _ _).trans (congrArg (parts (x3 m c) (x4 m c) k d * ·) (h_at m ρ c s k))
end

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => val_main_v41 (F := Ideal) (x0 m c) (x1 m c) (x2 m c) (x3 m c) (x4 m c) (x5 m c),
    fun c => val_main_v24 (F := Ideal) (x0 m c) (x2 m c) (x3 m c) (x4 m c),
    fun c => val_main_v42 (F := Ideal) (x0 m c) (x1 m c) (x3 m c) (x4 m c),
    θ_run_mono (run_all m g) fun r h c =>
      ⟨(h c _ (mem_uc main_v23_0 (by decide))).trans (val_dx m g c),
       (h c _ (mem_uc main_v23_2 (by decide))).trans (val_dg m g c),
       (h c _ (mem_uc main_v14 (by decide))).trans (val_dw m g c),
       (h c _ (mem_uc main_arg0 (by decide))).trans (W4_main_arg0 m g c),
       (h c _ (mem_uc main_arg1 (by decide))).trans (W4_main_arg1 m g c),
       (h c _ (mem_uc main_arg2 (by decide))).trans (W4_main_arg2 m g c),
       (h c _ (mem_uc main_arg3 (by decide))).trans (W4_main_arg3 m g c),
       (h c _ (mem_uc main_arg4 (by decide))).trans (W4_main_arg4 m g c),
       (h c _ (mem_uc main_arg5 (by decide))).trans (W4_main_arg5 m g c)⟩,
    θ_run_mono (Cert.Reference5Ideal.Value.run m' g') fun r h c =>
      ⟨(h c).1.trans ((val_main_v41_eq m' c).trans ?_), (h c).2.1.trans ((val_main_v24_eq ..).trans ?_),
       (h c).2.2.1.trans ((val_main_v42_eq ..).trans ?_), (h c).2.2.2⟩⟩
  · rw [(hagree c).1, (hagree c).2.1, (hagree c).2.2.1, (hagree c).2.2.2.1, (hagree c).2.2.2.2.1, (hagree c).2.2.2.2.2]
  · rw [(hagree c).1, (hagree c).2.2.1, (hagree c).2.2.2.1, (hagree c).2.2.2.2.1]
  · rw [(hagree c).1, (hagree c).2.1, (hagree c).2.2.2.1, (hagree c).2.2.2.2.1]

end Cert.Claim5
-- ==== Proof.RefConv.lean ====
/-
  The widening product of the normalized rows, its short causal convolution and its gate, as the reference returns them:
  its arrays, read at an index.
-/
module

public import proofs.«01_k».proof.Proof.Gen.Reference6Ideal.Read
public import proofs.«01_k».proof.Proof.RefForward

@[expose] public section

set_option maxRecDepth 16384

noncomputable section

namespace Cert.Reference6Ideal.Rows

open Idealize.ShloMosaic Idealize.ShloMosaic.TcCoe Idealize.SL.Sem
open Cert.Reference6Ideal Cert.Reference6Ideal.Read NormGrad

section
variable (x0 : FVec Ideal S4096x1024 .f32) (x1 : FVec Ideal S1x1024 .f32) (x2 : FVec Ideal S1024x5632 .bf16)
  (x3 : FVec Ideal S3x5632 .f32) (x4 : FVec Ideal S1x5632 .f32)

/-- The normalized row `s` with its gain. -/
def h (s : Fin 4096) (d : Fin 1024) : EReal := hat width (fun e => x0 (ix2 s e)) d * x1 (ix2 0 d)
/-- The widened row `s`. -/
def u (s : Fin 4096) (q : Fin 5632) : EReal := ∑ k, h x0 x1 s k * x2 (ix2 k q)
/-- The widened row `n` rows before `s`; zero before the first. -/
def sh (n : ℕ) (s : Fin 4096) (q : Fin 5632) : EReal :=
  if n ≤ s.val then u x0 x1 x2 ⟨s.val - n, by omega⟩ q else 0
/-- The convolution with its bias. -/
def cv (s : Fin 4096) (q : Fin 5632) : EReal :=
  x4 (ix2 0 q) + x3 (ix2 0 q) * sh x0 x1 x2 2 s q + x3 (ix2 1 q) * sh x0 x1 x2 1 s q + x3 (ix2 2 q) * u x0 x1 x2 s q
/-- The gated row. -/
def ac (s : Fin 4096) (d : Fin 2816) : EReal :=
  cv x0 x1 x2 x3 x4 s ⟨d.val, by omega⟩ * sigm (cv x0 x1 x2 x3 x4 s ⟨d.val, by omega⟩)
    * cv x0 x1 x2 x3 x4 s ⟨2816 + d.val, by omega⟩

theorem h_at (s : Fin 4096) (d : Fin 1024) : val_main_v11 (F := Ideal) x0 x1 (ix2 s d) = h x0 x1 s d := by
  pointwise [val_main_v11, val_main_v10, val_main_v9, val_main_v8, val_main_v7, val_main_v6, val_main_v5, val_main_v4,
    val_main_v3, val_main_v2, val_main_v1, val_main_v0, val_main_cst, val_main_cst_0, val_main_cst_1, msq, h, hat, rsv]
theorem u_at (s : Fin 4096) (q : Fin 5632) :
    val_main_v13 (F := Ideal) x0 x1 x2 (ix2 s q) = u x0 x1 x2 s q := by
  pointwise [val_main_v13, val_main_v12, h_at, u]
/-- The normalized rows, transposed. -/
theorem res0 (d : Fin 1024) (s : Fin 4096) : val_main_v40 (F := Ideal) x0 x1 (ix2 d s) = h x0 x1 s d := by
  pointwise [val_main_v40, val_main_v39, h_at]
/-- The widened rows. -/
theorem res1 (s : Fin 4096) (q : Fin 5632) :
    val_main_v41 (F := Ideal) x0 x1 x2 (ix2 s q) = u x0 x1 x2 s q := by
  pointwise [val_main_v41, u_at]

theorem pad_zero : (FloatOps.sitofp (F := Ideal) FTy.f32 0#32 : EReal) = 0 := by
  show (((0#32 : BitVec 32).toInt : ℝ) : EReal) = 0
  simp
theorem sh2_at (s : Fin 4096) (q : Fin 5632) :
    val_main_v17 (F := Ideal) x0 x1 x2 (ix2 s q) = sh x0 x1 x2 2 s q := by
  pointwise [val_main_v17, val_main_v14, val_main_call0_v0, val_main_c, u_at, sh]
  by_cases hs : 2 ≤ s.val
  · rw [dif_pos ⟨hs, by omega⟩, if_pos hs]
  · rw [dif_neg (by omega), if_neg hs]; exact pad_zero
theorem sh1_at (s : Fin 4096) (q : Fin 5632) :
    val_main_v25 (F := Ideal) x0 x1 x2 (ix2 s q) = sh x0 x1 x2 1 s q := by
  pointwise [val_main_v25, val_main_v14, val_main_call0_v0, val_main_c, u_at, sh]
  by_cases hs : 1 ≤ s.val
  · rw [dif_pos ⟨by omega, by omega⟩, if_pos hs]
    exact congrArg (fun n => u x0 x1 x2 n q) (Fin.ext (by simp only; omega))
  · rw [dif_neg (by omega), if_neg hs]; exact pad_zero
theorem sh0_at (s : Fin 4096) (q : Fin 5632) :
    val_main_v32 (F := Ideal) x0 x1 x2 (ix2 s q) = u x0 x1 x2 s q := by
  pointwise [val_main_v32, val_main_v14, val_main_call0_v0, val_main_c, u_at]
theorem cv_at (s : Fin 4096) (q : Fin 5632) :
    val_main_v36 (F := Ideal) x0 x1 x2 x3 x4 (ix2 s q) = cv x0 x1 x2 x3 x4 s q := by
  pointwise [val_main_v36, val_main_v35, val_main_v34, val_main_v33, val_main_v31, val_main_v30, val_main_v29,
    val_main_v28, val_main_v27, val_main_v26, val_main_v24, val_main_v23, val_main_v22, val_main_v21, val_main_v20,
    val_main_v19, val_main_v18, val_main_v16, val_main_v15, sh2_at, sh1_at, sh0_at, cv]
/-- The gated rows. -/
theorem res2 (s : Fin 4096) (d : Fin 2816) :
    val_main_v44 (F := Ideal) x0 x1 x2 x3 x4 (ix2 s d) = ac x0 x1 x2 x3 x4 s d := by
  pointwise [val_main_v44, val_main_v43, val_main_v42, val_main_v38, val_main_v37, val_main_call1_v5,
    val_main_call1_v4, val_main_call1_v3, val_main_call1_v2, val_main_call1_v1, val_main_call1_v0, val_main_call1_cst,
    val_main_call1_cst_0, cv_at, ac, sigm, one]
end

end Cert.Reference6Ideal.Rows
-- ==== Proof.ConvPay.lean ====
/-
  One tile of the widening product of normalized rows, of its short causal convolution and of its gate: the kernel's
  operations on a tile of 256 columns, read at an index.
-/
module

public import proofs.«01_k».proof.Proof.Gen.Kernel6Ideal.Skeleton
public import proofs.«01_k».proof.Proof.RefForward
public import Idealize.ShloMosaic.Lib.Pipeline.ValueKit
public import Idealize.ShloMosaic.Lib.Pipeline.ReadBack

@[expose] public section

set_option maxRecDepth 16384

noncomputable section

namespace Cert.Kernel6Ideal.Points

open Idealize.ShloMosaic Idealize.ShloMosaic.TcCoe Idealize.SL.Sem
open Cert.Kernel6Ideal Cert.Kernel6Ideal.Gen NormGrad

section
variable (H : FVec Ideal S512x1024 .bf16) (W : FVec Ideal S1024x256 .bf16) (P : FVec Ideal S1x8x256 .f32)
  (u a g : FVec Ideal S512x256 .f32) (b c0 c1 c2 : FVec Ideal S1x256 .f32)

/-- The number of the row. -/
abbrev rows : IVec S512x256 32 := iota .tc S512x256 32 [0] iota_S512x256_d0_w32
/-- The rows of a tile that carry the number `k`. -/
abbrev isRow (k : BitVec 32) : IVec S512x256 1 := cmpi .eq rows (broadcast S512x256 k)
/-- Row `k` of eight, picked by a sum over all eight. -/
abbrev pick (k : BitVec 32) : FVec Ideal S512x256 .f32 :=
  broadcastTo S512x256 (shapeCast S1x256 (shapeCast S1x256 (multiReduction .add [0] S256
    (select (cmpi .eq (iota .tc S8x256 32 [0] iota_S8x256_d0_w32) (broadcast S8x256 k))
      (shapeCast S8x256 P shapeCasts_S1x8x256_S8x256 : FVec Ideal S8x256 .f32)
      (broadcast S8x256 (Scalar.ofBits .f32 0x00000000#32))) 0x00000000#32 reduces_S8x256_S256 (.inl rfl) rfl)
    shapeCasts_S256_S1x256) shapeCasts_S1x256_S1x256) broadcasts_S1x256_S512x256
/-- The tile moved down by one row. -/
abbrev up1 : FVec Ideal S512x256 .f32 := select (isRow 0#32) (pick P 7#32) (dynamicRotate 0 1#32 none u rotates_S512x256_d0)
/-- The tile moved down by two rows. -/
abbrev up2 : FVec Ideal S512x256 .f32 :=
  select (isRow 0#32) (pick P 6#32) (select (isRow 1#32) (pick P 7#32) (dynamicRotate 0 2#32 none u rotates_S512x256_d0))
/-- A row of 256, repeated. -/
abbrev rep (c : FVec Ideal S1x256 .f32) : FVec Ideal S512x256 .f32 := broadcastTo S512x256 c broadcasts_S1x256_S512x256
/-- The convolution of a tile. -/
abbrev conv : FVec Ideal S512x256 .f32 :=
  addf (addf (addf (rep b) (mulf (rep c0) (up2 P u))) (mulf (rep c1) (up1 P u))) (mulf (rep c2) u)
/-- The product of a tile, as it is stored. -/
abbrev prod : FVec Ideal S512x256 .bf16 :=
  truncf .bf16 (matmul dot_S512x1024_S1024x256_S512x256_1_0_0_1_n_n none H W (constant S512x256 .f32 0x00000000#32))
    bitsLt_bf16_f32
/-- The product of a tile, as the convolution reads it. -/
abbrev wide : FVec Ideal S512x256 .f32 := extf .f32 (prod H W) bitsLt_bf16_f32
/-- The last eight rows of a tile. -/
abbrev last8 : FVec Ideal S1x8x256 .f32 :=
  shapeCast S1x8x256 (extractStridedSlice S8x256 ![504, 0] u slices_S512x256_o504_0_S8x256) shapeCasts_S8x256_S1x8x256
/-- The gate of two tiles. -/
abbrev gate : FVec Ideal S512x256 .bf16 :=
  truncf .bf16 (mulf (mulf a (divf (broadcast S512x256 (Scalar.ofBits .f32 0x3F800000#32))
    (addf (broadcast S512x256 (Scalar.ofBits .f32 0x3F800000#32))
      (exp (subf (broadcast S512x256 (Scalar.ofBits .f32 0x00000000#32)) a))))) g) bitsLt_bf16_f32

theorem h_pay (X : FVec Ideal S512x1024 .f32) (G : FVec Ideal S1x1024 .f32) (r : Fin 512) (d : Fin 1024) :
    k0_pay4 (F := Ideal) X G (ix2 r d) = hat width (fun e => X (ix2 r e)) d * G (ix2 0 d) := by
  pointwise [k0_pay4, k0_pay3, hat, rsv, msq]
theorem ht_pay (X : FVec Ideal S512x1024 .f32) (G : FVec Ideal S1x1024 .f32) (d : Fin 1024) (r : Fin 512) :
    k0_pay5 (F := Ideal) X G (ix2 d r) = hat width (fun e => X (ix2 r e)) d * G (ix2 0 d) := by
  pointwise [k0_pay5, h_pay]
theorem prod_at (r : Fin 512) (q : Fin 256) : prod H W (ix2 r q) = ∑ k, H (ix2 r k) * W (ix2 k q) := by
  pointwise
theorem wide_at (r : Fin 512) (q : Fin 256) : wide H W (ix2 r q) = ∑ k, H (ix2 r k) * W (ix2 k q) := by
  pointwise
theorem last8_at (w : Fin 1) (i : Fin 8) (q : Fin 256) :
    last8 u (ix3 w i q) = u (ix2 ⟨504 + i.val, by omega⟩ q) := by
  pointwise
theorem gate_at (r : Fin 512) (q : Fin 256) :
    gate a g (ix2 r q) = a (ix2 r q) * sigm (a (ix2 r q)) * g (ix2 r q) := by
  pointwise [sigm, one]
  rw [zero_sub]
theorem gate_of (r : Fin 512) (q : Fin 256) {A B : EReal} (ha : a (ix2 r q) = A) (hg : g (ix2 r q) = B) :
    gate a g (ix2 r q) = A * sigm A * B := by
  rw [gate_at, ha, hg]
theorem pick7_at (r : Fin 512) (q : Fin 256) : pick P 7#32 (ix2 r q) = P (ix3 0 7 q) := by
  pointwise
  simp [Fin.sum_univ_eight, Scalar.select, IntOp.cmpi]
theorem pick6_at (r : Fin 512) (q : Fin 256) : pick P 6#32 (ix2 r q) = P (ix3 0 6 q) := by
  pointwise
  simp [Fin.sum_univ_eight, Scalar.select, IntOp.cmpi]
/-- A choice by a row's number. -/
theorem sel (n : Fin 512) (k : ℕ) (hk : k < 512) (a b : EReal) :
    Scalar.select (IntOp.cmpi .eq (BitVec.ofNat 32 n.val) (BitVec.ofNat 32 k)) a b = if n.val = k then a else b := by
  by_cases h : n.val = k
  · subst h; simp [Scalar.select, IntOp.cmpi]
  · have : ¬ BitVec.ofNat 32 n.val = BitVec.ofNat 32 k := fun e => h (by
      have := congrArg BitVec.toNat e
      simp only [BitVec.toNat_ofNat] at this
      omega)
    have e : (BitVec.ofNat 32 n.val == BitVec.ofNat 32 k) = false := beq_eq_false_iff_ne.2 this
    rw [if_neg h, IntOp.cmpi, Scalar.select, e]
    rfl
theorem up1_at (r : Fin 512) (q : Fin 256) :
    up1 P u (ix2 r q) = if h : 1 ≤ r.val then u (ix2 ⟨r.val - 1, by omega⟩ q) else P (ix3 0 7 q) := by
  have io : rows (ix2 r q) = BitVec.ofNat 32 r.val := by pointwise
  have e : up1 P u (ix2 r q) = Scalar.select (IntOp.cmpi .eq (BitVec.ofNat 32 r.val) (BitVec.ofNat 32 0))
      (pick P 7#32 (ix2 r q)) (dynamicRotate 0 1#32 none u rotates_S512x256_d0 (ix2 r q)) := by
    rw [← io]; rfl
  rw [e, sel r 0 (by decide), pick7_at]
  by_cases h : 1 ≤ r.val
  · rw [if_neg (by omega), dif_pos h]
    pointwise
    exact congrArg u (by congr 1; exact Fin.ext (by simp only; omega))
  · rw [if_pos (by omega), dif_neg h]
theorem up2_at (r : Fin 512) (q : Fin 256) :
    up2 P u (ix2 r q) = if h : 2 ≤ r.val then u (ix2 ⟨r.val - 2, by omega⟩ q)
      else P (ix3 0 ⟨6 + r.val, by omega⟩ q) := by
  have io : rows (ix2 r q) = BitVec.ofNat 32 r.val := by pointwise
  have e : up2 P u (ix2 r q) = Scalar.select (IntOp.cmpi .eq (BitVec.ofNat 32 r.val) (BitVec.ofNat 32 0))
      (pick P 6#32 (ix2 r q)) (Scalar.select (IntOp.cmpi .eq (BitVec.ofNat 32 r.val) (BitVec.ofNat 32 1))
        (pick P 7#32 (ix2 r q)) (dynamicRotate 0 2#32 none u rotates_S512x256_d0 (ix2 r q))) := by
    rw [← io]; rfl
  rw [e, sel r 0 (by decide), sel r 1 (by decide), pick7_at, pick6_at]
  by_cases h : 2 ≤ r.val
  · rw [if_neg (by omega), if_neg (by omega), dif_pos h]
    pointwise
    exact congrArg u (by congr 1; exact Fin.ext (by simp only; omega))
  · rw [dif_neg h]
    by_cases h0 : r.val = 0
    · rw [if_pos h0]
      exact congrArg P (by congr 1; exact Fin.ext (by simp only; omega))
    · rw [if_neg h0, if_pos (by omega)]
      exact congrArg P (by congr 1; exact Fin.ext (by simp only; omega))
theorem conv_at (r : Fin 512) (q : Fin 256) :
    conv P u b c0 c1 c2 (ix2 r q)
      = b (ix2 0 q) + c0 (ix2 0 q) * up2 P u (ix2 r q) + c1 (ix2 0 q) * up1 P u (ix2 r q)
        + c2 (ix2 0 q) * u (ix2 r q) := by
  generalize hu2 : up2 P u = U2
  generalize hu1 : up1 P u = U1
  show addf (addf (addf (rep b) (mulf (rep c0) (up2 P u))) (mulf (rep c1) (up1 P u))) (mulf (rep c2) u) (ix2 r q) = _
  rw [hu2, hu1]
  pointwise
end

end Cert.Kernel6Ideal.Points
-- ==== Proof.Conv.lean ====
/-
  The widening product of the normalized rows, its convolution and its gate, point by point: what the tiles of a point hold.
-/
module

public import proofs.«01_k».proof.Proof.Gen.Kernel6Ideal.Frame
public import proofs.«01_k».proof.Proof.RefConv
public import proofs.«01_k».proof.Proof.ConvPay

@[expose] public section

set_option maxRecDepth 16384

noncomputable section

namespace Cert.Kernel6Ideal.Points

open Idealize.ShloMosaic Idealize.ShloMosaic.TcCoe Idealize.SL.Sem
open Idealize.ShloMosaic.Pipeline (Dat)
open Cert.Kernel6Ideal Cert.Kernel6Ideal.Gen NormGrad Cert.Reference6Ideal.Rows

variable (m : (ℓ : Loc nD τ sig) → Buf (Elt Ideal) ℓ) (c : Dev nD)

abbrev x0 : FVec Ideal S4096x1024 .f32 := m ((c : Thread nD τ).loc main_arg0)
abbrev x1 : FVec Ideal S1x1024 .f32 := m ((c : Thread nD τ).loc main_arg1)
abbrev x2 : FVec Ideal S1024x5632 .bf16 := m ((c : Thread nD τ).loc main_arg2)
abbrev x3 : FVec Ideal S3x5632 .f32 := m ((c : Thread nD τ).loc main_arg3)
abbrev x4 : FVec Ideal S1x5632 .f32 := m ((c : Thread nD τ).loc main_arg4)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val] ∧ win0_6.index t = ![t.val, 0]
    ∧ win0_7.index t = ![t.val, 0] ∧ win0_8.index t = ![t.val, 0] :=
  (by decide +kernel : ∀ t : Fin grid0.N, _)

theorem lt8 (t : Fin cfg0.N) : t.val < 8 := lt_of_lt_of_eq t.isLt (show cfg0.N = 8 from N_0)

/-- Row `r` of the block of point `t`, of 4096. -/
abbrev trow (t : Fin cfg0.N) (r : Fin 512) : Fin 4096 := ⟨t.val * 512 + r.val, by have := lt8 t; omega⟩
/-- Column `q` of the tile that begins at column `o`. -/
abbrev tcol (o : ℕ) (ho : o + 256 ≤ 5632) (q : Fin 256) : Fin 5632 := ⟨o + q.val, by omega⟩

/-- Column `q` of the tile of the gate that begins at column `o`. -/
abbrev acol (o : ℕ) (ho : o + 256 ≤ 2816) (q : Fin 256) : Fin 2816 := ⟨o + q.val, by omega⟩

/-- The normalized rows of a point. -/
abbrev hb (t : Fin cfg0.N) : FVec Ideal S512x1024 .bf16 := k0_pay4 (F := Ideal) (iblk m c 0 t) (iblk m c 1 t)
theorem hb_at (t : Fin cfg0.N) (r : Fin 512) (d : Fin 1024) :
    hb m c t (ix2 r d) = h (x0 m c) (x1 m c) (trow t r) d := by
  refine (h_pay _ _ r d).trans ?_
  have e0 (e : Fin 1024) : iblk m c 0 t (ix2 r e) = x0 m c (ix2 (trow t r) e) := by blk_ext [iblk, V, idx t]
  have e1 : iblk m c 1 t (ix2 0 d) = x1 m c (ix2 0 d) := by blk_ext [iblk, V, idx t]
  rw [e1, h]
  simp only [e0]

/-- A tile of columns of the weights. -/
theorem w_ld (t : Fin cfg0.N) (o : ℕ) (ho : o + 256 ≤ 5632) (inb) (k : Fin 1024) (q : Fin 256) :
    View.ld (Val := Elt Ideal) (e' := .bf16) (iblk m c 2 t : FVec Ideal S1024x5632 .bf16)
      (Rect.unit (s := S1024x5632) ![0, o] S1024x256.size inb) (ix2 k q : S1024x256.Idx)
      = x2 m c (ix2 k (tcol o ho q)) := by
  refine (View.ld_unit_apply_of (Val := Elt Ideal) (e := .bf16) _ _ _ inb (ix2 k q) (ix2 k (tcol o ho q)) fun a => ?_).trans ?_
  · fin_cases a
    · show k.val = 0 + k.val
      omega
    · show o + q.val = o + q.val
      rfl
  · blk_ext [iblk, V, idx t]
theorem b_ld (t : Fin cfg0.N) (o : ℕ) (ho : o + 256 ≤ 5632) (inb) (q : Fin 256) :
    View.ld (Val := Elt Ideal) (e' := .f32) (iblk m c 4 t : FVec Ideal S1x5632 .f32)
      (Rect.unit (s := S1x5632) ![0, o] S1x256.size inb) (ix2 0 q : S1x256.Idx)
      = x4 m c (ix2 0 (tcol o ho q)) := by
  refine (View.ld_unit_apply_of (Val := Elt Ideal) (e := .f32) _ _ _ inb (ix2 0 q) (ix2 0 (tcol o ho q)) fun a => ?_).trans ?_
  · fin_cases a
    · rfl
    · show o + q.val = o + q.val
      rfl
  · blk_ext [iblk, V, idx t]
theorem c_ld (t : Fin cfg0.N) (n : Fin 3) (o : ℕ) (ho : o + 256 ≤ 5632) (inb) (q : Fin 256) :
    View.ld (Val := Elt Ideal) (e' := .f32) (iblk m c 3 t : FVec Ideal S3x5632 .f32)
      (Rect.unit (s := S3x5632) ![n.val, o] S1x256.size inb) (ix2 0 q : S1x256.Idx)
      = x3 m c (ix2 n (tcol o ho q)) := by
  refine (View.ld_unit_apply_of (Val := Elt Ideal) (e := .f32) _ _ _ inb (ix2 0 q) (ix2 n (tcol o ho q)) fun a => ?_).trans ?_
  · fin_cases a
    · show n.val = n.val + 0
      omega
    · show o + q.val = o + q.val
      rfl
  · blk_ext [iblk, V, idx t]

/-- The eight rows before the block of point `t`; zero before the first. -/
def before (t : Fin cfg0.N) (i : Fin 8) (q : Fin 5632) : EReal :=
  if 1 ≤ t.val then u (x0 m c) (x1 m c) (x2 m c) ⟨t.val * 512 - 8 + i.val, by have := lt8 t; omega⟩ q else 0

section
variable (t : Fin cfg0.N) (o : ℕ) (ho : o + 256 ≤ 5632) {W : FVec Ideal S1024x256 .bf16} {P : FVec Ideal S1x8x256 .f32}
  {b c0 c1 c2 : FVec Ideal S1x256 .f32}

theorem wide_tile (hW : ∀ k q, W (ix2 k q) = x2 m c (ix2 k (tcol o ho q))) (r : Fin 512) (q : Fin 256) :
    wide (hb m c t) W (ix2 r q) = u (x0 m c) (x1 m c) (x2 m c) (trow t r) (tcol o ho q) := by
  rw [wide_at, u]
  exact Finset.sum_congr rfl fun k _ => congrArg₂ (fun a b : EReal => a * b) (hb_at m c t r k) (hW k q)

theorem conv_tile (hW : ∀ k q, W (ix2 k q) = x2 m c (ix2 k (tcol o ho q)))
    (hP : ∀ i q, P (ix3 0 i q) = before m c t i (tcol o ho q))
    (h4 : ∀ q, b (ix2 0 q) = x4 m c (ix2 0 (tcol o ho q))) (h0 : ∀ q, c0 (ix2 0 q) = x3 m c (ix2 0 (tcol o ho q)))
    (h1 : ∀ q, c1 (ix2 0 q) = x3 m c (ix2 1 (tcol o ho q))) (h2 : ∀ q, c2 (ix2 0 q) = x3 m c (ix2 2 (tcol o ho q)))
    (r : Fin 512) (q : Fin 256) :
    conv P (wide (hb m c t) W) b c0 c1 c2 (ix2 r q)
      = cv (x0 m c) (x1 m c) (x2 m c) (x3 m c) (x4 m c) (trow t r) (tcol o ho q) := by
  rw [conv_at, h4, h0, h1, h2, wide_tile m c t o ho hW, cv]
  have lt := lt8 t
  have e2 : up2 P (wide (hb m c t) W) (ix2 r q) = sh (x0 m c) (x1 m c) (x2 m c) 2 (trow t r) (tcol o ho q) := by
    rw [up2_at, sh]
    by_cases hr : 2 ≤ r.val
    · rw [dif_pos hr, if_pos (by show 2 ≤ t.val * 512 + r.val; omega), wide_tile m c t o ho hW]
      exact congrArg (fun n => u (x0 m c) (x1 m c) (x2 m c) n _) (Fin.ext (by show t.val * 512 + (r.val - 2) = t.val * 512 + r.val - 2; omega))
    · rw [dif_neg hr, hP, before]
      by_cases ht : 1 ≤ t.val
      · rw [if_pos ht, if_pos (by show 2 ≤ t.val * 512 + r.val; omega)]
        exact congrArg (fun n => u (x0 m c) (x1 m c) (x2 m c) n _) (Fin.ext (by show t.val * 512 - 8 + (6 + r.val) = t.val * 512 + r.val - 2; omega))
      · rw [if_neg ht, if_neg (by show ¬ 2 ≤ t.val * 512 + r.val; omega)]
  have e1 : up1 P (wide (hb m c t) W) (ix2 r q) = sh (x0 m c) (x1 m c) (x2 m c) 1 (trow t r) (tcol o ho q) := by
    rw [up1_at, sh]
    by_cases hr : 1 ≤ r.val
    · rw [dif_pos hr, if_pos (by show 1 ≤ t.val * 512 + r.val; omega), wide_tile m c t o ho hW]
      exact congrArg (fun n => u (x0 m c) (x1 m c) (x2 m c) n _) (Fin.ext (by show t.val * 512 + (r.val - 1) = t.val * 512 + r.val - 1; omega))
    · rw [dif_neg hr, hP, before]
      by_cases ht : 1 ≤ t.val
      · rw [if_pos ht, if_pos (by show 1 ≤ t.val * 512 + r.val; omega)]
        exact congrArg (fun n => u (x0 m c) (x1 m c) (x2 m c) n _) (Fin.ext (by show t.val * 512 - 8 + 7 = t.val * 512 + r.val - 1; omega))
      · rw [if_neg ht, if_neg (by show ¬ 1 ≤ t.val * 512 + r.val; omega)]
  rw [e1, e2]
end

section
variable (t : Fin cfg0.N)

/-- A tile of the stored product. -/
theorem u_ld (o : ℕ) (ho : o + 256 ≤ 5632) (inb) (x : S512x256.Idx) (j : S512x5632.Idx) (k0 : (j 0).val = (x 0).val)
    (k1 : (j 1).val = o + (x 1).val) :
    prod (hb m c t) (View.ld (Val := Elt Ideal) (e' := .bf16) (iblk m c 2 t : FVec Ideal S1024x5632 .bf16)
      (Rect.unit (s := S1024x5632) ![0, o] S1024x256.size inb)) x
      = u (x0 m c) (x1 m c) (x2 m c) (trow t (j 0)) (j 1) := by
  obtain ⟨r, q, rfl⟩ : ∃ (r : Fin 512) (q : Fin 256), x = ix2 r q := ⟨x 0, x 1, by idx_ext⟩
  obtain rfl : j = ix2 r (tcol o ho q) := by idx_ext
  exact wide_tile m c t o ho (w_ld m c t o ho inb) r q
/-- The last eight rows of a tile. -/
theorem last_ld (n o : ℕ) (ho : o + 256 ≤ 5632) (hn : n * 256 = o) (inb) (x : S1x8x256.Idx) (j : S22x8x256.Idx)
    (k0 : (j 0).val = n) (k1 : (j 1).val = (x 1).val) (k2 : (j 2).val = (x 2).val) (Q : Fin 5632)
    (hQ : Q.val = (j 0).val * 256 + (j 2).val) :
    last8 (wide (hb m c t) (View.ld (Val := Elt Ideal) (e' := .bf16) (iblk m c 2 t : FVec Ideal S1024x5632 .bf16)
      (Rect.unit (s := S1024x5632) ![0, o] S1024x256.size inb))) x
      = u (x0 m c) (x1 m c) (x2 m c) (trow t ⟨504 + (j 1).val, by have := (j 1).isLt; change (j 1).val < 8 at this; omega⟩) Q := by
  obtain ⟨w, i, q, rfl⟩ : ∃ (w : Fin 1) (i : Fin 8) (q : Fin 256), x = ix3 w i q := ⟨x 0, x 1, x 2, by idx_ext⟩
  refine (last8_at _ w i q).trans ((wide_tile m c t o ho (w_ld m c t o ho inb) _ q).trans ?_)
  refine congrArg₂ (u (x0 m c) (x1 m c) (x2 m c)) (Fin.ext ?_) (Fin.ext ?_)
  · show t.val * 512 + (504 + i.val) = t.val * 512 + (504 + (j 1).val)
    rw [k1]; rfl
  · show o + q.val = Q.val
    rw [hQ, k0, k2, hn]; rfl
/-- Eight rows read out of the rows that are carried along. -/
theorem p_ld (X : FVec Ideal S22x8x256 .f32)
    (hX : ∀ (n : Fin 22) (i : Fin 8) (q : Fin 256) (Q : Fin 5632), Q.val = n.val * 256 + q.val →
      X (ix3 n i q) = before m c t i Q) (n o : ℕ) (ho : o + 256 ≤ 5632) (hn : n * 256 = o) (inb) (i : Fin 8) (q : Fin 256) :
    View.ld (Val := Elt Ideal) (e' := .f32) X (Rect.unit (s := S22x8x256) ![n, 0, 0] S1x8x256.size inb)
      (ix3 0 i q : S1x8x256.Idx) = before m c t i (tcol o ho q) := by
  refine (View.ld_unit_apply_of (Val := Elt Ideal) (e := .f32) _ _ _ inb (ix3 0 i q)
    (ix3 ⟨n, by omega⟩ i q) fun a => ?_).trans (hX _ i q _ ?_)
  · fin_cases a
    · rfl
    · show i.val = 0 + i.val
      omega
    · show q.val = 0 + q.val
      omega
  · show o + q.val = n * 256 + q.val
    omega
/-- A tile of the gate. -/
theorem act_ld (X : FVec Ideal S22x8x256 .f32)
    (hX : ∀ (n : Fin 22) (i : Fin 8) (q : Fin 256) (Q : Fin 5632), Q.val = n.val * 256 + q.val →
      X (ix3 n i q) = before m c t i Q) (n n' o o' : ℕ) (ho : o + 256 ≤ 2816) (hn : n * 256 = o) (hn' : n' * 256 = o')
    (hoo : o' = 2816 + o) (ib0 ib1 ib2 ib3 ib4 ib5 ib6 ib7 ib8 ib9 ib10 ib11)
    (x : S512x256.Idx) (j : S512x2816.Idx) (k0 : (j 0).val = (x 0).val) (k1 : (j 1).val = o + (x 1).val) :
    gate
      (conv (View.ld (Val := Elt Ideal) (e' := .f32) X (Rect.unit (s := S22x8x256) ![n, 0, 0] S1x8x256.size ib0))
        (wide (hb m c t) (View.ld (Val := Elt Ideal) (e' := .bf16) (iblk m c 2 t : FVec Ideal S1024x5632 .bf16)
          (Rect.unit (s := S1024x5632) ![0, o] S1024x256.size ib1)))
        (View.ld (Val := Elt Ideal) (e' := .f32) (iblk m c 4 t : FVec Ideal S1x5632 .f32)
          (Rect.unit (s := S1x5632) ![0, o] S1x256.size ib2))
        (View.ld (Val := Elt Ideal) (e' := .f32) (iblk m c 3 t : FVec Ideal S3x5632 .f32)
          (Rect.unit (s := S3x5632) ![0, o] S1x256.size ib3))
        (View.ld (Val := Elt Ideal) (e' := .f32) (iblk m c 3 t : FVec Ideal S3x5632 .f32)
          (Rect.unit (s := S3x5632) ![1, o] S1x256.size ib4))
        (View.ld (Val := Elt Ideal) (e' := .f32) (iblk m c 3 t : FVec Ideal S3x5632 .f32)
          (Rect.unit (s := S3x5632) ![2, o] S1x256.size ib5)))
      (conv (View.ld (Val := Elt Ideal) (e' := .f32) X (Rect.unit (s := S22x8x256) ![n', 0, 0] S1x8x256.size ib6))
        (wide (hb m c t) (View.ld (Val := Elt Ideal) (e' := .bf16) (iblk m c 2 t : FVec Ideal S1024x5632 .bf16)
          (Rect.unit (s := S1024x5632) ![0, o'] S1024x256.size ib7)))
        (View.ld (Val := Elt Ideal) (e' := .f32) (iblk m c 4 t : FVec Ideal S1x5632 .f32)
          (Rect.unit (s := S1x5632) ![0, o'] S1x256.size ib8))
        (View.ld (Val := Elt Ideal) (e' := .f32) (iblk m c 3 t : FVec Ideal S3x5632 .f32)
          (Rect.unit (s := S3x5632) ![0, o'] S1x256.size ib9))
        (View.ld (Val := Elt Ideal) (e' := .f32) (iblk m c 3 t : FVec Ideal S3x5632 .f32)
          (Rect.unit (s := S3x5632) ![1, o'] S1x256.size ib10))
        (View.ld (Val := Elt Ideal) (e' := .f32) (iblk m c 3 t : FVec Ideal S3x5632 .f32)
          (Rect.unit (s := S3x5632) ![2, o'] S1x256.size ib11))) x
      = ac (x0 m c) (x1 m c) (x2 m c) (x3 m c) (x4 m c) (trow t (j 0)) (j 1) := by
  obtain ⟨r, q, rfl⟩ : ∃ (r : Fin 512) (q : Fin 256), x = ix2 r q := ⟨x 0, x 1, by idx_ext⟩
  obtain rfl : j = ix2 r (acol o ho q) := by idx_ext
  have a0 : o + 256 ≤ 5632 := by omega
  have a1 : o' + 256 ≤ 5632 := by omega
  refine (gate_of _ _ r q
    (conv_tile m c t o a0 (w_ld m c t o a0 _) (p_ld m c t X hX n o a0 hn _) (b_ld m c t o a0 _)
      (c_ld m c t 0 o a0 _) (c_ld m c t 1 o a0 _) (c_ld m c t 2 o a0 _) r q)
    (conv_tile m c t o' a1 (w_ld m c t o' a1 _) (p_ld m c t X hX n' o' a1 hn' _) (b_ld m c t o' a1 _)
      (c_ld m c t 0 o' a1 _) (c_ld m c t 1 o' a1 _) (c_ld m c t 2 o' a1 _) r q)).trans ?_
  have e : tcol o' a1 q = ⟨2816 + (o + q.val), by omega⟩ := Fin.ext (by show o' + q.val = 2816 + (o + q.val); omega)
  rw [e]
  rfl
end

end Cert.Kernel6Ideal.Points
-- ==== Proof.ConvTiles.lean ====
/-
  The tiles of the widening product, of its last rows and of its gate that the kernel stores, each as the one function of
  its operands that it is.
-/
module

public import proofs.«01_k».proof.Proof.ConvPay

@[expose] public section

set_option maxRecDepth 16384

noncomputable section

namespace Cert.Kernel6Ideal.Points

open Idealize.ShloMosaic Idealize.ShloMosaic.TcCoe Idealize.SL.Sem
open Cert.Kernel6Ideal Cert.Kernel6Ideal.Gen

section
variable (X : FVec Ideal S512x1024 .f32) (G : FVec Ideal S1x1024 .f32) (H : FVec Ideal S512x1024 .bf16)
  (W0 W1 : FVec Ideal S1024x256 .bf16) (P0 P1 : FVec Ideal S1x8x256 .f32)
  (b0 b1 c00 c10 c20 c01 c11 c21 : FVec Ideal S1x256 .f32)

theorem u_21 : k0_pay208 (F := Ideal) H W0 = prod H W0 := rfl
theorem u_10 : k0_pay198 (F := Ideal) H W0 = prod H W0 := rfl
theorem u_20 : k0_pay187 (F := Ideal) H W0 = prod H W0 := rfl
theorem u_9 : k0_pay178 (F := Ideal) H W0 = prod H W0 := rfl
theorem u_19 : k0_pay170 (F := Ideal) H W0 = prod H W0 := rfl
theorem u_8 : k0_pay159 (F := Ideal) H W0 = prod H W0 := rfl
theorem u_18 : k0_pay149 (F := Ideal) H W0 = prod H W0 := rfl
theorem u_7 : k0_pay139 (F := Ideal) H W0 = prod H W0 := rfl
theorem u_17 : k0_pay128 (F := Ideal) H W0 = prod H W0 := rfl
theorem u_6 : k0_pay117 (F := Ideal) H W0 = prod H W0 := rfl
theorem u_16 : k0_pay105 (F := Ideal) H W0 = prod H W0 := rfl
theorem u_5 : k0_pay96 (F := Ideal) H W0 = prod H W0 := rfl
theorem u_15 : k0_pay86 (F := Ideal) H W0 = prod H W0 := rfl
theorem u_4 : k0_pay78 (F := Ideal) H W0 = prod H W0 := rfl
theorem u_14 : k0_pay67 (F := Ideal) H W0 (constant S512x256 FTy.f32 0#32) = prod H W0 := rfl
theorem u_3 : k0_pay58 (F := Ideal) H W0 = prod H W0 := rfl
theorem u_13 : k0_pay49 (F := Ideal) H W0 = prod H W0 := rfl
theorem u_2 : k0_pay42 (F := Ideal) H W0 = prod H W0 := rfl
theorem u_12 : k0_pay34 (F := Ideal) H W0 = prod H W0 := rfl
theorem u_1 : k0_pay25 (F := Ideal) H W0 = prod H W0 := rfl
theorem u_11 : k0_pay14 (F := Ideal) H W0 = prod H W0 := rfl
theorem u_0 : k0_pay6 (F := Ideal) X G W0 = prod (k0_pay4 X G) W0 := rfl
theorem l_21 : k0_pay214 (F := Ideal) (k0_pay213 (k0_pay209 H W0)) = last8 (wide H W0) := rfl
theorem l_10 : k0_pay206 (F := Ideal) (k0_pay199 H W0) = last8 (wide H W0) := rfl
theorem l_20 : k0_pay194 (F := Ideal) (k0_pay188 H W0) = last8 (wide H W0) := rfl
theorem l_9 : k0_pay184 (F := Ideal) (k0_pay179 H W0) = last8 (wide H W0) := rfl
theorem l_19 : k0_pay176 (F := Ideal) (k0_pay171 H W0) = last8 (wide H W0) := rfl
theorem l_8 : k0_pay168 (F := Ideal) (k0_pay160 H W0) = last8 (wide H W0) := rfl
theorem l_18 : k0_pay157 (F := Ideal) (k0_pay150 H W0) = last8 (wide H W0) := rfl
theorem l_7 : k0_pay145 (F := Ideal) (k0_pay140 H W0) = last8 (wide H W0) := rfl
theorem l_17 : k0_pay135 (F := Ideal) (k0_pay129 H W0) = last8 (wide H W0) := rfl
theorem l_6 : k0_pay126 (F := Ideal) (k0_pay118 H W0) = last8 (wide H W0) := rfl
theorem l_16 : k0_pay115 (F := Ideal) (k0_pay106 H W0) = last8 (wide H W0) := rfl
theorem l_5 : k0_pay101 (F := Ideal) (k0_pay97 H W0) = last8 (wide H W0) := rfl
theorem l_15 : k0_pay92 (F := Ideal) (k0_pay87 H W0) = last8 (wide H W0) := rfl
theorem l_4 : k0_pay84 (F := Ideal) (k0_pay83 (k0_pay78 H W0)) = last8 (wide H W0) := rfl
theorem l_14 : k0_pay76 (F := Ideal) (k0_pay68 H W0 (constant S512x256 FTy.f32 0#32)) = last8 (wide H W0) := rfl
theorem l_3 : k0_pay65 (F := Ideal) (k0_pay59 H W0) = last8 (wide H W0) := rfl
theorem l_13 : k0_pay54 (F := Ideal) (k0_pay50 H W0) = last8 (wide H W0) := rfl
theorem l_2 : k0_pay47 (F := Ideal) (k0_pay43 H W0) = last8 (wide H W0) := rfl
theorem l_12 : k0_pay40 (F := Ideal) (k0_pay39 (k0_pay34 H W0)) = last8 (wide H W0) := rfl
theorem l_1 : k0_pay32 (F := Ideal) (k0_pay26 H W0) = last8 (wide H W0) := rfl
theorem l_11 : k0_pay21 (F := Ideal) (k0_pay15 H W0) = last8 (wide H W0) := rfl
theorem l_0 : k0_pay12 (F := Ideal) (k0_pay7 X G W0) = last8 (wide (k0_pay4 X G) W0) := rfl
set_option maxHeartbeats 1000000 in
theorem a_10 : k0_pay1 (F := Ideal) (k0_pay207 (iota Kind.tc S512x256 32 [0] iota_S512x256_d0_w32) (k0_pay199 H W0) (k0_pay200 P0) (k0_pay201 H (iota Kind.tc S512x256 32 [0] iota_S512x256_d0_w32) W0 P0) (k0_pay202 H W0) (k0_pay203 (iota Kind.tc S512x256 32 [0] iota_S512x256_d0_w32)) (k0_pay204 P0) k0_pay205 b0 c00 c10 c20) (k0_pay209 H W1) (k0_pay215 (k0_pay211 (iota Kind.tc S512x256 32 [0] iota_S512x256_d0_w32) (k0_pay209 H W1) P1) (k0_pay212 (iota Kind.tc S512x256 32 [0] iota_S512x256_d0_w32) (k0_pay209 H W1) P1) b1 c01 c11) c21
    = gate (conv P0 (wide H W0) b0 c00 c10 c20) (conv P1 (wide H W1) b1 c01 c11 c21) := rfl
set_option maxHeartbeats 1000000 in
theorem a_9 : k0_pay197 (F := Ideal) (k0_pay186 (k0_pay179 H W0) (k0_pay183 (k0_pay179 H W0) (k0_pay180 P0) (k0_pay181 (iota Kind.tc S512x256 32 [0] iota_S512x256_d0_w32)) k0_pay182 (FloatOps.ofBits FTy.f32 0#32)) b0 (k0_pay185 (iota Kind.tc S512x256 32 [0] iota_S512x256_d0_w32) (k0_pay179 H W0) (k0_pay180 P0) c00) c10 c20) (k0_pay195 (iota Kind.tc S512x256 32 [0] iota_S512x256_d0_w32) (k0_pay188 H W1) (k0_pay189 P1) (k0_pay190 H (iota Kind.tc S512x256 32 [0] iota_S512x256_d0_w32) W1 P1) (k0_pay191 H W1) (k0_pay192 (iota Kind.tc S512x256 32 [0] iota_S512x256_d0_w32)) (k0_pay193 P1) b1 c01 c11 c21) (k0_pay196 (k0_pay186 (k0_pay179 H W0) (k0_pay183 (k0_pay179 H W0) (k0_pay180 P0) (k0_pay181 (iota Kind.tc S512x256 32 [0] iota_S512x256_d0_w32)) k0_pay182 (FloatOps.ofBits FTy.f32 0#32)) b0 (k0_pay185 (iota Kind.tc S512x256 32 [0] iota_S512x256_d0_w32) (k0_pay179 H W0) (k0_pay180 P0) c00) c10 c20)) (FloatOps.ofBits FTy.f32 1065353216#32)
    = gate (conv P0 (wide H W0) b0 c00 c10 c20) (conv P1 (wide H W1) b1 c01 c11 c21) := rfl
set_option maxHeartbeats 1000000 in
theorem a_8 : k0_pay177 (F := Ideal) (k0_pay169 (k0_pay160 H W0) (k0_pay161 P0) (k0_pay162 H (iota Kind.tc S512x256 32 [0] iota_S512x256_d0_w32) W0 P0) (k0_pay163 H W0) (k0_pay164 (iota Kind.tc S512x256 32 [0] iota_S512x256_d0_w32)) (k0_pay165 P0) (k0_pay166 (iota Kind.tc S512x256 32 [0] iota_S512x256_d0_w32)) k0_pay167 (FloatOps.ofBits FTy.f32 0#32) b0 c00 c10 c20) (k0_pay171 H W1) (k0_pay174 (k0_pay171 H W1) (k0_pay172 P1) (k0_pay173 (iota Kind.tc S512x256 32 [0] iota_S512x256_d0_w32))) (k0_pay175 (iota Kind.tc S512x256 32 [0] iota_S512x256_d0_w32) (k0_pay171 H W1) (k0_pay172 P1)) b1 c01 c11 c21
    = gate (conv P0 (wide H W0) b0 c00 c10 c20) (conv P1 (wide H W1) b1 c01 c11 c21) := rfl
set_option maxHeartbeats 1000000 in
theorem a_7 : k0_pay158 (F := Ideal) (k0_pay148 (k0_pay140 H W0) (k0_pay144 (k0_pay140 H W0) (k0_pay142 (iota Kind.tc S512x256 32 [0] iota_S512x256_d0_w32)) (k0_pay143 P0) 1#32) (k0_pay146 (iota Kind.tc S512x256 32 [0] iota_S512x256_d0_w32) (k0_pay140 H W0) (k0_pay141 P0) b0 c00) (k0_pay147 c10) c20) (k0_pay150 H W1) (k0_pay151 P1) (k0_pay152 H (iota Kind.tc S512x256 32 [0] iota_S512x256_d0_w32) W1 P1) (k0_pay153 H W1) (k0_pay154 (iota Kind.tc S512x256 32 [0] iota_S512x256_d0_w32)) (k0_pay155 P1) (k0_pay156 (iota Kind.tc S512x256 32 [0] iota_S512x256_d0_w32)) b1 c01 c11 c21
    = gate (conv P0 (wide H W0) b0 c00 c10 c20) (conv P1 (wide H W1) b1 c01 c11 c21) := rfl
set_option maxHeartbeats 1000000 in
theorem a_6 : k0_pay138 (F := Ideal) (k0_pay127 (k0_pay118 H W0) (k0_pay120 H (iota Kind.tc S512x256 32 [0] iota_S512x256_d0_w32) W0 P0) (k0_pay121 H W0) (k0_pay122 (iota Kind.tc S512x256 32 [0] iota_S512x256_d0_w32)) (k0_pay123 P0) (k0_pay124 (iota Kind.tc S512x256 32 [0] iota_S512x256_d0_w32)) (k0_pay125 P0) b0 c00 c10 c20) (k0_pay129 H W1) (k0_pay134 (k0_pay129 H W1) (k0_pay130 P1) (k0_pay131 (iota Kind.tc S512x256 32 [0] iota_S512x256_d0_w32)) k0_pay132 k0_pay133) (k0_pay136 (iota Kind.tc S512x256 32 [0] iota_S512x256_d0_w32) (k0_pay129 H W1) (k0_pay130 P1) c01) (k0_pay137 b1) c11 c21
    = gate (conv P0 (wide H W0) b0 c00 c10 c20) (conv P1 (wide H W1) b1 c01 c11 c21) := rfl
set_option maxHeartbeats 1000000 in
theorem a_5 : k0_pay116 (F := Ideal) (k0_pay104 (k0_pay97 H W0) (k0_pay102 (iota Kind.tc S512x256 32 [0] iota_S512x256_d0_w32) (k0_pay98 P0) (k0_pay99 H (iota Kind.tc S512x256 32 [0] iota_S512x256_d0_w32) W0 P0) (k0_pay100 H W0) b0 c00 c10) (k0_pay103 c20)) (k0_pay106 H W1) (k0_pay107 P1) (k0_pay108 H (iota Kind.tc S512x256 32 [0] iota_S512x256_d0_w32) W1 P1) (k0_pay109 H W1) (k0_pay110 (iota Kind.tc S512x256 32 [0] iota_S512x256_d0_w32)) (k0_pay111 P1) (k0_pay112 (iota Kind.tc S512x256 32 [0] iota_S512x256_d0_w32)) k0_pay113 k0_pay114 b1 c01 c11 c21
    = gate (conv P0 (wide H W0) b0 c00 c10 c20) (conv P1 (wide H W1) b1 c01 c11 c21) := rfl
set_option maxHeartbeats 1000000 in
theorem a_4 : k0_pay95 (F := Ideal) (k0_pay85 (k0_pay79 (k0_pay78 H W0)) (k0_pay81 (iota Kind.tc S512x256 32 [0] iota_S512x256_d0_w32) (k0_pay78 H W0) P0) (k0_pay82 (iota Kind.tc S512x256 32 [0] iota_S512x256_d0_w32) (k0_pay78 H W0) P0) b0 c00 c10 c20) (k0_pay87 H W1) (k0_pay93 (iota Kind.tc S512x256 32 [0] iota_S512x256_d0_w32) (k0_pay87 H W1) (k0_pay88 P1) b1 c01) (k0_pay94 (k0_pay89 (iota Kind.tc S512x256 32 [0] iota_S512x256_d0_w32)) (k0_pay90 P1) (k0_pay91 H W1) c11) c21
    = gate (conv P0 (wide H W0) b0 c00 c10 c20) (conv P1 (wide H W1) b1 c01 c11 c21) := rfl
set_option maxHeartbeats 1000000 in
theorem a_3 : k0_pay77 (F := Ideal) (k0_pay66 (iota Kind.tc S512x256 32 [0] iota_S512x256_d0_w32) (k0_pay59 H W0) (k0_pay60 P0) (k0_pay61 H (iota Kind.tc S512x256 32 [0] iota_S512x256_d0_w32) W0 P0) (k0_pay62 H W0) (k0_pay63 (iota Kind.tc S512x256 32 [0] iota_S512x256_d0_w32)) (iota Kind.tc S8x256 32 [0] iota_S8x256_d0_w32) k0_pay64 b0 c00 c10 c20) (k0_pay68 H W1 (constant S512x256 FTy.f32 0#32)) (k0_pay70 H (iota Kind.tc S512x256 32 [0] iota_S512x256_d0_w32) W1 (constant S512x256 FTy.f32 0#32) P1) (k0_pay71 H W1 (constant S512x256 FTy.f32 0#32)) (k0_pay72 (iota Kind.tc S512x256 32 [0] iota_S512x256_d0_w32)) (k0_pay73 P1) (k0_pay74 (iota Kind.tc S512x256 32 [0] iota_S512x256_d0_w32)) (k0_pay75 P1) b1 c01 c11 c21
    = gate (conv P0 (wide H W0) b0 c00 c10 c20) (conv P1 (wide H W1) b1 c01 c11 c21) := rfl
set_option maxHeartbeats 1000000 in
theorem a_2 : k0_pay57 (F := Ideal) (k0_pay48 (k0_pay43 H W0) (k0_pay45 (iota Kind.tc S512x256 32 [0] iota_S512x256_d0_w32) (k0_pay43 H W0) P0) (k0_pay46 (iota Kind.tc S512x256 32 [0] iota_S512x256_d0_w32) (k0_pay43 H W0) P0) b0 c00 c10 c20) (k0_pay55 (iota Kind.tc S512x256 32 [0] iota_S512x256_d0_w32) (k0_pay51 P1) (k0_pay52 H (iota Kind.tc S512x256 32 [0] iota_S512x256_d0_w32) W1 P1) (k0_pay53 H W1) (0#32) b1 c01 c11) (k0_pay56 (k0_pay50 H W1) c21)
    = gate (conv P0 (wide H W0) b0 c00 c10 c20) (conv P1 (wide H W1) b1 c01 c11 c21) := rfl
set_option maxHeartbeats 1000000 in
theorem a_1 : k0_pay41 (F := Ideal) (k0_pay33 (iota Kind.tc S512x256 32 [0] iota_S512x256_d0_w32) (k0_pay26 H W0) (k0_pay27 P0) (k0_pay28 H (iota Kind.tc S512x256 32 [0] iota_S512x256_d0_w32) W0 P0) (k0_pay29 H W0) (k0_pay30 (iota Kind.tc S512x256 32 [0] iota_S512x256_d0_w32)) (k0_pay31 P0) b0 c00 c10 c20) (k0_pay35 (k0_pay34 H W1)) (k0_pay37 (iota Kind.tc S512x256 32 [0] iota_S512x256_d0_w32) (k0_pay34 H W1) P1) (k0_pay38 (iota Kind.tc S512x256 32 [0] iota_S512x256_d0_w32) (k0_pay34 H W1) P1) b1 c01 c11 c21
    = gate (conv P0 (wide H W0) b0 c00 c10 c20) (conv P1 (wide H W1) b1 c01 c11 c21) := rfl
set_option maxHeartbeats 1000000 in
theorem a_0 : k0_pay24 (F := Ideal) (k0_pay13 (k0_pay7 X G W0) (k0_pay10 (k0_pay7 X G W0) (k0_pay8 P0) k0_pay9 (iota Kind.tc S8x256 32 [0] iota_S8x256_d0_w32) 7#32) (k0_pay11 (iota Kind.tc S512x256 32 [0] iota_S512x256_d0_w32) (k0_pay7 X G W0) (k0_pay8 P0)) b0 c00 c10 c20) (k0_pay22 (iota Kind.tc S512x256 32 [0] iota_S512x256_d0_w32) (k0_pay15 (k0_pay4 X G) W1) (k0_pay16 P1) (k0_pay17 (k0_pay4 X G) (iota Kind.tc S512x256 32 [0] iota_S512x256_d0_w32) W1 P1) (k0_pay18 (k0_pay4 X G) W1) (k0_pay19 (iota Kind.tc S512x256 32 [0] iota_S512x256_d0_w32)) k0_pay20 b1 c01 c11 c21) (k0_pay23 (k0_pay13 (k0_pay7 X G W0) (k0_pay10 (k0_pay7 X G W0) (k0_pay8 P0) k0_pay9 (iota Kind.tc S8x256 32 [0] iota_S8x256_d0_w32) 7#32) (k0_pay11 (iota Kind.tc S512x256 32 [0] iota_S512x256_d0_w32) (k0_pay7 X G W0) (k0_pay8 P0)) b0 c00 c10 c20)) (FloatOps.ofBits FTy.f32 1065353216#32)
    = gate (conv P0 (wide (k0_pay4 X G) W0) b0 c00 c10 c20) (conv P1 (wide (k0_pay4 X G) W1) b1 c01 c11 c21) := rfl
end

end Cert.Kernel6Ideal.Points
-- ==== Proof.ConvUp.lean ====
/-
  The product and the transposed rows that a point stores.
-/
module

public import proofs.«01_k».proof.Proof.Conv
public import proofs.«01_k».proof.Proof.ConvTiles

@[expose] public section

set_option maxRecDepth 16384

noncomputable section

namespace Cert.Kernel6Ideal.Points

open Idealize.ShloMosaic Idealize.ShloMosaic.TcCoe Idealize.SL.Sem
open Idealize.ShloMosaic.Pipeline (Dat)
open Cert.Kernel6Ideal Cert.Kernel6Ideal.Gen NormGrad Cert.Reference6Ideal.Rows

variable (m : (ℓ : Loc nD τ sig) → Buf (Elt Ideal) ℓ) (c : Dev nD)

set_option maxHeartbeats 2000000 in
theorem u_B (t : Fin cfg0.N) (h0 : ¬ t.val % 8 = 0) (j : S512x5632.Idx) :
    ((outsAt0 m c t.val t.isLt).2.2.1 : FVec Ideal S512x5632 .bf16) j
      = u (x0 m c) (x1 m c) (x2 m c) (trow t (j 0)) (j 1) := by
  rw [outsAt0_B m c t h0]
  frame_out
  canon_tiles x k using (View.cover_of_tiledBy _ ![512, 256] (by sl_kernel_rfl) j)
  · exact (congrFun (u_21 ..) x).trans (u_ld m c t 5376 (by decide) _ x j (by omega) (by omega))
  · exact (congrFun (u_10 ..) x).trans (u_ld m c t 2560 (by decide) _ x j (by omega) (by omega))
  · exact (congrFun (u_20 ..) x).trans (u_ld m c t 5120 (by decide) _ x j (by omega) (by omega))
  · exact (congrFun (u_9 ..) x).trans (u_ld m c t 2304 (by decide) _ x j (by omega) (by omega))
  · exact (congrFun (u_19 ..) x).trans (u_ld m c t 4864 (by decide) _ x j (by omega) (by omega))
  · exact (congrFun (u_8 ..) x).trans (u_ld m c t 2048 (by decide) _ x j (by omega) (by omega))
  · exact (congrFun (u_18 ..) x).trans (u_ld m c t 4608 (by decide) _ x j (by omega) (by omega))
  · exact (congrFun (u_7 ..) x).trans (u_ld m c t 1792 (by decide) _ x j (by omega) (by omega))
  · exact (congrFun (u_17 ..) x).trans (u_ld m c t 4352 (by decide) _ x j (by omega) (by omega))
  · exact (congrFun (u_6 ..) x).trans (u_ld m c t 1536 (by decide) _ x j (by omega) (by omega))
  · exact (congrFun (u_16 ..) x).trans (u_ld m c t 4096 (by decide) _ x j (by omega) (by omega))
  · exact (congrFun (u_5 ..) x).trans (u_ld m c t 1280 (by decide) _ x j (by omega) (by omega))
  · exact (congrFun (u_15 ..) x).trans (u_ld m c t 3840 (by decide) _ x j (by omega) (by omega))
  · exact (congrFun (u_4 ..) x).trans (u_ld m c t 1024 (by decide) _ x j (by omega) (by omega))
  · exact (congrFun (u_14 ..) x).trans (u_ld m c t 3584 (by decide) _ x j (by omega) (by omega))
  · exact (congrFun (u_3 ..) x).trans (u_ld m c t 768 (by decide) _ x j (by omega) (by omega))
  · exact (congrFun (u_13 ..) x).trans (u_ld m c t 3328 (by decide) _ x j (by omega) (by omega))
  · exact (congrFun (u_2 ..) x).trans (u_ld m c t 512 (by decide) _ x j (by omega) (by omega))
  · exact (congrFun (u_12 ..) x).trans (u_ld m c t 3072 (by decide) _ x j (by omega) (by omega))
  · exact (congrFun (u_1 ..) x).trans (u_ld m c t 256 (by decide) _ x j (by omega) (by omega))
  · exact (congrFun (u_11 ..) x).trans (u_ld m c t 2816 (by decide) _ x j (by omega) (by omega))
  · exact (congrFun (u_0 ..) x).trans (u_ld m c t 0 (by decide) _ x j (by omega) (by omega))

theorem ht_B (t : Fin cfg0.N) (h0 : ¬ t.val % 8 = 0) (d : Fin 1024) (r : Fin 512) :
    ((outsAt0 m c t.val t.isLt).1 : FVec Ideal S1024x512 .bf16) (ix2 d r) = h (x0 m c) (x1 m c) (trow t r) d := by
  rw [outsAt0_B m c t h0]
  frame_out
  exact (ht_pay _ _ d r).trans ((h_pay _ _ r d).symm.trans (hb_at m c t r d))

set_option maxHeartbeats 2000000 in
theorem u_A (t : Fin cfg0.N) (h0 : t.val % 8 = 0) (j : S512x5632.Idx) :
    ((outsAt0 m c t.val t.isLt).2.2.1 : FVec Ideal S512x5632 .bf16) j
      = u (x0 m c) (x1 m c) (x2 m c) (trow t (j 0)) (j 1) := by
  rw [outsAt0_A m c t h0]
  frame_open
  simp (disch := decide) only [↓ View.readCov_skip, ↓ View.readCov_cons_toLoadRect, ↓ View.readCov_fill]
  frame_out
  canon_tiles x k using (View.cover_of_tiledBy _ ![512, 256] (by sl_kernel_rfl) j)
  · exact (congrFun (u_21 ..) x).trans (u_ld m c t 5376 (by decide) _ x j (by omega) (by omega))
  · exact (congrFun (u_10 ..) x).trans (u_ld m c t 2560 (by decide) _ x j (by omega) (by omega))
  · exact (congrFun (u_20 ..) x).trans (u_ld m c t 5120 (by decide) _ x j (by omega) (by omega))
  · exact (congrFun (u_9 ..) x).trans (u_ld m c t 2304 (by decide) _ x j (by omega) (by omega))
  · exact (congrFun (u_19 ..) x).trans (u_ld m c t 4864 (by decide) _ x j (by omega) (by omega))
  · exact (congrFun (u_8 ..) x).trans (u_ld m c t 2048 (by decide) _ x j (by omega) (by omega))
  · exact (congrFun (u_18 ..) x).trans (u_ld m c t 4608 (by decide) _ x j (by omega) (by omega))
  · exact (congrFun (u_7 ..) x).trans (u_ld m c t 1792 (by decide) _ x j (by omega) (by omega))
  · exact (congrFun (u_17 ..) x).trans (u_ld m c t 4352 (by decide) _ x j (by omega) (by omega))
  · exact (congrFun (u_6 ..) x).trans (u_ld m c t 1536 (by decide) _ x j (by omega) (by omega))
  · exact (congrFun (u_16 ..) x).trans (u_ld m c t 4096 (by decide) _ x j (by omega) (by omega))
  · exact (congrFun (u_5 ..) x).trans (u_ld m c t 1280 (by decide) _ x j (by omega) (by omega))
  · exact (congrFun (u_15 ..) x).trans (u_ld m c t 3840 (by decide) _ x j (by omega) (by omega))
  · exact (congrFun (u_4 ..) x).trans (u_ld m c t 1024 (by decide) _ x j (by omega) (by omega))
  · exact (congrFun (u_14 ..) x).trans (u_ld m c t 3584 (by decide) _ x j (by omega) (by omega))
  · exact (congrFun (u_3 ..) x).trans (u_ld m c t 768 (by decide) _ x j (by omega) (by omega))
  · exact (congrFun (u_13 ..) x).trans (u_ld m c t 3328 (by decide) _ x j (by omega) (by omega))
  · exact (congrFun (u_2 ..) x).trans (u_ld m c t 512 (by decide) _ x j (by omega) (by omega))
  · exact (congrFun (u_12 ..) x).trans (u_ld m c t 3072 (by decide) _ x j (by omega) (by omega))
  · exact (congrFun (u_1 ..) x).trans (u_ld m c t 256 (by decide) _ x j (by omega) (by omega))
  · exact (congrFun (u_11 ..) x).trans (u_ld m c t 2816 (by decide) _ x j (by omega) (by omega))
  · exact (congrFun (u_0 ..) x).trans (u_ld m c t 0 (by decide) _ x j (by omega) (by omega))

theorem ht_A (t : Fin cfg0.N) (h0 : t.val % 8 = 0) (d : Fin 1024) (r : Fin 512) :
    ((outsAt0 m c t.val t.isLt).1 : FVec Ideal S1024x512 .bf16) (ix2 d r) = h (x0 m c) (x1 m c) (trow t r) d := by
  rw [outsAt0_A m c t h0]
  frame_open
  simp (disch := decide) only [↓ View.readCov_skip, ↓ View.readCov_cons_toLoadRect, ↓ View.readCov_fill]
  frame_out
  exact (ht_pay _ _ d r).trans ((h_pay _ _ r d).symm.trans (hb_at m c t r d))

end Cert.Kernel6Ideal.Points
-- ==== Proof.ConvLast.lean ====
/-
  The last eight rows of the product of a point, carried to the next.
-/
module

public import proofs.«01_k».proof.Proof.Conv
public import proofs.«01_k».proof.Proof.ConvTiles

@[expose] public section

set_option maxRecDepth 16384

noncomputable section

namespace Cert.Kernel6Ideal.Points

open Idealize.ShloMosaic Idealize.ShloMosaic.TcCoe Idealize.SL.Sem
open Idealize.ShloMosaic.Pipeline (Dat)
open Cert.Kernel6Ideal Cert.Kernel6Ideal.Gen NormGrad Cert.Reference6Ideal.Rows

variable (m : (ℓ : Loc nD τ sig) → Buf (Elt Ideal) ℓ) (c : Dev nD)

set_option maxHeartbeats 2000000 in
theorem last_B (t : Fin cfg0.N) (h0 : ¬ t.val % 8 = 0) (j : S22x8x256.Idx) (Q : Fin 5632)
    (hQ : Q.val = (j 0).val * 256 + (j 2).val) :
    ((outsAt0 m c t.val t.isLt).2.2.2.2 : FVec Ideal S22x8x256 .f32) j
      = u (x0 m c) (x1 m c) (x2 m c) (trow t ⟨504 + (j 1).val, by have := (j 1).isLt; change (j 1).val < 8 at this; omega⟩) Q := by
  rw [outsAt0_B m c t h0]
  frame_out
  canon_tiles x k using (View.cover_of_tiledBy _ ![1, 8, 256] (by sl_kernel_rfl) j)
  · exact (congrFun (l_21 ..) x).trans (last_ld m c t 21 5376 (by decide) rfl _ x j (by omega) (by omega) (by omega) Q hQ)
  · exact (congrFun (l_10 ..) x).trans (last_ld m c t 10 2560 (by decide) rfl _ x j (by omega) (by omega) (by omega) Q hQ)
  · exact (congrFun (l_20 ..) x).trans (last_ld m c t 20 5120 (by decide) rfl _ x j (by omega) (by omega) (by omega) Q hQ)
  · exact (congrFun (l_9 ..) x).trans (last_ld m c t 9 2304 (by decide) rfl _ x j (by omega) (by omega) (by omega) Q hQ)
  · exact (congrFun (l_19 ..) x).trans (last_ld m c t 19 4864 (by decide) rfl _ x j (by omega) (by omega) (by omega) Q hQ)
  · exact (congrFun (l_8 ..) x).trans (last_ld m c t 8 2048 (by decide) rfl _ x j (by omega) (by omega) (by omega) Q hQ)
  · exact (congrFun (l_18 ..) x).trans (last_ld m c t 18 4608 (by decide) rfl _ x j (by omega) (by omega) (by omega) Q hQ)
  · exact (congrFun (l_7 ..) x).trans (last_ld m c t 7 1792 (by decide) rfl _ x j (by omega) (by omega) (by omega) Q hQ)
  · exact (congrFun (l_17 ..) x).trans (last_ld m c t 17 4352 (by decide) rfl _ x j (by omega) (by omega) (by omega) Q hQ)
  · exact (congrFun (l_6 ..) x).trans (last_ld m c t 6 1536 (by decide) rfl _ x j (by omega) (by omega) (by omega) Q hQ)
  · exact (congrFun (l_16 ..) x).trans (last_ld m c t 16 4096 (by decide) rfl _ x j (by omega) (by omega) (by omega) Q hQ)
  · exact (congrFun (l_5 ..) x).trans (last_ld m c t 5 1280 (by decide) rfl _ x j (by omega) (by omega) (by omega) Q hQ)
  · exact (congrFun (l_15 ..) x).trans (last_ld m c t 15 3840 (by decide) rfl _ x j (by omega) (by omega) (by omega) Q hQ)
  · exact (congrFun (l_4 ..) x).trans (last_ld m c t 4 1024 (by decide) rfl _ x j (by omega) (by omega) (by omega) Q hQ)
  · exact (congrFun (l_14 ..) x).trans (last_ld m c t 14 3584 (by decide) rfl _ x j (by omega) (by omega) (by omega) Q hQ)
  · exact (congrFun (l_3 ..) x).trans (last_ld m c t 3 768 (by decide) rfl _ x j (by omega) (by omega) (by omega) Q hQ)
  · exact (congrFun (l_13 ..) x).trans (last_ld m c t 13 3328 (by decide) rfl _ x j (by omega) (by omega) (by omega) Q hQ)
  · exact (congrFun (l_2 ..) x).trans (last_ld m c t 2 512 (by decide) rfl _ x j (by omega) (by omega) (by omega) Q hQ)
  · exact (congrFun (l_12 ..) x).trans (last_ld m c t 12 3072 (by decide) rfl _ x j (by omega) (by omega) (by omega) Q hQ)
  · exact (congrFun (l_1 ..) x).trans (last_ld m c t 1 256 (by decide) rfl _ x j (by omega) (by omega) (by omega) Q hQ)
  · exact (congrFun (l_11 ..) x).trans (last_ld m c t 11 2816 (by decide) rfl _ x j (by omega) (by omega) (by omega) Q hQ)
  · exact (congrFun (l_0 ..) x).trans (last_ld m c t 0 0 (by decide) rfl _ x j (by omega) (by omega) (by omega) Q hQ)

theorem pl0 (n : ℕ) (x : Fin 1) : n + 1 * x.val = n := by omega
theorem pl1 (x : ℕ) : 0 + 1 * x = x := by omega

/-- What a point leaves at a place of the carried rows. -/
def left (t : Fin cfg0.N) (j : S22x8x256.Idx) : EReal :=
  u (x0 m c) (x1 m c) (x2 m c) (trow t ⟨504 + (j 1).val, by have := (j 1).isLt; change (j 1).val < 8 at this; omega⟩)
    ⟨(j 0).val * 256 + (j 2).val, by
      have := (j 0).isLt; have := (j 2).isLt; change (j 0).val < 22 at *; change (j 2).val < 256 at *; omega⟩

set_option maxHeartbeats 2000000 in
theorem last_A (t : Fin cfg0.N) (h0 : t.val % 8 = 0) (j : S22x8x256.Idx) :
    ((outsAt0 m c t.val t.isLt).2.2.2.2 : FVec Ideal S22x8x256 .f32) j = left m c t j := by
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (s := S22x8x256) (left m c t) [_] [_, _, _, _, _, _, _, _, _, _, _, _, _, _, _, _, _, _, _, _, _, _]
    ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ j (View.cover_of_tiledL _ ![1, 8, 256] (by sl_kernel_rfl) j)
  · exact (congrFun (l_21 ..) x).trans (last_ld m c t 21 5376 (by decide) rfl _ x _ (pl0 _ _) (pl1 _) (pl1 _) _ rfl)
  · exact (congrFun (l_10 ..) x).trans (last_ld m c t 10 2560 (by decide) rfl _ x _ (pl0 _ _) (pl1 _) (pl1 _) _ rfl)
  · exact (congrFun (l_20 ..) x).trans (last_ld m c t 20 5120 (by decide) rfl _ x _ (pl0 _ _) (pl1 _) (pl1 _) _ rfl)
  · exact (congrFun (l_9 ..) x).trans (last_ld m c t 9 2304 (by decide) rfl _ x _ (pl0 _ _) (pl1 _) (pl1 _) _ rfl)
  · exact (congrFun (l_19 ..) x).trans (last_ld m c t 19 4864 (by decide) rfl _ x _ (pl0 _ _) (pl1 _) (pl1 _) _ rfl)
  · exact (congrFun (l_8 ..) x).trans (last_ld m c t 8 2048 (by decide) rfl _ x _ (pl0 _ _) (pl1 _) (pl1 _) _ rfl)
  · exact (congrFun (l_18 ..) x).trans (last_ld m c t 18 4608 (by decide) rfl _ x _ (pl0 _ _) (pl1 _) (pl1 _) _ rfl)
  · exact (congrFun (l_7 ..) x).trans (last_ld m c t 7 1792 (by decide) rfl _ x _ (pl0 _ _) (pl1 _) (pl1 _) _ rfl)
  · exact (congrFun (l_17 ..) x).trans (last_ld m c t 17 4352 (by decide) rfl _ x _ (pl0 _ _) (pl1 _) (pl1 _) _ rfl)
  · exact (congrFun (l_6 ..) x).trans (last_ld m c t 6 1536 (by decide) rfl _ x _ (pl0 _ _) (pl1 _) (pl1 _) _ rfl)
  · exact (congrFun (l_16 ..) x).trans (last_ld m c t 16 4096 (by decide) rfl _ x _ (pl0 _ _) (pl1 _) (pl1 _) _ rfl)
  · exact (congrFun (l_5 ..) x).trans (last_ld m c t 5 1280 (by decide) rfl _ x _ (pl0 _ _) (pl1 _) (pl1 _) _ rfl)
  · exact (congrFun (l_15 ..) x).trans (last_ld m c t 15 3840 (by decide) rfl _ x _ (pl0 _ _) (pl1 _) (pl1 _) _ rfl)
  · exact (congrFun (l_4 ..) x).trans (last_ld m c t 4 1024 (by decide) rfl _ x _ (pl0 _ _) (pl1 _) (pl1 _) _ rfl)
  · exact (congrFun (l_14 ..) x).trans (last_ld m c t 14 3584 (by decide) rfl _ x _ (pl0 _ _) (pl1 _) (pl1 _) _ rfl)
  · exact (congrFun (l_3 ..) x).trans (last_ld m c t 3 768 (by decide) rfl _ x _ (pl0 _ _) (pl1 _) (pl1 _) _ rfl)
  · exact (congrFun (l_13 ..) x).trans (last_ld m c t 13 3328 (by decide) rfl _ x _ (pl0 _ _) (pl1 _) (pl1 _) _ rfl)
  · exact (congrFun (l_2 ..) x).trans (last_ld m c t 2 512 (by decide) rfl _ x _ (pl0 _ _) (pl1 _) (pl1 _) _ rfl)
  · exact (congrFun (l_12 ..) x).trans (last_ld m c t 12 3072 (by decide) rfl _ x _ (pl0 _ _) (pl1 _) (pl1 _) _ rfl)
  · exact (congrFun (l_1 ..) x).trans (last_ld m c t 1 256 (by decide) rfl _ x _ (pl0 _ _) (pl1 _) (pl1 _) _ rfl)
  · exact (congrFun (l_11 ..) x).trans (last_ld m c t 11 2816 (by decide) rfl _ x _ (pl0 _ _) (pl1 _) (pl1 _) _ rfl)
  · exact (congrFun (l_0 ..) x).trans (last_ld m c t 0 0 (by decide) rfl _ x _ (pl0 _ _) (pl1 _) (pl1 _) _ rfl)

end Cert.Kernel6Ideal.Points
-- ==== Proof.ConvAct.lean ====
/-
  The gate that a point stores.
-/
module

public import proofs.«01_k».proof.Proof.Conv
public import proofs.«01_k».proof.Proof.ConvTiles

@[expose] public section

set_option maxRecDepth 16384

noncomputable section

namespace Cert.Kernel6Ideal.Points

open Idealize.ShloMosaic Idealize.ShloMosaic.TcCoe Idealize.SL.Sem
open Idealize.ShloMosaic.Pipeline (Dat)
open Cert.Kernel6Ideal Cert.Kernel6Ideal.Gen NormGrad Cert.Reference6Ideal.Rows

variable (m : (ℓ : Loc nD τ sig) → Buf (Elt Ideal) ℓ) (c : Dev nD)

set_option maxHeartbeats 4000000 in
theorem act_B (t : Fin cfg0.N) (h0 : ¬ t.val % 8 = 0)
    (hp : ∀ (n : Fin 22) (i : Fin 8) (q : Fin 256) (Q : Fin 5632), Q.val = n.val * 256 + q.val →
      ((outsAt0 m c (t.val - 1) (Nat.lt_of_le_of_lt (Nat.sub_le _ _) t.isLt)).2.2.2.2 : FVec Ideal S22x8x256 .f32) (ix3 n i q)
        = before m c t i Q) (j : S512x2816.Idx) :
    ((outsAt0 m c t.val t.isLt).2.2.2.1 : FVec Ideal S512x2816 .bf16) j
      = ac (x0 m c) (x1 m c) (x2 m c) (x3 m c) (x4 m c) (trow t (j 0)) (j 1) := by
  rw [outsAt0_B m c t h0]
  frame_out
  generalize (outsAt0 m c (t.val - 1) (Nat.lt_of_le_of_lt (Nat.sub_le _ _) t.isLt)).2.2.2.2 = prev at hp ⊢
  rw [read_unread_whole]
  have hX := hp
  canon_tiles x k using (View.cover_of_tiledBy _ ![512, 256] (by sl_kernel_rfl) j)
  · refine (congrFun (a_10 ..) x).trans ?_
    exact act_ld m c t _ hX 10 21 2560 5376 (by decide) rfl rfl rfl _ _ _ _ _ _ _ _ _ _ _ _ x j (by omega) (by omega)
  · refine (congrFun (a_9 ..) x).trans ?_
    exact act_ld m c t _ hX 9 20 2304 5120 (by decide) rfl rfl rfl _ _ _ _ _ _ _ _ _ _ _ _ x j (by omega) (by omega)
  · refine (congrFun (a_8 ..) x).trans ?_
    exact act_ld m c t _ hX 8 19 2048 4864 (by decide) rfl rfl rfl _ _ _ _ _ _ _ _ _ _ _ _ x j (by omega) (by omega)
  · refine (congrFun (a_7 ..) x).trans ?_
    exact act_ld m c t _ hX 7 18 1792 4608 (by decide) rfl rfl rfl _ _ _ _ _ _ _ _ _ _ _ _ x j (by omega) (by omega)
  · refine (congrFun (a_6 ..) x).trans ?_
    exact act_ld m c t _ hX 6 17 1536 4352 (by decide) rfl rfl rfl _ _ _ _ _ _ _ _ _ _ _ _ x j (by omega) (by omega)
  · refine (congrFun (a_5 ..) x).trans ?_
    exact act_ld m c t _ hX 5 16 1280 4096 (by decide) rfl rfl rfl _ _ _ _ _ _ _ _ _ _ _ _ x j (by omega) (by omega)
  · refine (congrFun (a_4 ..) x).trans ?_
    exact act_ld m c t _ hX 4 15 1024 3840 (by decide) rfl rfl rfl _ _ _ _ _ _ _ _ _ _ _ _ x j (by omega) (by omega)
  · refine (congrFun (a_3 ..) x).trans ?_
    exact act_ld m c t _ hX 3 14 768 3584 (by decide) rfl rfl rfl _ _ _ _ _ _ _ _ _ _ _ _ x j (by omega) (by omega)
  · refine (congrFun (a_2 ..) x).trans ?_
    exact act_ld m c t _ hX 2 13 512 3328 (by decide) rfl rfl rfl _ _ _ _ _ _ _ _ _ _ _ _ x j (by omega) (by omega)
  · refine (congrFun (a_1 ..) x).trans ?_
    exact act_ld m c t _ hX 1 12 256 3072 (by decide) rfl rfl rfl _ _ _ _ _ _ _ _ _ _ _ _ x j (by omega) (by omega)
  · refine (congrFun (a_0 ..) x).trans ?_
    exact act_ld m c t _ hX 0 11 0 2816 (by decide) rfl rfl rfl _ _ _ _ _ _ _ _ _ _ _ _ x j (by omega) (by omega)

set_option maxHeartbeats 4000000 in
theorem act_A (t : Fin cfg0.N) (h0 : t.val % 8 = 0) (j : S512x2816.Idx) :
    ((outsAt0 m c t.val t.isLt).2.2.2.1 : FVec Ideal S512x2816 .bf16) j
      = ac (x0 m c) (x1 m c) (x2 m c) (x3 m c) (x4 m c) (trow t (j 0)) (j 1) := by
  rw [outsAt0_A m c t h0]
  frame_open
  simp (disch := decide) only [↓ View.readCov_skip, ↓ View.readCov_cons_toLoadRect, ↓ View.readCov_fill]
  frame_out
  have hX : ∀ (n : Fin 22) (i : Fin 8) (q : Fin 256) (Q : Fin 5632), Q.val = n.val * 256 + q.val →
      (k0_pay2 : FVec Ideal S22x8x256 .f32) (ix3 n i q) = before m c t i Q := fun n i q Q hQ => by
    have := lt8 t
    rw [before, if_neg (by omega)]
    pointwise [k0_pay2]
  canon_tiles x k using (View.cover_of_tiledBy _ ![512, 256] (by sl_kernel_rfl) j)
  · refine (congrFun (a_10 ..) x).trans ?_
    exact act_ld m c t _ hX 10 21 2560 5376 (by decide) rfl rfl rfl _ _ _ _ _ _ _ _ _ _ _ _ x j (by omega) (by omega)
  · refine (congrFun (a_9 ..) x).trans ?_
    exact act_ld m c t _ hX 9 20 2304 5120 (by decide) rfl rfl rfl _ _ _ _ _ _ _ _ _ _ _ _ x j (by omega) (by omega)
  · refine (congrFun (a_8 ..) x).trans ?_
    exact act_ld m c t _ hX 8 19 2048 4864 (by decide) rfl rfl rfl _ _ _ _ _ _ _ _ _ _ _ _ x j (by omega) (by omega)
  · refine (congrFun (a_7 ..) x).trans ?_
    exact act_ld m c t _ hX 7 18 1792 4608 (by decide) rfl rfl rfl _ _ _ _ _ _ _ _ _ _ _ _ x j (by omega) (by omega)
  · refine (congrFun (a_6 ..) x).trans ?_
    exact act_ld m c t _ hX 6 17 1536 4352 (by decide) rfl rfl rfl _ _ _ _ _ _ _ _ _ _ _ _ x j (by omega) (by omega)
  · refine (congrFun (a_5 ..) x).trans ?_
    exact act_ld m c t _ hX 5 16 1280 4096 (by decide) rfl rfl rfl _ _ _ _ _ _ _ _ _ _ _ _ x j (by omega) (by omega)
  · refine (congrFun (a_4 ..) x).trans ?_
    exact act_ld m c t _ hX 4 15 1024 3840 (by decide) rfl rfl rfl _ _ _ _ _ _ _ _ _ _ _ _ x j (by omega) (by omega)
  · refine (congrFun (a_3 ..) x).trans ?_
    exact act_ld m c t _ hX 3 14 768 3584 (by decide) rfl rfl rfl _ _ _ _ _ _ _ _ _ _ _ _ x j (by omega) (by omega)
  · refine (congrFun (a_2 ..) x).trans ?_
    exact act_ld m c t _ hX 2 13 512 3328 (by decide) rfl rfl rfl _ _ _ _ _ _ _ _ _ _ _ _ x j (by omega) (by omega)
  · refine (congrFun (a_1 ..) x).trans ?_
    exact act_ld m c t _ hX 1 12 256 3072 (by decide) rfl rfl rfl _ _ _ _ _ _ _ _ _ _ _ _ x j (by omega) (by omega)
  · refine (congrFun (a_0 ..) x).trans ?_
    exact act_ld m c t _ hX 0 11 0 2816 (by decide) rfl rfl rfl _ _ _ _ _ _ _ _ _ _ _ _ x j (by omega) (by omega)

end Cert.Kernel6Ideal.Points
-- ==== Proof.ConvFin.lean ====
/-
  The three results of the call: the transposed normalized rows, their widening product, and the gate of its convolution.
-/
module

public import proofs.«01_k».proof.Proof.ConvUp
public import proofs.«01_k».proof.Proof.ConvLast
public import proofs.«01_k».proof.Proof.ConvAct

@[expose] public section

set_option maxRecDepth 16384

noncomputable section

namespace Cert.Kernel6Ideal.Points

open Idealize.ShloMosaic Idealize.ShloMosaic.TcCoe Idealize.SL.Sem
open Idealize.ShloMosaic.Pipeline (Dat)
open Cert.Kernel6Ideal Cert.Kernel6Ideal.Gen NormGrad Cert.Reference6Ideal.Rows

variable (m : (ℓ : Loc nD τ sig) → Buf (Elt Ideal) ℓ) (c : Dev nD)

/-- What a point leaves for the next, whichever case it is. -/
theorem left_at (t : Fin cfg0.N) (j : S22x8x256.Idx) :
    ((outsAt0 m c t.val t.isLt).2.2.2.2 : FVec Ideal S22x8x256 .f32) j = left m c t j := by
  by_cases h0 : t.val % 8 = 0
  · exact last_A m c t h0 j
  · exact last_B m c t h0 j _ rfl

/-- The rows that a later point finds are those before its block. -/
theorem found (t : Fin cfg0.N) (h0 : ¬ t.val % 8 = 0) (n : Fin 22) (i : Fin 8) (q : Fin 256) (Q : Fin 5632)
    (hQ : Q.val = n.val * 256 + q.val) :
    ((outsAt0 m c (t.val - 1) (Nat.lt_of_le_of_lt (Nat.sub_le _ _) t.isLt)).2.2.2.2 : FVec Ideal S22x8x256 .f32) (ix3 n i q)
      = before m c t i Q := by
  have h1 : 1 ≤ t.val := by omega
  refine (left_at m c ⟨t.val - 1, Nat.lt_of_le_of_lt (Nat.sub_le _ _) t.isLt⟩ (ix3 n i q)).trans ?_
  rw [before, if_pos h1, left]
  refine congrArg₂ (u (x0 m c) (x1 m c) (x2 m c)) (Fin.ext ?_) (Fin.ext hQ.symm)
  show (t.val - 1) * 512 + (504 + i.val) = t.val * 512 - 8 + i.val
  omega

open Cert.Reference6Ideal.Read in
theorem final5 : (dats m 0 c).arrAt 5 cfg0.N = val_main_v40 (F := Ideal) (x0 m c) (x1 m c) := by
  refine (dats m 0 c).arrAt_eq_of_covers 5 _ (by decide +kernel) fun t hf y => ?_
  blk_simp
  rw [after0_5]
  obtain ⟨d, r, rfl⟩ : ∃ (d : Fin 1024) (r : Fin 512), y = ix2 d r := ⟨y 0, y 1, by idx_ext⟩
  have e : ((outsAt0 m c t.val t.isLt).1 : FVec Ideal S1024x512 .bf16) (ix2 d r) = h (x0 m c) (x1 m c) (trow t r) d := by
    by_cases h0 : t.val % 8 = 0
    · exact ht_A m c t h0 d r
    · exact ht_B m c t h0 d r
  refine e.trans ((res0 (x0 m c) (x1 m c) d (trow t r)).symm.trans ?_)
  blk_ext [idx t]

open Cert.Reference6Ideal.Read in
theorem final7 : (dats m 0 c).arrAt 7 cfg0.N = val_main_v41 (F := Ideal) (x0 m c) (x1 m c) (x2 m c) := by
  refine (dats m 0 c).arrAt_eq_of_covers 7 _ (by decide +kernel) fun t hf y => ?_
  blk_simp
  rw [after0_7]
  obtain ⟨r, q, rfl⟩ : ∃ (r : Fin 512) (q : Fin 5632), y = ix2 r q := ⟨y 0, y 1, by idx_ext⟩
  have e : ((outsAt0 m c t.val t.isLt).2.2.1 : FVec Ideal S512x5632 .bf16) (ix2 r q) = u (x0 m c) (x1 m c) (x2 m c) (trow t r) q := by
    by_cases h0 : t.val % 8 = 0
    · exact u_A m c t h0 (ix2 r q)
    · exact u_B m c t h0 (ix2 r q)
  refine e.trans ((res1 (x0 m c) (x1 m c) (x2 m c) (trow t r) q).symm.trans ?_)
  blk_ext [idx t]

open Cert.Reference6Ideal.Read in
theorem final8 : (dats m 0 c).arrAt 8 cfg0.N = val_main_v44 (F := Ideal) (x0 m c) (x1 m c) (x2 m c) (x3 m c) (x4 m c) := by
  refine (dats m 0 c).arrAt_eq_of_covers 8 _ (by decide +kernel) fun t hf y => ?_
  blk_simp
  rw [after0_8]
  obtain ⟨r, d, rfl⟩ : ∃ (r : Fin 512) (d : Fin 2816), y = ix2 r d := ⟨y 0, y 1, by idx_ext⟩
  have e : ((outsAt0 m c t.val t.isLt).2.2.2.1 : FVec Ideal S512x2816 .bf16) (ix2 r d)
      = ac (x0 m c) (x1 m c) (x2 m c) (x3 m c) (x4 m c) (trow t r) d := by
    by_cases h0 : t.val % 8 = 0
    · exact act_A m c t h0 (ix2 r d)
    · exact act_B m c t h0 (found m c t h0) (ix2 r d)
  refine e.trans ((res2 (x0 m c) (x1 m c) (x2 m c) (x3 m c) (x4 m c) (trow t r) d).symm.trans ?_)
  blk_ext [idx t]

end Cert.Kernel6Ideal.Points
-- ==== Proof.Claim6.lean ====
/-
  The second half of the forward block: the reference's frame, and the equality of the results.
-/
module

public import proofs.«01_k».proof.Defs
public import proofs.«01_k».proof.Proof.Gen.Kernel6Ideal.Value
public import proofs.«01_k».proof.Proof.ConvFin
public import Idealize.ShloMosaic.Lib.Claim
public import Idealize.ShloMosaic.Adequacy
public import Idealize.ShloMosaic.Init

@[expose] public section

noncomputable section

namespace Cert.Claim6

open Idealize.ShloMosaic Idealize.SL.Sem Cert.Kernel6Ideal.Points Cert.Reference6Ideal.Read

theorem frame_reference : Cert.quiescent_Reference6Ideal (hReference6Ideal := Cert.Reference6Ideal.Gen.facts) :=
  fun m g _ => (θ_run Cert.Reference6Ideal.defs _ _).mono
    (fun r h => ⟨fun c => (h c).2.2.2, sem_eq_zero_of_no_sems (by decide) r.2⟩)
    (Cert.Reference6Ideal.Value.run (F := Ideal) m g)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => val_main_v40 (F := Ideal) (x0 m c) (x1 m c),
    fun c => val_main_v41 (F := Ideal) (x0 m c) (x1 m c) (x2 m c),
    fun c => val_main_v44 (F := Ideal) (x0 m c) (x1 m c) (x2 m c) (x3 m c) (x4 m c),
    θ_run_mono (Cert.Kernel6Ideal.Value.run_blocks m g) fun r h c =>
      ⟨(h c).1.trans (final5 m c), (h c).2.2.1.trans (final7 m c), (h c).2.2.2.1.trans (final8 m c), (h c).2.2.2.2⟩,
    θ_run_mono (Cert.Reference6Ideal.Value.run m' g') fun r h c =>
      ⟨(h c).1.trans ((val_main_v40_eq ..).trans ?_), (h c).2.1.trans ((val_main_v41_eq ..).trans ?_),
        (h c).2.2.1.trans ((val_main_v44_eq m' c).trans ?_), (h c).2.2.2⟩⟩
  · rw [(hagree c).1, (hagree c).2.1]
  · rw [(hagree c).1, (hagree c).2.1, (hagree c).2.2.1]
  · rw [(hagree c).1, (hagree c).2.1, (hagree c).2.2.1, (hagree c).2.2.2.1, (hagree c).2.2.2.2]

end Cert.Claim6

end
-- ==== Proof.Run7.lean ====
/-
  What every array holds when the calls have run, one after the other.
-/
module

public import proofs.«01_k».proof.Proof.Gen.Kernel7Ideal.Frame

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every run ends, with every array at the contents the last boundary names. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.Kernel7Ideal.Gen
-- ==== Proof.RefMix.lean ====
/-
  The gated sum of three products and its gradients, as the reference returns them: its arrays, read at an index.
-/
module

public import proofs.«01_k».proof.Proof.Gen.Reference7Ideal.Read
public import proofs.«01_k».proof.Proof.RefForward

@[expose] public section

set_option maxRecDepth 16384

noncomputable section

namespace NormGrad

open Idealize.ShloMosaic

/-- Column `d` of the first 1024. -/
abbrev c0 (d : Fin 1024) : Fin 3072 := ⟨d.val, by omega⟩
/-- Column `d` of the second 1024. -/
abbrev c1 (d : Fin 1024) : Fin 3072 := ⟨1024 + d.val, by omega⟩
/-- Column `d` of the third 1024. -/
abbrev c2 (d : Fin 1024) : Fin 3072 := ⟨2048 + d.val, by omega⟩
/-- A column is one of the three. -/
theorem col (q : Fin 3072) : (∃ d, q = c0 d) ∨ (∃ d, q = c1 d) ∨ ∃ d, q = c2 d := by
  by_cases h : q.val < 1024
  · exact .inl ⟨⟨q.val, h⟩, rfl⟩
  by_cases h' : q.val < 2048
  · exact .inr (.inl ⟨⟨q.val - 1024, by omega⟩, Fin.ext (by simp only; omega)⟩)
  · exact .inr (.inr ⟨⟨q.val - 2048, by omega⟩, Fin.ext (by simp only; omega)⟩)
/-- The gradient of a gate's argument: of the sum's gradient, the gate, and what it multiplies. -/
def dpre (d g p : EReal) : EReal := d * p * (g * (one - g))

end NormGrad

namespace Cert.Reference7Ideal.Rows

open Idealize.ShloMosaic Idealize.ShloMosaic.TcCoe Idealize.SL.Sem
open Cert.Reference7Ideal Cert.Reference7Ideal.Read NormGrad

section
variable (x0 : FVec Ideal S4096x1024 .bf16) (x1 : FVec Ideal S1024x3072 .bf16) (x2 : FVec Ideal S1x3072 .f32)
  (x3 : FVec Ideal S4096x256 .f32) (x4 : FVec Ideal S4096x512 .f32) (x5 : FVec Ideal S4096x512 .bf16)
  (x6 : FVec Ideal S256x1024 .bf16) (x7 x8 : FVec Ideal S512x1024 .bf16) (x9 : FVec Ideal S1024x1024 .bf16)
  (x10 : FVec Ideal S4096x1024 .f32) (x11 : FVec Ideal S4096x1024 .bf16)

/-- The gates. -/
def gt (s : Fin 4096) (q : Fin 3072) : EReal := sigm ((∑ k : Fin 1024, x0 (ix2 s k) * x1 (ix2 k q)) + x2 (ix2 0 q))
/-- The first product. -/
def pa (s : Fin 4096) (d : Fin 1024) : EReal := ∑ e : Fin 256, x3 (ix2 s e) * x6 (ix2 e d)
/-- The second product. -/
def pb (s : Fin 4096) (d : Fin 1024) : EReal := ∑ e : Fin 512, x4 (ix2 s e) * x7 (ix2 e d)
/-- The third product. -/
def pm (s : Fin 4096) (d : Fin 1024) : EReal := ∑ e : Fin 512, x5 (ix2 s e) * x8 (ix2 e d)
/-- The gated sum. -/
def mx (s : Fin 4096) (d : Fin 1024) : EReal :=
  gt x0 x1 x2 s (c0 d) * pa x3 x6 s d + gt x0 x1 x2 s (c1 d) * pb x4 x7 s d + gt x0 x1 x2 s (c2 d) * pm x5 x8 s d
/-- The gated sum's gradient. -/
def dm (s : Fin 4096) (d : Fin 1024) : EReal := ∑ e : Fin 1024, x11 (ix2 s e) * x9 (ix2 d e)

theorem gt_at (s : Fin 4096) (q : Fin 3072) : val_main_v15 (F := Ideal) x0 x1 x2 (ix2 s q) = gt x0 x1 x2 s q := by
  pointwise [val_main_v15, val_main_v14, val_main_v13, val_main_v12, val_main_v11, val_main_v10, val_main_v9,
    val_main_v8, val_main_v2, val_main_v1, val_main_v0, val_main_cst, val_main_cst_0, gt, sigm, one]
theorem g0_at (s : Fin 4096) (d : Fin 1024) :
    val_main_v19 (F := Ideal) x0 x1 x2 (ix2 s d) = gt x0 x1 x2 s (c0 d) := by
  rw [← gt_at]; pointwise [val_main_v19]
theorem g1_at (s : Fin 4096) (d : Fin 1024) :
    val_main_v20 (F := Ideal) x0 x1 x2 (ix2 s d) = gt x0 x1 x2 s (c1 d) := by
  rw [← gt_at]; pointwise [val_main_v20]
theorem g2_at (s : Fin 4096) (d : Fin 1024) :
    val_main_v21 (F := Ideal) x0 x1 x2 (ix2 s d) = gt x0 x1 x2 s (c2 d) := by
  rw [← gt_at]; pointwise [val_main_v21]
theorem slope_at (s : Fin 4096) (q : Fin 3072) :
    val_main_v18 (F := Ideal) x0 x1 x2 (ix2 s q) = gt x0 x1 x2 s q * (one - gt x0 x1 x2 s q) := by
  pointwise [val_main_v18, val_main_v17, val_main_v16, val_main_cst_1, gt_at, one]
theorem pa_at (s : Fin 4096) (d : Fin 1024) : val_main_v22 (F := Ideal) x3 x6 (ix2 s d) = pa x3 x6 s d := by
  pointwise [val_main_v22, val_main_v4, pa]
theorem pb_at (s : Fin 4096) (d : Fin 1024) : val_main_v24 (F := Ideal) x4 x7 (ix2 s d) = pb x4 x7 s d := by
  pointwise [val_main_v24, val_main_v5, pb]
theorem pm_at (s : Fin 4096) (d : Fin 1024) : val_main_v27 (F := Ideal) x5 x8 (ix2 s d) = pm x5 x8 s d := by
  pointwise [val_main_v27, val_main_v6, val_main_v3, pm]
theorem mx_at (s : Fin 4096) (d : Fin 1024) :
    val_main_v29 (F := Ideal) x0 x1 x2 x3 x4 x5 x6 x7 x8 (ix2 s d) = mx x0 x1 x2 x3 x4 x5 x6 x7 x8 s d := by
  pointwise [val_main_v29, val_main_v28, val_main_v26, val_main_v25, val_main_v23, g0_at, g1_at, g2_at, pa_at, pb_at,
    pm_at, mx]
theorem dm_at (s : Fin 4096) (d : Fin 1024) : val_main_v35 (F := Ideal) x9 x11 (ix2 s d) = dm x9 x11 s d := by
  pointwise [val_main_v35, val_main_v32, val_main_v7, dm]

/-- The rows with the gated sum's product added. -/
theorem res0 (s : Fin 4096) (d : Fin 1024) :
    val_main_v31 (F := Ideal) x0 x1 x2 x3 x4 x5 x6 x7 x8 x9 x10 (ix2 s d)
      = x10 (ix2 s d) + ∑ e : Fin 1024, mx x0 x1 x2 x3 x4 x5 x6 x7 x8 s e * x9 (ix2 e d) := by
  pointwise [val_main_v31, val_main_v30, val_main_v7, mx_at]
/-- The gradient of the last weights. -/
theorem res1 (p q : Fin 1024) :
    val_main_v55 (F := Ideal) x0 x1 x2 x3 x4 x5 x6 x7 x8 x11 (ix2 p q)
      = ∑ s : Fin 4096, mx x0 x1 x2 x3 x4 x5 x6 x7 x8 s p * x11 (ix2 s q) := by
  rw [Finset.sum_congr rfl fun s _ => mul_comm (mx x0 x1 x2 x3 x4 x5 x6 x7 x8 s p) _]
  pointwise [val_main_v55, val_main_v34, val_main_v33, val_main_v32, mx_at]
theorem pre_at0 (s : Fin 4096) (d : Fin 1024) :
    val_main_v52 (F := Ideal) x0 x1 x2 x3 x4 x5 x6 x7 x8 x9 x11 (ix2 s (c0 d))
      = dpre (dm x9 x11 s d) (gt x0 x1 x2 s (c0 d)) (pa x3 x6 s d) := by
  pointwise [val_main_v52, val_main_v51, val_main_v47, slope_at, pa_at, dm_at, dpre]
theorem pre_at1 (s : Fin 4096) (d : Fin 1024) :
    val_main_v52 (F := Ideal) x0 x1 x2 x3 x4 x5 x6 x7 x8 x9 x11 (ix2 s (c1 d))
      = dpre (dm x9 x11 s d) (gt x0 x1 x2 s (c1 d)) (pb x4 x7 s d) := by
  pointwise [val_main_v52, val_main_v51, val_main_v42, slope_at, pb_at, dm_at, dpre]
theorem pre_at2 (s : Fin 4096) (d : Fin 1024) :
    val_main_v52 (F := Ideal) x0 x1 x2 x3 x4 x5 x6 x7 x8 x9 x11 (ix2 s (c2 d))
      = dpre (dm x9 x11 s d) (gt x0 x1 x2 s (c2 d)) (pm x5 x8 s d) := by
  pointwise [val_main_v52, val_main_v51, val_main_v37, slope_at, pm_at, dm_at, dpre]
  have e : (⟨2048 + d.val - 1024 - 1024, by omega⟩ : Fin 1024) = d := Fin.ext (by simp only; omega)
  rw [dif_neg (by omega), dif_neg (by omega), e]
/-- The gradient of the gates' arguments. -/
theorem res2 (s : Fin 4096) (q : Fin 3072) :
    val_main_v56 (F := Ideal) x0 x1 x2 x3 x4 x5 x6 x7 x8 x9 x11 (ix2 s q)
      = val_main_v52 (F := Ideal) x0 x1 x2 x3 x4 x5 x6 x7 x8 x9 x11 (ix2 s q) := by
  pointwise [val_main_v56]
/-- The gradient of the gates' bias. -/
theorem res3 (u : Fin 1) (q : Fin 3072) :
    val_main_v54 (F := Ideal) x0 x1 x2 x3 x4 x5 x6 x7 x8 x9 x11 (ix2 u q)
      = ∑ s : Fin 4096, val_main_v52 (F := Ideal) x0 x1 x2 x3 x4 x5 x6 x7 x8 x9 x11 (ix2 s q) := by
  pointwise [val_main_v54, val_main_v53, val_main_cst_2]
theorem dpa_at (s : Fin 4096) (d : Fin 1024) :
    val_main_v46 (F := Ideal) x0 x1 x2 x9 x11 (ix2 s d) = dm x9 x11 s d * gt x0 x1 x2 s (c0 d) := by
  rw [mul_comm]; pointwise [val_main_v46, g0_at, dm_at]
theorem dpb_at (s : Fin 4096) (d : Fin 1024) :
    val_main_v41 (F := Ideal) x0 x1 x2 x9 x11 (ix2 s d) = dm x9 x11 s d * gt x0 x1 x2 s (c1 d) := by
  rw [mul_comm]; pointwise [val_main_v41, g1_at, dm_at]
theorem dpm_at (s : Fin 4096) (d : Fin 1024) :
    val_main_v36 (F := Ideal) x0 x1 x2 x9 x11 (ix2 s d) = dm x9 x11 s d * gt x0 x1 x2 s (c2 d) := by
  rw [mul_comm]; pointwise [val_main_v36, g2_at, dm_at]
/-- The gradients of the three left operands. -/
theorem res4 (s : Fin 4096) (e : Fin 256) :
    val_main_v50 (F := Ideal) x0 x1 x2 x6 x9 x11 (ix2 s e)
      = ∑ d : Fin 1024, dm x9 x11 s d * gt x0 x1 x2 s (c0 d) * x6 (ix2 e d) := by
  pointwise [val_main_v50, val_main_v4, dpa_at]
theorem res5 (s : Fin 4096) (e : Fin 512) :
    val_main_v45 (F := Ideal) x0 x1 x2 x7 x9 x11 (ix2 s e)
      = ∑ d : Fin 1024, dm x9 x11 s d * gt x0 x1 x2 s (c1 d) * x7 (ix2 e d) := by
  pointwise [val_main_v45, val_main_v5, dpb_at]
theorem res6 (s : Fin 4096) (e : Fin 512) :
    val_main_v40 (F := Ideal) x0 x1 x2 x8 x9 x11 (ix2 s e)
      = ∑ d : Fin 1024, dm x9 x11 s d * gt x0 x1 x2 s (c2 d) * x8 (ix2 e d) := by
  pointwise [val_main_v40, val_main_v6, dpm_at]
/-- The gradients of the three right operands. -/
theorem res7 (e : Fin 256) (d : Fin 1024) :
    val_main_v57 (F := Ideal) x0 x1 x2 x3 x9 x11 (ix2 e d)
      = ∑ s : Fin 4096, x3 (ix2 s e) * (dm x9 x11 s d * gt x0 x1 x2 s (c0 d)) := by
  rw [Finset.sum_congr rfl fun s _ => mul_comm (x3 (ix2 s e)) _]
  pointwise [val_main_v57, val_main_v49, val_main_v48, dpa_at]
theorem res8 (e : Fin 512) (d : Fin 1024) :
    val_main_v58 (F := Ideal) x0 x1 x2 x4 x9 x11 (ix2 e d)
      = ∑ s : Fin 4096, x4 (ix2 s e) * (dm x9 x11 s d * gt x0 x1 x2 s (c1 d)) := by
  rw [Finset.sum_congr rfl fun s _ => mul_comm (x4 (ix2 s e)) _]
  pointwise [val_main_v58, val_main_v44, val_main_v43, dpb_at]
theorem res9 (e : Fin 512) (d : Fin 1024) :
    val_main_v59 (F := Ideal) x0 x1 x2 x5 x9 x11 (ix2 e d)
      = ∑ s : Fin 4096, x5 (ix2 s e) * (dm x9 x11 s d * gt x0 x1 x2 s (c2 d)) := by
  rw [Finset.sum_congr rfl fun s _ => mul_comm (x5 (ix2 s e)) _]
  pointwise [val_main_v59, val_main_v39, val_main_v38, val_main_v3, dpm_at]
end

end Cert.Reference7Ideal.Rows
-- ==== Proof.Mix.lean ====
/-
  The gated sum of three products and its gradients, call by call: what each call leaves in its results, of whatever
  its arguments hold.
-/
module

public import proofs.«01_k».proof.Proof.Gen.Kernel7Ideal.Frame
public import proofs.«01_k».proof.Proof.RefMix
public import Idealize.ShloMosaic.Lib.Pipeline.ValueKit
public import Idealize.ShloMosaic.Lib.Pipeline.ReadBack

@[expose] public section

set_option maxRecDepth 16384

noncomputable section

namespace Cert.Kernel7Ideal.Points

open Idealize.ShloMosaic Idealize.ShloMosaic.TcCoe Idealize.SL.Sem
open Idealize.ShloMosaic.Pipeline (Dat)
open Cert.Kernel7Ideal Cert.Kernel7Ideal.Gen NormGrad

section
variable (H : FVec Ideal S512x1024 .bf16) (W' : FVec Ideal S1024x3072 .bf16) (B : FVec Ideal S1x3072 .f32)
  (A : FVec Ideal S512x256 .f32) (WA : FVec Ideal S256x1024 .bf16) (O : FVec Ideal S512x512 .f32)
  (M : FVec Ideal S512x512 .bf16) (WB : FVec Ideal S512x1024 .bf16) (GA GB GM PM : FVec Ideal S512x1024 .bf16)
  (S : FVec Ideal S512x1024 .f32) (X : FVec Ideal S512x1024 .f32) (WO : FVec Ideal S1024x1024 .bf16)
  (C : FVec Ideal S4096x256 .bf16) (D : FVec Ideal S4096x1024 .bf16) (C' : FVec Ideal S4096x256 .f32)
  (E : FVec Ideal S4096x512 .f32) (E' : FVec Ideal S4096x512 .bf16)

theorem gate_pay (r : Fin 512) (d : Fin 3072) :
    k0_pay1 (F := Ideal) H W' B (ix2 r d)
      = sigm ((∑ k : Fin 1024, H (ix2 r k) * W' (ix2 k d)) + B (ix2 0 d)) := by
  pointwise [k0_pay1, sigm, one]
  rw [zero_sub]
theorem pa_pay (r : Fin 512) (d : Fin 1024) :
    k1_pay3 (F := Ideal) A WA (ix2 r d) = ∑ e : Fin 256, A (ix2 r e) * WA (ix2 e d) := by
  pointwise [k1_pay3]
theorem pb_pay (r : Fin 512) (d : Fin 1024) :
    k1_pay4 (F := Ideal) O WB (ix2 r d) = ∑ e : Fin 512, O (ix2 r e) * WB (ix2 e d) := by
  pointwise [k1_pay4]
theorem pm_pay (r : Fin 512) (d : Fin 1024) :
    k1_pay6 (F := Ideal) M WB (ix2 r d) = ∑ e : Fin 512, M (ix2 r e) * WB (ix2 e d) := by
  pointwise [k1_pay6]
theorem ab_pay (r : Fin 512) (d : Fin 1024) :
    k1_pay5 (F := Ideal) A WA GA O WB GB (ix2 r d)
      = GA (ix2 r d) * k1_pay3 (F := Ideal) A WA (ix2 r d) + GB (ix2 r d) * k1_pay4 (F := Ideal) O WB (ix2 r d) := by
  pointwise [k1_pay5]
theorem mg_pay (r : Fin 512) (d : Fin 1024) :
    k1_pay1 (F := Ideal) S PM GM (ix2 r d) = S (ix2 r d) + GM (ix2 r d) * PM (ix2 r d) := by
  pointwise [k1_pay1]
theorem x1_pay (r : Fin 512) (d : Fin 1024) :
    k1_pay2 (F := Ideal) S PM GM X WO (ix2 r d)
      = X (ix2 r d) + ∑ e : Fin 1024, k1_pay1 (F := Ideal) S PM GM (ix2 r e) * WO (ix2 e d) := by
  pointwise [k1_pay2]
theorem dwo_pay (p : Fin 256) (q : Fin 1024) :
    k2_pay1 (F := Ideal) C D (ix2 p q) = ∑ s : Fin 4096, C (ix2 s p) * D (ix2 s q) := by
  pointwise [k2_pay1]
theorem da_pay (r : Fin 512) (e : Fin 256) :
    k4_pay1 (F := Ideal) GA WA (ix2 r e) = ∑ d : Fin 1024, GA (ix2 r d) * WA (ix2 e d) := by
  pointwise [k4_pay1]
theorem db_pay (r : Fin 512) (e : Fin 512) :
    k4_pay2 (F := Ideal) GA WB (ix2 r e) = ∑ d : Fin 1024, GA (ix2 r d) * WB (ix2 e d) := by
  pointwise [k4_pay2]
theorem dm_pay (r : Fin 512) (e : Fin 512) :
    k4_pay3 (F := Ideal) GA WB (ix2 r e) = ∑ d : Fin 1024, GA (ix2 r d) * WB (ix2 e d) := by
  pointwise [k4_pay3]
theorem wa_pay (e : Fin 256) (q : Fin 256) :
    k5_pay1 (F := Ideal) C' C (ix2 e q) = ∑ s : Fin 4096, C' (ix2 s e) * C (ix2 s q) := by
  pointwise [k5_pay1]
theorem wb_pay (e : Fin 512) (q : Fin 256) :
    k5_pay2 (F := Ideal) E C (ix2 e q) = ∑ s : Fin 4096, E (ix2 s e) * C (ix2 s q) := by
  pointwise [k5_pay2]
theorem wm_pay (e : Fin 512) (q : Fin 256) :
    k5_pay3 (F := Ideal) E' C (ix2 e q) = ∑ s : Fin 4096, E' (ix2 s e) * C (ix2 s q) := by
  pointwise [k5_pay3]
end

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)
theorem idx1 : ∀ t : Fin cfg1.N, win1_0.index t = ![t.val, 0] ∧ win1_1.index t = ![t.val, 0] ∧ win1_2.index t = ![t.val, 0] ∧ win1_3.index t = ![0, 0] ∧ win1_4.index t = ![0, 0] ∧ win1_5.index t = ![0, 0] ∧ win1_6.index t = ![t.val, 0] ∧ win1_7.index t = ![0, 0] ∧ win1_8.index t = ![t.val, 0] ∧ win1_9.index t = ![t.val, 0] ∧ win1_10.index t = ![t.val, 0] ∧ win1_11.index t = ![t.val, 0] ∧ win1_12.index t = ![t.val, 0] ∧ win1_13.index t = ![t.val, 0] :=
  (by decide +kernel : ∀ t : Fin grid1.N, _)
theorem idx2 : ∀ t : Fin cfg2.N, win2_0.index t = ![0, t.val] ∧ win2_1.index t = ![0, 0] ∧ win2_2.index t = ![t.val, 0] :=
  (by decide +kernel : ∀ t : Fin grid2.N, _)
theorem idx4 : ∀ t : Fin cfg4.N, win4_0.index t = ![t.val, 0] ∧ win4_1.index t = ![0, 0] ∧ win4_2.index t = ![t.val, 0] ∧ win4_3.index t = ![0, 0] ∧ win4_4.index t = ![t.val, 0] ∧ win4_5.index t = ![0, 0] ∧ win4_6.index t = ![t.val, 0] ∧ win4_7.index t = ![t.val, 0] ∧ win4_8.index t = ![t.val, 0] :=
  (by decide +kernel : ∀ t : Fin grid4.N, _)
theorem idx5 : ∀ t : Fin cfg5.N, win5_0.index t = ![0, 0] ∧ win5_1.index t = ![0, t.val] ∧ win5_2.index t = ![0, 0] ∧ win5_3.index t = ![0, t.val] ∧ win5_4.index t = ![0, 0] ∧ win5_5.index t = ![0, t.val] ∧ win5_6.index t = ![0, t.val] ∧ win5_7.index t = ![0, t.val] ∧ win5_8.index t = ![0, t.val] :=
  (by decide +kernel : ∀ t : Fin grid5.N, _)

/-- The gates. -/
def gateV (h : FVec Ideal S4096x1024 .bf16) (w : FVec Ideal S1024x3072 .bf16) (b : FVec Ideal S1x3072 .f32) :
    FVec Ideal S4096x3072 .bf16 :=
  fun j => sigm ((∑ k : Fin 1024, h (ix2 (j 0) k) * w (ix2 k (j 1))) + b (ix2 0 (j 1)))
/-- A product of 256 terms. -/
def paV (o : FVec Ideal S4096x256 .f32) (w : FVec Ideal S256x1024 .bf16) : FVec Ideal S4096x1024 .bf16 :=
  fun j => ∑ e : Fin 256, o (ix2 (j 0) e) * w (ix2 e (j 1))
/-- A product of 512 terms. -/
def pbV (o : FVec Ideal S4096x512 .f32) (w : FVec Ideal S512x1024 .bf16) : FVec Ideal S4096x1024 .bf16 :=
  fun j => ∑ e : Fin 512, o (ix2 (j 0) e) * w (ix2 e (j 1))
/-- A product of 512 terms. -/
def pmV (o : FVec Ideal S4096x512 .bf16) (w : FVec Ideal S512x1024 .bf16) : FVec Ideal S4096x1024 .bf16 :=
  fun j => ∑ e : Fin 512, o (ix2 (j 0) e) * w (ix2 e (j 1))
/-- The gated sum of the three products. -/
def mixV (g : FVec Ideal S4096x3072 .bf16) (a b m : FVec Ideal S4096x1024 .bf16) : FVec Ideal S4096x1024 .bf16 :=
  fun j => g (ix2 (j 0) (c0 (j 1))) * a (ix2 (j 0) (j 1)) + g (ix2 (j 0) (c1 (j 1))) * b (ix2 (j 0) (j 1))
    + g (ix2 (j 0) (c2 (j 1))) * m (ix2 (j 0) (j 1))
/-- The rows with the gated sum's product added. -/
def x1V (g : FVec Ideal S4096x1024 .bf16) (w : FVec Ideal S1024x1024 .bf16) (x : FVec Ideal S4096x1024 .f32) :
    FVec Ideal S4096x1024 .f32 :=
  fun j => x (ix2 (j 0) (j 1)) + ∑ e : Fin 1024, g (ix2 (j 0) e) * w (ix2 e (j 1))
/-- The product of a transposed operand. -/
def dwoV (g dx : FVec Ideal S4096x1024 .bf16) : FVec Ideal S1024x1024 .bf16 :=
  fun j => ∑ s : Fin 4096, g (ix2 s (j 0)) * dx (ix2 s (j 1))
/-- A product with a transposed right operand of 256 rows. -/
def daV (p : FVec Ideal S4096x1024 .bf16) (w : FVec Ideal S256x1024 .bf16) : FVec Ideal S4096x256 .f32 :=
  fun j => ∑ d : Fin 1024, p (ix2 (j 0) d) * w (ix2 (j 1) d)
/-- A product with a transposed right operand of 512 rows. -/
def dbV (p : FVec Ideal S4096x1024 .bf16) (w : FVec Ideal S512x1024 .bf16) : FVec Ideal S4096x512 .f32 :=
  fun j => ∑ d : Fin 1024, p (ix2 (j 0) d) * w (ix2 (j 1) d)
/-- The product of a transposed operand of 256 columns. -/
def waV (o : FVec Ideal S4096x256 .f32) (p : FVec Ideal S4096x1024 .bf16) : FVec Ideal S256x1024 .bf16 :=
  fun j => ∑ s : Fin 4096, o (ix2 s (j 0)) * p (ix2 s (j 1))
/-- The product of a transposed operand of 512 columns. -/
def wbV (o : FVec Ideal S4096x512 .f32) (p : FVec Ideal S4096x1024 .bf16) : FVec Ideal S512x1024 .bf16 :=
  fun j => ∑ s : Fin 4096, o (ix2 s (j 0)) * p (ix2 s (j 1))
/-- The product of a transposed operand of 512 columns. -/
def wmV (o : FVec Ideal S4096x512 .bf16) (p : FVec Ideal S4096x1024 .bf16) : FVec Ideal S512x1024 .bf16 :=
  fun j => ∑ s : Fin 4096, o (ix2 s (j 0)) * p (ix2 s (j 1))

theorem reg0 : (dat0 V c).arrAt 3 cfg0.N = gateV (V c main_arg0) (V c main_arg1) (V c main_arg2) := by
  refine (dat0 V c).arrAt_eq_of_covers 3 _ (by decide +kernel) fun t hf y => ?_
  blk_simp
  rw [after0_3]
  frame_out
  obtain ⟨r, d, rfl⟩ : ∃ (r : Fin 512) (d : Fin 3072), y = ix2 r d := ⟨y 0, y 1, by idx_ext⟩
  refine (gate_pay _ _ _ r d).trans ?_
  blk_point [iblk0, gateV, idx0 t]
theorem reg1_a : (dat1 V c).arrAt 9 cfg1.N = paV (V c main_arg3) (V c main_arg6) := by
  refine (dat1 V c).arrAt_eq_of_covers 9 _ (by decide +kernel) fun t hf y => ?_
  blk_simp
  rw [after1_9]
  frame_out
  obtain ⟨r, d, rfl⟩ : ∃ (r : Fin 512) (d : Fin 1024), y = ix2 r d := ⟨y 0, y 1, by idx_ext⟩
  refine (pa_pay _ _ r d).trans ?_
  blk_point [iblk1, paV, idx1 t]
theorem reg1_b : (dat1 V c).arrAt 10 cfg1.N = pbV (V c main_arg4) (V c main_arg7) := by
  refine (dat1 V c).arrAt_eq_of_covers 10 _ (by decide +kernel) fun t hf y => ?_
  blk_simp
  rw [after1_10]
  frame_out
  obtain ⟨r, d, rfl⟩ : ∃ (r : Fin 512) (d : Fin 1024), y = ix2 r d := ⟨y 0, y 1, by idx_ext⟩
  refine (pb_pay _ _ r d).trans ?_
  blk_point [iblk1, pbV, idx1 t]
theorem reg1_m : (dat1 V c).arrAt 11 cfg1.N = pmV (V c main_arg5) (V c main_arg8) := by
  refine (dat1 V c).arrAt_eq_of_covers 11 _ (by decide +kernel) fun t hf y => ?_
  blk_simp
  rw [after1_11]
  frame_out
  obtain ⟨r, d, rfl⟩ : ∃ (r : Fin 512) (d : Fin 1024), y = ix2 r d := ⟨y 0, y 1, by idx_ext⟩
  refine (pm_pay _ _ r d).trans ?_
  blk_point [iblk1, pmV, idx1 t]

theorem reg2 : (dat2 V c).arrAt 2 cfg2.N = dwoV (V c main_v1_3) (V c main_arg11) := by
  refine (dat2 V c).arrAt_eq_of_covers 2 _ (by decide +kernel) fun t hf y => ?_
  blk_simp
  rw [after2_2]
  frame_out
  obtain ⟨r, d, rfl⟩ : ∃ (r : Fin 256) (d : Fin 1024), y = ix2 r d := ⟨y 0, y 1, by idx_ext⟩
  refine (dwo_pay _ _ r d).trans ?_
  blk_point [iblk2, dwoV, idx2 t]
theorem reg4_a : (dat4 V c).arrAt 6 cfg4.N = daV (V c main_v3_0) (V c main_arg6) := by
  refine (dat4 V c).arrAt_eq_of_covers 6 _ (by decide +kernel) fun t hf y => ?_
  blk_simp
  rw [after4_6]
  frame_out
  obtain ⟨r, d, rfl⟩ : ∃ (r : Fin 512) (d : Fin 256), y = ix2 r d := ⟨y 0, y 1, by idx_ext⟩
  refine (da_pay _ _ r d).trans ?_
  blk_point [iblk4, daV, idx4 t]
theorem reg4_b : (dat4 V c).arrAt 7 cfg4.N = dbV (V c main_v3_1) (V c main_arg7) := by
  refine (dat4 V c).arrAt_eq_of_covers 7 _ (by decide +kernel) fun t hf y => ?_
  blk_simp
  rw [after4_7]
  frame_out
  obtain ⟨r, d, rfl⟩ : ∃ (r : Fin 512) (d : Fin 512), y = ix2 r d := ⟨y 0, y 1, by idx_ext⟩
  refine (db_pay _ _ r d).trans ?_
  blk_point [iblk4, dbV, idx4 t]
theorem reg4_m : (dat4 V c).arrAt 8 cfg4.N = dbV (V c main_v3_2) (V c main_arg8) := by
  refine (dat4 V c).arrAt_eq_of_covers 8 _ (by decide +kernel) fun t hf y => ?_
  blk_simp
  rw [after4_8]
  frame_out
  obtain ⟨r, d, rfl⟩ : ∃ (r : Fin 512) (d : Fin 512), y = ix2 r d := ⟨y 0, y 1, by idx_ext⟩
  refine (dm_pay _ _ r d).trans ?_
  blk_point [iblk4, dbV, idx4 t]
theorem reg5_a : (dat5 V c).arrAt 6 cfg5.N = waV (V c main_arg3) (V c main_v3_0) := by
  refine (dat5 V c).arrAt_eq_of_covers 6 _ (by decide +kernel) fun t hf y => ?_
  blk_simp
  rw [after5_6]
  frame_out
  obtain ⟨r, d, rfl⟩ : ∃ (r : Fin 256) (d : Fin 256), y = ix2 r d := ⟨y 0, y 1, by idx_ext⟩
  refine (wa_pay _ _ r d).trans ?_
  blk_point [iblk5, waV, idx5 t]
theorem reg5_b : (dat5 V c).arrAt 7 cfg5.N = wbV (V c main_arg4) (V c main_v3_1) := by
  refine (dat5 V c).arrAt_eq_of_covers 7 _ (by decide +kernel) fun t hf y => ?_
  blk_simp
  rw [after5_7]
  frame_out
  obtain ⟨r, d, rfl⟩ : ∃ (r : Fin 512) (d : Fin 256), y = ix2 r d := ⟨y 0, y 1, by idx_ext⟩
  refine (wb_pay _ _ r d).trans ?_
  blk_point [iblk5, wbV, idx5 t]
theorem reg5_m : (dat5 V c).arrAt 8 cfg5.N = wmV (V c main_arg5) (V c main_v3_2) := by
  refine (dat5 V c).arrAt_eq_of_covers 8 _ (by decide +kernel) fun t hf y => ?_
  blk_simp
  rw [after5_8]
  frame_out
  obtain ⟨r, d, rfl⟩ : ∃ (r : Fin 512) (d : Fin 256), y = ix2 r d := ⟨y 0, y 1, by idx_ext⟩
  refine (wm_pay _ _ r d).trans ?_
  blk_point [iblk5, wmV, idx5 t]

end Cert.Kernel7Ideal.Points
-- ==== Proof.MixCols.lean ====
/-
  A third of the columns read out of a block of rows.
-/
module

public import proofs.«01_k».proof.Proof.Gen.Kernel7Ideal.Frame
public import proofs.«01_k».proof.Proof.RefMix
public import Idealize.ShloMosaic.Lib.Pipeline.ValueKit
public import Idealize.ShloMosaic.Lib.Pipeline.ReadBack

@[expose] public section

set_option maxRecDepth 16384

noncomputable section

namespace Cert.Kernel7Ideal.Points

open Idealize.ShloMosaic Idealize.ShloMosaic.TcCoe Idealize.SL.Sem
open Idealize.ShloMosaic.Pipeline (Dat)
open Cert.Kernel7Ideal Cert.Kernel7Ideal.Gen NormGrad

/-- A read of the columns from 0 on reads them. -/
theorem col0 (X : FVec Ideal S512x3072 .bf16) (inb) (r : Fin 512) (d : Fin 1024) :
    View.ld (Val := Elt Ideal) (e' := .bf16) X (Rect.unit (s := S512x3072) ![0, 0] S512x1024.size inb) (ix2 r d : S512x1024.Idx)
      = X (ix2 r (c0 d)) := by
  refine View.ld_unit_apply_of (Val := Elt Ideal) (e := .bf16) X _ _ inb (ix2 r d) (ix2 r (c0 d)) fun a => ?_
  fin_cases a
  · show r.val = 0 + r.val
    omega
  · show d.val = 0 + d.val
    omega
theorem row0 (X : FVec Ideal S1x3072 .f32) (inb) (r : Fin 1) (d : Fin 1024) :
    View.ld (Val := Elt Ideal) (e' := .f32) X (Rect.unit (s := S1x3072) ![0, 0] S1x1024.size inb) (ix2 r d : S1x1024.Idx)
      = X (ix2 r (c0 d)) := by
  refine View.ld_unit_apply_of (Val := Elt Ideal) (e := .f32) X _ _ inb (ix2 r d) (ix2 r (c0 d)) fun a => ?_
  fin_cases a
  · show r.val = 0 + r.val
    omega
  · show d.val = 0 + d.val
    omega
/-- A read of the columns from 1024 on reads them. -/
theorem col1 (X : FVec Ideal S512x3072 .bf16) (inb) (r : Fin 512) (d : Fin 1024) :
    View.ld (Val := Elt Ideal) (e' := .bf16) X (Rect.unit (s := S512x3072) ![0, 1024] S512x1024.size inb) (ix2 r d : S512x1024.Idx)
      = X (ix2 r (c1 d)) := by
  refine View.ld_unit_apply_of (Val := Elt Ideal) (e := .bf16) X _ _ inb (ix2 r d) (ix2 r (c1 d)) fun a => ?_
  fin_cases a
  · show r.val = 0 + r.val
    omega
  · show 1024 + d.val = 1024 + d.val
    omega
theorem row1 (X : FVec Ideal S1x3072 .f32) (inb) (r : Fin 1) (d : Fin 1024) :
    View.ld (Val := Elt Ideal) (e' := .f32) X (Rect.unit (s := S1x3072) ![0, 1024] S1x1024.size inb) (ix2 r d : S1x1024.Idx)
      = X (ix2 r (c1 d)) := by
  refine View.ld_unit_apply_of (Val := Elt Ideal) (e := .f32) X _ _ inb (ix2 r d) (ix2 r (c1 d)) fun a => ?_
  fin_cases a
  · show r.val = 0 + r.val
    omega
  · show 1024 + d.val = 1024 + d.val
    omega
/-- A read of the columns from 2048 on reads them. -/
theorem col2 (X : FVec Ideal S512x3072 .bf16) (inb) (r : Fin 512) (d : Fin 1024) :
    View.ld (Val := Elt Ideal) (e' := .bf16) X (Rect.unit (s := S512x3072) ![0, 2048] S512x1024.size inb) (ix2 r d : S512x1024.Idx)
      = X (ix2 r (c2 d)) := by
  refine View.ld_unit_apply_of (Val := Elt Ideal) (e := .bf16) X _ _ inb (ix2 r d) (ix2 r (c2 d)) fun a => ?_
  fin_cases a
  · show r.val = 0 + r.val
    omega
  · show 2048 + d.val = 2048 + d.val
    omega
theorem row2 (X : FVec Ideal S1x3072 .f32) (inb) (r : Fin 1) (d : Fin 1024) :
    View.ld (Val := Elt Ideal) (e' := .f32) X (Rect.unit (s := S1x3072) ![0, 2048] S1x1024.size inb) (ix2 r d : S1x1024.Idx)
      = X (ix2 r (c2 d)) := by
  refine View.ld_unit_apply_of (Val := Elt Ideal) (e := .f32) X _ _ inb (ix2 r d) (ix2 r (c2 d)) fun a => ?_
  fin_cases a
  · show r.val = 0 + r.val
    omega
  · show 2048 + d.val = 2048 + d.val
    omega

end Cert.Kernel7Ideal.Points
-- ==== Proof.MixSum.lean ====
/-
  The gated sum of three products, and the rows with its product added: what the call leaves, of whatever its
  arguments hold.
-/
module

public import proofs.«01_k».proof.Proof.Mix
public import proofs.«01_k».proof.Proof.MixCols

@[expose] public section

set_option maxRecDepth 16384

noncomputable section

namespace Cert.Kernel7Ideal.Points

open Idealize.ShloMosaic Idealize.ShloMosaic.TcCoe Idealize.SL.Sem
open Idealize.ShloMosaic.Pipeline (Dat)
open Cert.Kernel7Ideal Cert.Kernel7Ideal.Gen NormGrad

variable (V : (c : Dev nD) → (b : Ref sig .tc) → Buf (Elt Ideal) ((c : Thread nD τ).loc b)) (c : Dev nD)

theorem lt8 (t : Fin cfg1.N) : t.val < 8 := lt_of_lt_of_eq t.isLt (show cfg1.N = 8 from N_1)
/-- Row `r` of the block of point `t`, of 4096. -/
abbrev trow (t : Fin cfg1.N) (r : Fin 512) : Fin 4096 := ⟨t.val * 512 + r.val, by have := lt8 t; omega⟩

/-- The gated sum of whatever the arguments hold. -/
abbrev mixA : FVec Ideal S4096x1024 .bf16 :=
  mixV (V c main_v0) (paV (V c main_arg3) (V c main_arg6)) (pbV (V c main_arg4) (V c main_arg7))
    (pmV (V c main_arg5) (V c main_arg8))

section
variable (t : Fin cfg1.N)
/-- The first two gated products of a block, and the third product. -/
abbrev two : FVec Ideal S512x1024 .f32 :=
  k1_pay7 (F := Ideal) (iblk1 V c 0 t) (iblk1 V c 1 t) (iblk1 V c 2 t) (iblk1 V c 3 t) (iblk1 V c 4 t) (iblk1 V c 5 t)
    (iblk1 V c 6 t) (iblk1 V c 7 t) (iblk1 V c 8 t)
abbrev three : FVec Ideal S512x1024 .bf16 :=
  k1_pay8 (F := Ideal) (iblk1 V c 0 t) (iblk1 V c 1 t) (iblk1 V c 2 t) (iblk1 V c 3 t) (iblk1 V c 4 t) (iblk1 V c 5 t)
    (iblk1 V c 6 t) (iblk1 V c 7 t) (iblk1 V c 8 t)

variable (r : Fin 512) (d : Fin 1024)
theorem ga_blk : (View.ld (iblk1 V c 6 t) r1_3 : FVec Ideal S512x1024 .bf16) (ix2 r d)
    = (V c main_v0 : FVec Ideal S4096x3072 .bf16) (ix2 (trow t r) (c0 d)) :=
  (col0 _ _ r d).trans (by blk_ext [iblk1, idx1 t])
theorem gb_blk : (View.ld (iblk1 V c 6 t) r1_5 : FVec Ideal S512x1024 .bf16) (ix2 r d)
    = (V c main_v0 : FVec Ideal S4096x3072 .bf16) (ix2 (trow t r) (c1 d)) :=
  (col1 _ _ r d).trans (by blk_ext [iblk1, idx1 t])
theorem gm_blk : (View.ld (iblk1 V c 6 t) r1_6 : FVec Ideal S512x1024 .bf16) (ix2 r d)
    = (V c main_v0 : FVec Ideal S4096x3072 .bf16) (ix2 (trow t r) (c2 d)) :=
  (col2 _ _ r d).trans (by blk_ext [iblk1, idx1 t])
theorem pa_blk : k1_pay3 (F := Ideal) (View.ld (iblk1 V c 0 t) r1_0) (View.ld (iblk1 V c 3 t) r1_1) (ix2 r d)
    = paV (V c main_arg3) (V c main_arg6) (ix2 (trow t r) d) := by
  refine (pa_pay _ _ r d).trans ?_
  blk_point [iblk1, paV, idx1 t]
theorem pb_blk : k1_pay4 (F := Ideal) (View.ld (iblk1 V c 1 t) r1_4) (View.ld (iblk1 V c 4 t) r1_2) (ix2 r d)
    = pbV (V c main_arg4) (V c main_arg7) (ix2 (trow t r) d) := by
  refine (pb_pay _ _ r d).trans ?_
  blk_point [iblk1, pbV, idx1 t]
theorem pm_blk : k1_pay6 (F := Ideal) (View.ld (iblk1 V c 2 t) r1_4) (View.ld (iblk1 V c 5 t) r1_2) (ix2 r d)
    = pmV (V c main_arg5) (V c main_arg8) (ix2 (trow t r) d) := by
  refine (pm_pay _ _ r d).trans ?_
  blk_point [iblk1, pmV, idx1 t]
theorem mix_blk : k1_pay1 (F := Ideal) (two V c t) (three V c t) (View.ld (iblk1 V c 6 t) r1_6) (ix2 r d)
    = mixA V c (ix2 (trow t r) d) := by
  unfold two three k1_pay7 k1_pay8
  refine (mg_pay _ _ _ r d).trans ?_
  refine congrArg₂ (fun a b : EReal => a + b) ((ab_pay _ _ _ _ _ _ r d).trans ?_)
    (congrArg₂ (fun a b : EReal => a * b) (gm_blk V c t r d) (pm_blk V c t r d))
  exact congrArg₂ (fun a b : EReal => a + b)
    (congrArg₂ (fun a b : EReal => a * b) (ga_blk V c t r d) (pa_blk V c t r d))
    (congrArg₂ (fun a b : EReal => a * b) (gb_blk V c t r d) (pb_blk V c t r d))
end

theorem sum_rows (D : FVec Ideal S4096x1024 .bf16)
    (hD : ∀ (t : Fin cfg1.N) (r : Fin 512) (d : Fin 1024),
      k1_pay1 (F := Ideal) (two V c t) (three V c t) (View.ld (iblk1 V c 6 t) r1_6) (ix2 r d) = D (ix2 (trow t r) d)) :
    (dat1 V c).arrAt 12 cfg1.N = D := by
  refine (dat1 V c).arrAt_eq_of_covers 12 _ (by decide +kernel) fun t hf y => ?_
  blk_simp
  rw [after1_12]
  frame_out
  obtain ⟨r, d, rfl⟩ : ∃ (r : Fin 512) (d : Fin 1024), y = ix2 r d := ⟨y 0, y 1, by idx_ext⟩
  refine Eq.trans (α := EReal) (hD t r d) ?_
  clear hD
  blk_ext [idx1 t]
theorem reg1_g : (dat1 V c).arrAt 12 cfg1.N = mixA V c := sum_rows V c (mixA V c) (mix_blk V c)
section
variable (D : FVec Ideal S4096x1024 .bf16)
    (hD : ∀ (t : Fin cfg1.N) (r : Fin 512) (d : Fin 1024),
      k1_pay1 (F := Ideal) (two V c t) (three V c t) (View.ld (iblk1 V c 6 t) r1_6) (ix2 r d) = D (ix2 (trow t r) d))
include hD
theorem x_blk (t : Fin cfg1.N) (r : Fin 512) (d : Fin 1024) :
    k1_pay2 (F := Ideal) (two V c t) (three V c t) (View.ld (iblk1 V c 6 t) r1_6) (iblk1 V c 8 t) (iblk1 V c 7 t) (ix2 r d)
      = x1V D (V c main_arg9) (V c main_arg10) (ix2 (trow t r) d) := by
  refine (x1_pay _ _ _ _ _ r d).trans ?_
  refine congrArg₂ (fun a b : EReal => a + b) ?_ (Finset.sum_congr rfl fun e _ =>
    congrArg₂ (fun a b : EReal => a * b) (hD t r e) ?_)
  · clear hD
    blk_ext [iblk1, idx1 t]
  · clear hD
    blk_ext [iblk1, idx1 t]
end
theorem x_rows (D : FVec Ideal S4096x1024 .f32)
    (hD : ∀ (t : Fin cfg1.N) (r : Fin 512) (d : Fin 1024),
      k1_pay2 (F := Ideal) (two V c t) (three V c t) (View.ld (iblk1 V c 6 t) r1_6) (iblk1 V c 8 t) (iblk1 V c 7 t) (ix2 r d)
        = D (ix2 (trow t r) d)) :
    (dat1 V c).arrAt 13 cfg1.N = D := by
  refine (dat1 V c).arrAt_eq_of_covers 13 _ (by decide +kernel) fun t hf y => ?_
  blk_simp
  rw [after1_13]
  frame_out
  obtain ⟨r, d, rfl⟩ : ∃ (r : Fin 512) (d : Fin 1024), y = ix2 r d := ⟨y 0, y 1, by idx_ext⟩
  refine Eq.trans (α := EReal) (hD t r d) ?_
  clear hD
  blk_ext [idx1 t]
theorem reg1_x : (dat1 V c).arrAt 13 cfg1.N = x1V (mixA V c) (V c main_arg9) (V c main_arg10) :=
  x_rows V c _ (x_blk V c (mixA V c) (mix_blk V c))

end Cert.Kernel7Ideal.Points
-- ==== Proof.MixBack.lean ====
/-
  The gradients of the gated sum's operands, of the gates and of their bias: what the call leaves in its results, of
  whatever its arguments hold.
-/
module

public import proofs.«01_k».proof.Proof.Mix
public import proofs.«01_k».proof.Proof.MixCols

@[expose] public section

set_option maxRecDepth 16384

noncomputable section

namespace Cert.Kernel7Ideal.Points

open Idealize.ShloMosaic Idealize.ShloMosaic.TcCoe Idealize.SL.Sem
open Idealize.ShloMosaic.Pipeline (Dat)
open Cert.Kernel7Ideal Cert.Kernel7Ideal.Gen NormGrad

section
variable (DX : FVec Ideal S512x1024 .bf16) (W : FVec Ideal S1024x1024 .bf16) (G P : FVec Ideal S512x1024 .bf16)
  (S T : FVec Ideal S512x1024 .f32) (old : FVec Ideal S1x1024 .f32)

theorem d_pay (r : Fin 512) (d : Fin 1024) :
    k3_pay4 (F := Ideal) DX W (ix2 r d) = ∑ e : Fin 1024, DX (ix2 r e) * W (ix2 d e) := by
  pointwise [k3_pay4]
theorem dp_a (r : Fin 512) (d : Fin 1024) :
    k3_pay6 (F := Ideal) DX W G (ix2 r d) = k3_pay4 (F := Ideal) DX W (ix2 r d) * G (ix2 r d) := by
  pointwise [k3_pay6, k3_pay5]
theorem dp_b (r : Fin 512) (d : Fin 1024) :
    k3_pay12 (F := Ideal) (k3_pay11 (F := Ideal) DX W G) (ix2 r d)
      = k3_pay4 (F := Ideal) DX W (ix2 r d) * G (ix2 r d) := by
  pointwise [k3_pay12, k3_pay11, k3_pay10]
theorem dp_m (r : Fin 512) (d : Fin 1024) :
    k3_pay17 (F := Ideal) S G (ix2 r d) = S (ix2 r d) * G (ix2 r d) := by
  pointwise [k3_pay17, k3_pay16]
theorem pre_a (r : Fin 512) (d : Fin 1024) :
    k3_pay7 (F := Ideal) DX W G P (ix2 r d)
      = dpre (k3_pay4 (F := Ideal) DX W (ix2 r d)) (G (ix2 r d)) (P (ix2 r d)) := by
  pointwise [k3_pay7, k3_pay5, dpre, one]
theorem gate_b (r : Fin 512) (d : Fin 1024) : k3_pay10 (F := Ideal) G (ix2 r d) = G (ix2 r d) := by
  pointwise [k3_pay10]
theorem pre_b (r : Fin 512) (d : Fin 1024) :
    k3_pay13 (F := Ideal) S T P (ix2 r d) = dpre (S (ix2 r d)) (T (ix2 r d)) (P (ix2 r d)) := by
  pointwise [k3_pay13, dpre, one]
theorem pre_m (r : Fin 512) (d : Fin 1024) :
    k3_pay18 (F := Ideal) S G P (ix2 r d) = dpre (S (ix2 r d)) (G (ix2 r d)) (P (ix2 r d)) := by
  pointwise [k3_pay18, k3_pay16, dpre, one]
theorem out_a (r : Fin 512) (d : Fin 1024) :
    k3_pay9 (F := Ideal) DX W G P (ix2 r d) = k3_pay7 (F := Ideal) DX W G P (ix2 r d) := by
  pointwise [k3_pay9]
theorem out_b (r : Fin 512) (d : Fin 1024) :
    k3_pay15 (F := Ideal) S T P (ix2 r d) = k3_pay13 (F := Ideal) S T P (ix2 r d) := by
  pointwise [k3_pay15]
theorem out_m (r : Fin 512) (d : Fin 1024) : k3_pay2 (F := Ideal) S (ix2 r d) = S (ix2 r d) := by
  pointwise [k3_pay2]
theorem sum_a (u : Fin 1) (d : Fin 1024) :
    k3_pay8 (F := Ideal) DX W G P old (ix2 u d)
      = old (ix2 u d) + ∑ r : Fin 512, k3_pay7 (F := Ideal) DX W G P (ix2 r d) := by
  pointwise [k3_pay8]
theorem sum_b (u : Fin 1) (d : Fin 1024) :
    k3_pay14 (F := Ideal) S T P old (ix2 u d)
      = old (ix2 u d) + ∑ r : Fin 512, k3_pay13 (F := Ideal) S T P (ix2 r d) := by
  pointwise [k3_pay14]
theorem sum_m (u : Fin 1) (d : Fin 1024) :
    k3_pay1 (F := Ideal) S (k3_pay19 (F := Ideal) old) (ix2 u d) = old (ix2 u d) + ∑ r : Fin 512, S (ix2 r d) := by
  pointwise [k3_pay1, k3_pay19]
end

variable (V : (c : Dev nD) → (b : Ref sig .tc) → Buf (Elt Ideal) ((c : Thread nD τ).loc b)) (c : Dev nD)

theorem idx3 : ∀ t : Fin cfg3.N, win3_0.index t = ![t.val, 0] ∧ win3_1.index t = ![0, 0] ∧ win3_2.index t = ![t.val, 0]
    ∧ win3_3.index t = ![t.val, 0] ∧ win3_4.index t = ![t.val, 0] ∧ win3_5.index t = ![t.val, 0]
    ∧ win3_6.index t = ![t.val, 0] ∧ win3_7.index t = ![t.val, 0] ∧ win3_8.index t = ![t.val, 0]
    ∧ win3_9.index t = ![t.val, 0] :=
  (by decide +kernel : ∀ t : Fin grid3.N, _)

/-- The gradient of the gated sum. -/
def dgV (dx : FVec Ideal S4096x1024 .bf16) (w : FVec Ideal S1024x1024 .bf16) : FVec Ideal S4096x1024 .f32 :=
  fun j => ∑ e : Fin 1024, dx (ix2 (j 0) e) * w (ix2 (j 1) e)
/-- The gradient of the first product. -/
def dpaV (d : FVec Ideal S4096x1024 .f32) (g : FVec Ideal S4096x3072 .bf16) : FVec Ideal S4096x1024 .bf16 :=
  fun j => d (ix2 (j 0) (j 1)) * g (ix2 (j 0) (c0 (j 1)))
/-- The gradient of the second product. -/
def dpbV (d : FVec Ideal S4096x1024 .f32) (g : FVec Ideal S4096x3072 .bf16) : FVec Ideal S4096x1024 .bf16 :=
  fun j => d (ix2 (j 0) (j 1)) * g (ix2 (j 0) (c1 (j 1)))
/-- The gradient of the third product. -/
def dpmV (d : FVec Ideal S4096x1024 .f32) (g : FVec Ideal S4096x3072 .bf16) : FVec Ideal S4096x1024 .bf16 :=
  fun j => d (ix2 (j 0) (j 1)) * g (ix2 (j 0) (c2 (j 1)))
/-- The gradient of the gates' arguments: three columns of 1024, one after the other. -/
def preV (d : FVec Ideal S4096x1024 .f32) (g : FVec Ideal S4096x3072 .bf16) (a b m : FVec Ideal S4096x1024 .bf16) :
    FVec Ideal S4096x3072 .bf16 :=
  fun j => dpre (d (ix2 (j 0) ⟨(j 1).val % 1024, Nat.mod_lt _ (by decide)⟩)) (g (ix2 (j 0) (j 1)))
    ((if (j 1).val < 1024 then a else if (j 1).val < 2048 then b else m)
      (ix2 (j 0) ⟨(j 1).val % 1024, Nat.mod_lt _ (by decide)⟩))
/-- The gradient of the gates' bias. -/
def biasV (p : FVec Ideal S4096x3072 .bf16) : FVec Ideal S1x3072 .f32 := fun j => ∑ s : Fin 4096, p (ix2 s (j 1))

section
variable (d : FVec Ideal S4096x1024 .f32) (g : FVec Ideal S4096x3072 .bf16) (a b m : FVec Ideal S4096x1024 .bf16)
  (s : Fin 4096) (k : Fin 1024)
theorem pre0 : preV d g a b m (ix2 s (c0 k)) = dpre (d (ix2 s k)) (g (ix2 s (c0 k))) (a (ix2 s k)) := by
  have e : (⟨k.val % 1024, Nat.mod_lt _ (by decide)⟩ : Fin 1024) = k := Fin.ext (by simp only; omega)
  show dpre (d (ix2 s ⟨k.val % 1024, _⟩)) (g (ix2 s (c0 k))) ((if k.val < 1024 then a else _) (ix2 s ⟨k.val % 1024, _⟩)) = _
  rw [e, if_pos (by omega)]
theorem pre1 : preV d g a b m (ix2 s (c1 k)) = dpre (d (ix2 s k)) (g (ix2 s (c1 k))) (b (ix2 s k)) := by
  have e : (⟨(1024 + k.val) % 1024, Nat.mod_lt _ (by decide)⟩ : Fin 1024) = k := Fin.ext (by simp only; omega)
  show dpre (d (ix2 s ⟨(1024 + k.val) % 1024, _⟩)) (g (ix2 s (c1 k)))
    ((if 1024 + k.val < 1024 then a else if 1024 + k.val < 2048 then b else m) (ix2 s ⟨(1024 + k.val) % 1024, _⟩)) = _
  rw [e, if_neg (by omega), if_pos (by omega)]
theorem pre2 : preV d g a b m (ix2 s (c2 k)) = dpre (d (ix2 s k)) (g (ix2 s (c2 k))) (m (ix2 s k)) := by
  have e : (⟨(2048 + k.val) % 1024, Nat.mod_lt _ (by decide)⟩ : Fin 1024) = k := Fin.ext (by simp only; omega)
  show dpre (d (ix2 s ⟨(2048 + k.val) % 1024, _⟩)) (g (ix2 s (c2 k)))
    ((if 2048 + k.val < 1024 then a else if 2048 + k.val < 2048 then b else m) (ix2 s ⟨(2048 + k.val) % 1024, _⟩)) = _
  rw [e, if_neg (by omega), if_neg (by omega)]
end

theorem lt8' (t : Fin cfg3.N) : t.val < 8 := lt_of_lt_of_eq t.isLt (show cfg3.N = 8 from N_3)
/-- Row `r` of the block of point `t`, of 4096. -/
abbrev srow (t : Fin cfg3.N) (r : Fin 512) : Fin 4096 := ⟨t.val * 512 + r.val, by have := lt8' t; omega⟩

/-- The gradient of the gated sum, of whatever the arguments hold. -/
abbrev dgA : FVec Ideal S4096x1024 .f32 := dgV (V c main_arg11) (V c main_arg9)
/-- The gradient of the gates' arguments, of whatever the call's arguments hold. -/
abbrev preA : FVec Ideal S4096x3072 .bf16 :=
  preV (dgA V c) (V c main_v0) (V c main_v1_0) (V c main_v1_1) (V c main_v1_2)

theorem d_blk (t : Fin cfg3.N) (r : Fin 512) (d : Fin 1024) :
    k3_pay4 (F := Ideal) (iblk3 V c 0 t) (iblk3 V c 1 t) (ix2 r d) = dgA V c (ix2 (srow t r) d) := by
  refine (d_pay _ _ r d).trans (Finset.sum_congr rfl fun e _ => ?_)
  exact congrArg₂ (fun a b : EReal => a * b) (by blk_ext [iblk3, idx3 t]) (by blk_ext [iblk3, idx3 t])

section
variable (t : Fin cfg3.N) (G P : FVec Ideal S512x1024 .bf16) (k : Fin 1024 → Fin 3072) (p : FVec Ideal S4096x1024 .bf16)
  (hG : ∀ r d, G (ix2 r d) = (V c main_v0 : FVec Ideal S4096x3072 .bf16) (ix2 (srow t r) (k d)))
  (hP : ∀ r d, P (ix2 r d) = p (ix2 (srow t r) d))
include hG hP
theorem a_blk (r : Fin 512) (d : Fin 1024) : k3_pay7 (F := Ideal) (iblk3 V c 0 t) (iblk3 V c 1 t) G P (ix2 r d)
    = dpre (dgA V c (ix2 (srow t r) d)) ((V c main_v0 : FVec Ideal S4096x3072 .bf16) (ix2 (srow t r) (k d)))
        (p (ix2 (srow t r) d)) := by
  rw [pre_a, d_blk, hG, hP]
theorem b_blk (r : Fin 512) (d : Fin 1024) :
    k3_pay13 (F := Ideal) (k3_pay4 (F := Ideal) (iblk3 V c 0 t) (iblk3 V c 1 t)) (k3_pay10 (F := Ideal) G) P (ix2 r d)
    = dpre (dgA V c (ix2 (srow t r) d)) ((V c main_v0 : FVec Ideal S4096x3072 .bf16) (ix2 (srow t r) (k d)))
        (p (ix2 (srow t r) d)) := by
  rw [pre_b, d_blk, gate_b, hG, hP]
theorem m_blk (r : Fin 512) (d : Fin 1024) :
    k3_pay18 (F := Ideal) (k3_pay4 (F := Ideal) (iblk3 V c 0 t) (iblk3 V c 1 t)) G P (ix2 r d)
    = dpre (dgA V c (ix2 (srow t r) d)) ((V c main_v0 : FVec Ideal S4096x3072 .bf16) (ix2 (srow t r) (k d)))
        (p (ix2 (srow t r) d)) := by
  rw [pre_m, d_blk, hG, hP]
end

/-- The first product's gradient that a point writes. -/
theorem at_6 (t : Fin cfg3.N) (r : Fin 512) (d : Fin 1024) :
    ((outsAt3 V c t.val t.isLt).1 : FVec Ideal S512x1024 .bf16) (ix2 r d)
      = dpaV (dgA V c) (V c main_v0) (ix2 (srow t r) d) := by
  by_cases h0 : t.val % 8 = 0
  · rw [outsAt3_A V c t h0]
    frame_out
    refine (dp_a _ _ _ r d).trans ?_
    rw [d_blk]
    refine congrArg (fun b : EReal => dgA V c (ix2 (srow t r) d) * b) ?_
    exact (col0 _ _ r d).trans (by blk_ext [iblk3, idx3 t]; rfl)
  · rw [outsAt3_B V c t h0]
    frame_out
    refine (dp_a _ _ _ r d).trans ?_
    rw [d_blk]
    refine congrArg (fun b : EReal => dgA V c (ix2 (srow t r) d) * b) ?_
    exact (col0 _ _ r d).trans (by blk_ext [iblk3, idx3 t]; rfl)
/-- The second product's gradient that a point writes. -/
theorem at_7 (t : Fin cfg3.N) (r : Fin 512) (d : Fin 1024) :
    ((outsAt3 V c t.val t.isLt).2.1 : FVec Ideal S512x1024 .bf16) (ix2 r d)
      = dpbV (dgA V c) (V c main_v0) (ix2 (srow t r) d) := by
  by_cases h0 : t.val % 8 = 0
  · rw [outsAt3_A V c t h0]
    frame_out
    refine (dp_b _ _ _ r d).trans ?_
    rw [d_blk]
    refine congrArg (fun b : EReal => dgA V c (ix2 (srow t r) d) * b) ?_
    exact (col1 _ _ r d).trans (by blk_ext [iblk3, idx3 t]; rfl)
  · rw [outsAt3_B V c t h0]
    frame_out
    refine (dp_b _ _ _ r d).trans ?_
    rw [d_blk]
    refine congrArg (fun b : EReal => dgA V c (ix2 (srow t r) d) * b) ?_
    exact (col1 _ _ r d).trans (by blk_ext [iblk3, idx3 t]; rfl)
/-- The third product's gradient that a point writes. -/
theorem at_8 (t : Fin cfg3.N) (r : Fin 512) (d : Fin 1024) :
    ((outsAt3 V c t.val t.isLt).2.2.1 : FVec Ideal S512x1024 .bf16) (ix2 r d)
      = dpmV (dgA V c) (V c main_v0) (ix2 (srow t r) d) := by
  by_cases h0 : t.val % 8 = 0
  · rw [outsAt3_A V c t h0]
    frame_out
    refine (dp_m _ _ r d).trans ?_
    rw [d_blk]
    refine congrArg (fun b : EReal => dgA V c (ix2 (srow t r) d) * b) ?_
    exact (col2 _ _ r d).trans (by blk_ext [iblk3, idx3 t]; rfl)
  · rw [outsAt3_B V c t h0]
    frame_out
    refine (dp_m _ _ r d).trans ?_
    rw [d_blk]
    refine congrArg (fun b : EReal => dgA V c (ix2 (srow t r) d) * b) ?_
    exact (col2 _ _ r d).trans (by blk_ext [iblk3, idx3 t]; rfl)

set_option maxHeartbeats 2000000 in
/-- The gates' gradient that a point writes. -/
theorem at_9 (t : Fin cfg3.N) (j : S512x3072.Idx) :
    ((outsAt3 V c t.val t.isLt).2.2.2.1 : FVec Ideal S512x3072 .bf16) j = preA V c (ix2 (srow t (j 0)) (j 1)) := by
  by_cases h0 : t.val % 8 = 0
  · rw [outsAt3_A V c t h0]
    frame_out
    canon_tiles x k using (View.cover_of_tiledBy _ ![512, 1024] (by sl_kernel_rfl) j)
    · obtain ⟨r, d, rfl⟩ : ∃ (r : Fin 512) (d : Fin 1024), x = ix2 r d := ⟨x 0, x 1, by idx_ext⟩
      obtain rfl : j = ix2 r (c2 d) := by idx_ext
      refine Eq.trans (α := EReal) ?_ (pre2 _ _ _ _ _ (srow t r) d).symm
      rw [out_m]
      exact m_blk V c t _ _ c2 (V c main_v1_2) (fun r d => (col2 _ _ r d).trans (by blk_ext [iblk3, idx3 t])) (fun r d => by blk_ext [iblk3, idx3 t]) r d
    · obtain ⟨r, d, rfl⟩ : ∃ (r : Fin 512) (d : Fin 1024), x = ix2 r d := ⟨x 0, x 1, by idx_ext⟩
      obtain rfl : j = ix2 r (c1 d) := by idx_ext
      refine Eq.trans (α := EReal) ?_ (pre1 _ _ _ _ _ (srow t r) d).symm
      rw [out_b]
      exact b_blk V c t _ _ c1 (V c main_v1_1) (fun r d => (col1 _ _ r d).trans (by blk_ext [iblk3, idx3 t])) (fun r d => by blk_ext [iblk3, idx3 t]) r d
    · obtain ⟨r, d, rfl⟩ : ∃ (r : Fin 512) (d : Fin 1024), x = ix2 r d := ⟨x 0, x 1, by idx_ext⟩
      obtain rfl : j = ix2 r (c0 d) := by idx_ext
      refine Eq.trans (α := EReal) ?_ (pre0 _ _ _ _ _ (srow t r) d).symm
      rw [out_a]
      exact a_blk V c t _ _ c0 (V c main_v1_0) (fun r d => (col0 _ _ r d).trans (by blk_ext [iblk3, idx3 t])) (fun r d => by blk_ext [iblk3, idx3 t]) r d
  · rw [outsAt3_B V c t h0]
    frame_out
    canon_tiles x k using (View.cover_of_tiledBy _ ![512, 1024] (by sl_kernel_rfl) j)
    · obtain ⟨r, d, rfl⟩ : ∃ (r : Fin 512) (d : Fin 1024), x = ix2 r d := ⟨x 0, x 1, by idx_ext⟩
      obtain rfl : j = ix2 r (c2 d) := by idx_ext
      refine Eq.trans (α := EReal) ?_ (pre2 _ _ _ _ _ (srow t r) d).symm
      rw [out_m]
      exact m_blk V c t _ _ c2 (V c main_v1_2) (fun r d => (col2 _ _ r d).trans (by blk_ext [iblk3, idx3 t])) (fun r d => by blk_ext [iblk3, idx3 t]) r d
    · obtain ⟨r, d, rfl⟩ : ∃ (r : Fin 512) (d : Fin 1024), x = ix2 r d := ⟨x 0, x 1, by idx_ext⟩
      obtain rfl : j = ix2 r (c1 d) := by idx_ext
      refine Eq.trans (α := EReal) ?_ (pre1 _ _ _ _ _ (srow t r) d).symm
      rw [out_b]
      exact b_blk V c t _ _ c1 (V c main_v1_1) (fun r d => (col1 _ _ r d).trans (by blk_ext [iblk3, idx3 t])) (fun r d => by blk_ext [iblk3, idx3 t]) r d
    · obtain ⟨r, d, rfl⟩ : ∃ (r : Fin 512) (d : Fin 1024), x = ix2 r d := ⟨x 0, x 1, by idx_ext⟩
      obtain rfl : j = ix2 r (c0 d) := by idx_ext
      refine Eq.trans (α := EReal) ?_ (pre0 _ _ _ _ _ (srow t r) d).symm
      rw [out_a]
      exact a_blk V c t _ _ c0 (V c main_v1_0) (fun r d => (col0 _ _ r d).trans (by blk_ext [iblk3, idx3 t])) (fun r d => by blk_ext [iblk3, idx3 t]) r d

/-- What a point adds to the bias's gradient. -/
def partB (t : Fin cfg3.N) (q : Fin 3072) : EReal := ∑ r : Fin 512, preA V c (ix2 (srow t r) q)

set_option maxHeartbeats 2000000 in
theorem b_B (t : Fin cfg3.N) (h0 : ¬ t.val % 8 = 0) (j : S1x3072.Idx) :
    ((outsAt3 V c t.val t.isLt).2.2.2.2 : FVec Ideal S1x3072 .f32) j
      = ((outsAt3 V c (t.val - 1) (Nat.lt_of_le_of_lt (Nat.sub_le _ _) t.isLt)).2.2.2.2 : FVec Ideal S1x3072 .f32) j
        + partB V c t (j 1) := by
  rw [outsAt3_B V c t h0]
  frame_out
  generalize (outsAt3 V c (t.val - 1) (Nat.lt_of_le_of_lt (Nat.sub_le _ _) t.isLt)).2.2.2.2 = prev
  canon_tiles x k using (View.cover_of_tiledBy _ ![1, 1024] (by sl_kernel_rfl) j)
  · obtain ⟨u, d, rfl⟩ : ∃ (u : Fin 1) (d : Fin 1024), x = ix2 u d := ⟨x 0, x 1, by idx_ext⟩
    obtain rfl : j = ix2 u (c2 d) := by idx_ext
    refine (sum_m _ _ u d).trans (congrArg₂ (fun a b : EReal => a + b) (row2 _ _ u d) (Finset.sum_congr rfl fun r _ => ?_))
    refine Eq.trans (α := EReal) ?_ (pre2 _ _ _ _ _ (srow t r) d).symm
    exact m_blk V c t _ _ c2 (V c main_v1_2) (fun r d => (col2 _ _ r d).trans (by blk_ext [iblk3, idx3 t])) (fun r d => by blk_ext [iblk3, idx3 t]) r d
  · obtain ⟨u, d, rfl⟩ : ∃ (u : Fin 1) (d : Fin 1024), x = ix2 u d := ⟨x 0, x 1, by idx_ext⟩
    obtain rfl : j = ix2 u (c1 d) := by idx_ext
    refine (sum_b _ _ _ _ u d).trans (congrArg₂ (fun a b : EReal => a + b) (row1 _ _ u d) (Finset.sum_congr rfl fun r _ => ?_))
    refine Eq.trans (α := EReal) ?_ (pre1 _ _ _ _ _ (srow t r) d).symm
    exact b_blk V c t _ _ c1 (V c main_v1_1) (fun r d => (col1 _ _ r d).trans (by blk_ext [iblk3, idx3 t])) (fun r d => by blk_ext [iblk3, idx3 t]) r d
  · obtain ⟨u, d, rfl⟩ : ∃ (u : Fin 1) (d : Fin 1024), x = ix2 u d := ⟨x 0, x 1, by idx_ext⟩
    obtain rfl : j = ix2 u (c0 d) := by idx_ext
    refine (sum_a _ _ _ _ _ u d).trans (congrArg₂ (fun a b : EReal => a + b) (row0 _ _ u d) (Finset.sum_congr rfl fun r _ => ?_))
    refine Eq.trans (α := EReal) ?_ (pre0 _ _ _ _ _ (srow t r) d).symm
    exact a_blk V c t _ _ c0 (V c main_v1_0) (fun r d => (col0 _ _ r d).trans (by blk_ext [iblk3, idx3 t])) (fun r d => by blk_ext [iblk3, idx3 t]) r d

set_option maxHeartbeats 2000000 in
theorem b_A (t : Fin cfg3.N) (h0 : t.val % 8 = 0) (j : S1x3072.Idx) :
    ((outsAt3 V c t.val t.isLt).2.2.2.2 : FVec Ideal S1x3072 .f32) j = 0 + partB V c t (j 1) := by
  rw [outsAt3_A V c t h0]
  frame_open
  simp (disch := decide) only [↓ View.readCov_skip, ↓ View.readCov_cons_toLoadRect, ↓ View.readCov_fill]
  frame_out
  refine View.canon_append_of_piecesOf (Val := Elt Ideal) (e := .f32) (s := S1x3072)
    (fun j : S1x3072.Idx => (0 : EReal) + partB V c t (j 1)) [_] [_, _, _]
    ⟨fun x => ?_, fun x => ?_, fun x => ?_, trivial⟩ j (View.cover_of_tiledL _ ![1, 1024] (by sl_kernel_rfl) j)
  · obtain ⟨u, d, rfl⟩ : ∃ (u : Fin 1) (d : Fin 1024), x = ix2 u d := ⟨x 0, x 1, by idx_ext⟩
    refine (sum_m _ _ u d).trans (congrArg₂ (fun a b : EReal => a + b) (by pointwise [k3_pay3]) ?_)
    refine Eq.trans (b := partB V c t (c2 d)) (Finset.sum_congr rfl fun r _ => ?_) (congrArg _ (by ext; show 2048 + d.val = 2048 + 1 * d.val; omega))
    refine Eq.trans (α := EReal) ?_ (pre2 _ _ _ _ _ (srow t r) d).symm
    exact m_blk V c t _ _ c2 (V c main_v1_2) (fun r d => (col2 _ _ r d).trans (by blk_ext [iblk3, idx3 t])) (fun r d => by blk_ext [iblk3, idx3 t]) r d
  · obtain ⟨u, d, rfl⟩ : ∃ (u : Fin 1) (d : Fin 1024), x = ix2 u d := ⟨x 0, x 1, by idx_ext⟩
    refine (sum_b _ _ _ _ u d).trans (congrArg₂ (fun a b : EReal => a + b) (by pointwise [k3_pay3]) ?_)
    refine Eq.trans (b := partB V c t (c1 d)) (Finset.sum_congr rfl fun r _ => ?_) (congrArg _ (by ext; show 1024 + d.val = 1024 + 1 * d.val; omega))
    refine Eq.trans (α := EReal) ?_ (pre1 _ _ _ _ _ (srow t r) d).symm
    exact b_blk V c t _ _ c1 (V c main_v1_1) (fun r d => (col1 _ _ r d).trans (by blk_ext [iblk3, idx3 t])) (fun r d => by blk_ext [iblk3, idx3 t]) r d
  · obtain ⟨u, d, rfl⟩ : ∃ (u : Fin 1) (d : Fin 1024), x = ix2 u d := ⟨x 0, x 1, by idx_ext⟩
    refine (sum_a _ _ _ _ _ u d).trans (congrArg₂ (fun a b : EReal => a + b) (by pointwise [k3_pay3]) ?_)
    refine Eq.trans (b := partB V c t (c0 d)) (Finset.sum_congr rfl fun r _ => ?_) (congrArg _ (by ext; show d.val = 0 + 1 * d.val; omega))
    refine Eq.trans (α := EReal) ?_ (pre0 _ _ _ _ _ (srow t r) d).symm
    exact a_blk V c t _ _ c0 (V c main_v1_0) (fun r d => (col0 _ _ r d).trans (by blk_ext [iblk3, idx3 t])) (fun r d => by blk_ext [iblk3, idx3 t]) r d

theorem reg3_a : (dat3 V c).arrAt 6 cfg3.N = dpaV (dgA V c) (V c main_v0) := by
  refine (dat3 V c).arrAt_eq_of_covers 6 _ (by decide +kernel) fun t hf y => ?_
  blk_simp
  rw [after3_6]
  obtain ⟨r, d, rfl⟩ : ∃ (r : Fin 512) (d : Fin 1024), y = ix2 r d := ⟨y 0, y 1, by idx_ext⟩
  refine Eq.trans (α := EReal) (at_6 V c t r d) ?_
  generalize dpaV (dgA V c) (V c main_v0) = D
  blk_ext [idx3 t]
theorem reg3_b : (dat3 V c).arrAt 7 cfg3.N = dpbV (dgA V c) (V c main_v0) := by
  refine (dat3 V c).arrAt_eq_of_covers 7 _ (by decide +kernel) fun t hf y => ?_
  blk_simp
  rw [after3_7]
  obtain ⟨r, d, rfl⟩ : ∃ (r : Fin 512) (d : Fin 1024), y = ix2 r d := ⟨y 0, y 1, by idx_ext⟩
  refine Eq.trans (α := EReal) (at_7 V c t r d) ?_
  generalize dpbV (dgA V c) (V c main_v0) = D
  blk_ext [idx3 t]
theorem reg3_m : (dat3 V c).arrAt 8 cfg3.N = dpmV (dgA V c) (V c main_v0) := by
  refine (dat3 V c).arrAt_eq_of_covers 8 _ (by decide +kernel) fun t hf y => ?_
  blk_simp
  rw [after3_8]
  obtain ⟨r, d, rfl⟩ : ∃ (r : Fin 512) (d : Fin 1024), y = ix2 r d := ⟨y 0, y 1, by idx_ext⟩
  refine Eq.trans (α := EReal) (at_8 V c t r d) ?_
  generalize dpmV (dgA V c) (V c main_v0) = D
  blk_ext [idx3 t]
theorem reg3_g : (dat3 V c).arrAt 9 cfg3.N = preA V c := by
  refine (dat3 V c).arrAt_eq_of_covers 9 _ (by decide +kernel) fun t hf y => ?_
  blk_simp
  rw [after3_9]
  obtain ⟨r, d, rfl⟩ : ∃ (r : Fin 512) (d : Fin 3072), y = ix2 r d := ⟨y 0, y 1, by idx_ext⟩
  refine Eq.trans (α := EReal) (at_9 V c t (ix2 r d)) ?_
  generalize preA V c = D
  blk_ext [idx3 t]
  rfl
theorem reg3_s : (dat3 V c).arrAt 10 cfg3.N = biasV (preA V c) := by
  refine (dat3 V c).arrAt_eq_of_after_last 10 t3_7 (by decide +kernel) _ fun j => ?_
  blk_simp
  rw [after3_10, Pipeline.eq_sum_fin_of_reset_step_apply_last (fun n h => (outsAt3 V c n h).2.2.2.2) 8 (fun _ => 0) _
    (fun t h j => b_A V c t h j) (fun t h j => b_B V c t h j) (le_of_eq N_3) t3_7 rfl j, zero_add]
  obtain ⟨u, q, rfl⟩ : ∃ (u : Fin 1) (q : Fin 3072), j = ix2 u q := ⟨j 0, j 1, by idx_ext⟩
  exact (Fin.sum_univ_tiles 8 512 rfl (fun s => preA V c (ix2 s q))).symm

end Cert.Kernel7Ideal.Points
-- ==== Proof.Claim7.lean ====
/-
  The gated sum of three products and its gradients: the reference's frame, and the equality of the results.
-/
module

public import proofs.«01_k».proof.Defs
public import proofs.«01_k».proof.Proof.Run7
public import proofs.«01_k».proof.Proof.MixSum
public import proofs.«01_k».proof.Proof.MixBack
public import proofs.«01_k».proof.Proof.Gen.Reference7Ideal.Run
public import Idealize.ShloMosaic.Lib.Claim
public import Idealize.ShloMosaic.Adequacy
public import Idealize.ShloMosaic.Init

@[expose] public section

noncomputable section

namespace Cert.Claim7

open Idealize.ShloMosaic Idealize.ShloMosaic.TcCoe Idealize.SL.Sem Cert.Kernel7Ideal Cert.Kernel7Ideal.Gen
open Cert.Kernel7Ideal.Points Cert.Reference7Ideal.Read Cert.Reference7Ideal.Rows NormGrad

theorem frame_reference : Cert.quiescent_Reference7Ideal (hReference7Ideal := Cert.Reference7Ideal.Gen.facts) :=
  fun m g _ => (θ_run Cert.Reference7Ideal.defs _ _).mono
    (fun r h => ⟨fun c => (h c).2.2.2.2.2.2.2.2.2.2, sem_eq_zero_of_no_sems (by decide) r.2⟩)
    (Cert.Reference7Ideal.Value.run (F := Ideal) m g)

section
variable (m : (ℓ : Loc nD τ sig) → Buf (Elt Ideal) ℓ) (ρ : Dev nD → PrngReg) (c : Dev nD)

abbrev x0 : FVec Ideal S4096x1024 .bf16 := m ((c : Thread nD τ).loc main_arg0)
abbrev x1 : FVec Ideal S1024x3072 .bf16 := m ((c : Thread nD τ).loc main_arg1)
abbrev x2 : FVec Ideal S1x3072 .f32 := m ((c : Thread nD τ).loc main_arg2)
abbrev x3 : FVec Ideal S4096x256 .f32 := m ((c : Thread nD τ).loc main_arg3)
abbrev x4 : FVec Ideal S4096x512 .f32 := m ((c : Thread nD τ).loc main_arg4)
abbrev x5 : FVec Ideal S4096x512 .bf16 := m ((c : Thread nD τ).loc main_arg5)
abbrev x6 : FVec Ideal S256x1024 .bf16 := m ((c : Thread nD τ).loc main_arg6)
abbrev x7 : FVec Ideal S512x1024 .bf16 := m ((c : Thread nD τ).loc main_arg7)
abbrev x8 : FVec Ideal S512x1024 .bf16 := m ((c : Thread nD τ).loc main_arg8)
abbrev x9 : FVec Ideal S1024x1024 .bf16 := m ((c : Thread nD τ).loc main_arg9)
abbrev x10 : FVec Ideal S4096x1024 .f32 := m ((c : Thread nD τ).loc main_arg10)
abbrev x11 : FVec Ideal S4096x1024 .bf16 := m ((c : Thread nD τ).loc main_arg11)

/-- The gates. -/
abbrev gX : FVec Ideal S4096x3072 .bf16 := gateV (x0 m c) (x1 m c) (x2 m c)
/-- The three products. -/
abbrev aX : FVec Ideal S4096x1024 .bf16 := paV (x3 m c) (x6 m c)
abbrev bX : FVec Ideal S4096x1024 .bf16 := pbV (x4 m c) (x7 m c)
abbrev mX : FVec Ideal S4096x1024 .bf16 := pmV (x5 m c) (x8 m c)
/-- Their gated sum, and its gradient. -/
abbrev sX : FVec Ideal S4096x1024 .bf16 := mixV (gX m c) (aX m c) (bX m c) (mX m c)
abbrev dX : FVec Ideal S4096x1024 .f32 := dgV (x11 m c) (x9 m c)
/-- The gradient of the gates' arguments. -/
abbrev preX : FVec Ideal S4096x3072 .bf16 := preV (dX m c) (gX m c) (aX m c) (bX m c) (mX m c)

theorem g1 : V1 m ρ c main_v0 = gX m c := (W1_arr m ρ c 3).trans (reg0 (V0 m ρ) c)
theorem g3 : V3 m ρ c main_v0 = gX m c :=
  (W3_of m ρ c main_v0 (by decide +kernel)).trans ((W2_of m ρ c main_v0 (by decide +kernel)).trans (g1 m ρ c))
theorem a2 : W2 m ρ c (Proc.devRef .tc main_v1_0) = aX m c := by
  refine (W2_arr m ρ c 9).trans ((reg1_a (V1 m ρ) c).trans ?_)
  have e1 : V1 m ρ c main_arg3 = x3 m c := W1_args m ρ c main_arg3 (by decide)
  have e2 : V1 m ρ c main_arg6 = x6 m c := W1_args m ρ c main_arg6 (by decide)
  rw [e1, e2]
theorem a3 : V3 m ρ c main_v1_0 = aX m c :=
  (W3_of m ρ c main_v1_0 (by decide +kernel)).trans (a2 m ρ c)
theorem b2 : W2 m ρ c (Proc.devRef .tc main_v1_1) = bX m c := by
  refine (W2_arr m ρ c 10).trans ((reg1_b (V1 m ρ) c).trans ?_)
  have e1 : V1 m ρ c main_arg4 = x4 m c := W1_args m ρ c main_arg4 (by decide)
  have e2 : V1 m ρ c main_arg7 = x7 m c := W1_args m ρ c main_arg7 (by decide)
  rw [e1, e2]
theorem b3 : V3 m ρ c main_v1_1 = bX m c :=
  (W3_of m ρ c main_v1_1 (by decide +kernel)).trans (b2 m ρ c)
theorem m2 : W2 m ρ c (Proc.devRef .tc main_v1_2) = mX m c := by
  refine (W2_arr m ρ c 11).trans ((reg1_m (V1 m ρ) c).trans ?_)
  have e1 : V1 m ρ c main_arg5 = x5 m c := W1_args m ρ c main_arg5 (by decide)
  have e2 : V1 m ρ c main_arg8 = x8 m c := W1_args m ρ c main_arg8 (by decide)
  rw [e1, e2]
theorem m3 : V3 m ρ c main_v1_2 = mX m c :=
  (W3_of m ρ c main_v1_2 (by decide +kernel)).trans (m2 m ρ c)
theorem mix1 : mixA (V1 m ρ) c = sX m c := by
  have e3 : V1 m ρ c main_arg3 = x3 m c := W1_args m ρ c main_arg3 (by decide)
  have e4 : V1 m ρ c main_arg4 = x4 m c := W1_args m ρ c main_arg4 (by decide)
  have e5 : V1 m ρ c main_arg5 = x5 m c := W1_args m ρ c main_arg5 (by decide)
  have e6 : V1 m ρ c main_arg6 = x6 m c := W1_args m ρ c main_arg6 (by decide)
  have e7 : V1 m ρ c main_arg7 = x7 m c := W1_args m ρ c main_arg7 (by decide)
  have e8 : V1 m ρ c main_arg8 = x8 m c := W1_args m ρ c main_arg8 (by decide)
  rw [mixA, g1, e3, e4, e5, e6, e7, e8]
theorem s2 : V2 m ρ c main_v1_3 = sX m c := (W2_arr m ρ c 12).trans ((reg1_g (V1 m ρ) c).trans (mix1 m ρ c))
theorem d3 : dgA (V3 m ρ) c = dX m c := by
  have e1 : V3 m ρ c main_arg11 = x11 m c := W3_args m ρ c main_arg11 (by decide)
  have e2 : V3 m ρ c main_arg9 = x9 m c := W3_args m ρ c main_arg9 (by decide)
  rw [dgA, e1, e2]
theorem pre3 : preA (V3 m ρ) c = preX m c := by rw [preA, d3, g3, a3, b3, m3]
theorem a4 : V4 m ρ c main_v3_0 = dpaV (dX m c) (gX m c) := by
  refine (W4_arr m ρ c 6).trans ((reg3_a (V3 m ρ) c).trans ?_)
  rw [d3, g3]
theorem a5 : V5 m ρ c main_v3_0 = dpaV (dX m c) (gX m c) :=
  (W5_of m ρ c main_v3_0 (by decide +kernel)).trans (a4 m ρ c)
theorem b4 : V4 m ρ c main_v3_1 = dpbV (dX m c) (gX m c) := by
  refine (W4_arr m ρ c 7).trans ((reg3_b (V3 m ρ) c).trans ?_)
  rw [d3, g3]
theorem b5 : V5 m ρ c main_v3_1 = dpbV (dX m c) (gX m c) :=
  (W5_of m ρ c main_v3_1 (by decide +kernel)).trans (b4 m ρ c)
theorem m4 : V4 m ρ c main_v3_2 = dpmV (dX m c) (gX m c) := by
  refine (W4_arr m ρ c 8).trans ((reg3_m (V3 m ρ) c).trans ?_)
  rw [d3, g3]
theorem m5 : V5 m ρ c main_v3_2 = dpmV (dX m c) (gX m c) :=
  (W5_of m ρ c main_v3_2 (by decide +kernel)).trans (m4 m ρ c)
theorem val_x1 : W6 m ρ c (Proc.devRef .tc main_v1_4)
    = val_main_v31 (F := Ideal) (x0 m c) (x1 m c) (x2 m c) (x3 m c) (x4 m c) (x5 m c) (x6 m c) (x7 m c) (x8 m c) (x9 m c) (x10 m c) := by
  refine (W6_of m ρ c main_v1_4 (by decide +kernel)).trans ((W5_of m ρ c main_v1_4 (by decide +kernel)).trans ((W4_of m ρ c main_v1_4 (by decide +kernel)).trans ((W3_of m ρ c main_v1_4 (by decide +kernel)).trans ((W2_arr m ρ c 13).trans ((reg1_x (V1 m ρ) c).trans ?_)))))
  have e1 : V1 m ρ c main_arg9 = x9 m c := W1_args m ρ c main_arg9 (by decide)
  have e2 : V1 m ρ c main_arg10 = x10 m c := W1_args m ρ c main_arg10 (by decide)
  rw [mix1, e1, e2]
  funext j
  obtain ⟨s, d, rfl⟩ : ∃ (s : Fin 4096) (d : Fin 1024), j = ix2 s d := ⟨j 0, j 1, by idx_ext⟩
  exact (res0 (x0 m c) (x1 m c) (x2 m c) (x3 m c) (x4 m c) (x5 m c) (x6 m c) (x7 m c) (x8 m c) (x9 m c) (x10 m c) s d).symm
theorem val_dwo : W6 m ρ c (Proc.devRef .tc main_v2)
    = val_main_v55 (F := Ideal) (x0 m c) (x1 m c) (x2 m c) (x3 m c) (x4 m c) (x5 m c) (x6 m c) (x7 m c) (x8 m c) (x11 m c) := by
  refine (W6_of m ρ c main_v2 (by decide +kernel)).trans ((W5_of m ρ c main_v2 (by decide +kernel)).trans ((W4_of m ρ c main_v2 (by decide +kernel)).trans ((W3_arr m ρ c 2).trans ((reg2 (V2 m ρ) c).trans ?_))))
  have e1 : V2 m ρ c main_arg11 = x11 m c := W2_args m ρ c main_arg11 (by decide)
  rw [s2, e1]
  funext j
  obtain ⟨s, d, rfl⟩ : ∃ (s : Fin 1024) (d : Fin 1024), j = ix2 s d := ⟨j 0, j 1, by idx_ext⟩
  exact (res1 (x0 m c) (x1 m c) (x2 m c) (x3 m c) (x4 m c) (x5 m c) (x6 m c) (x7 m c) (x8 m c) (x11 m c) s d).symm
theorem pre_eq (s : Fin 4096) (q : Fin 3072) :
    preX m c (ix2 s q) = val_main_v52 (F := Ideal) (x0 m c) (x1 m c) (x2 m c) (x3 m c) (x4 m c) (x5 m c) (x6 m c) (x7 m c) (x8 m c) (x9 m c) (x11 m c) (ix2 s q) := by
  rcases col q with ⟨d, rfl⟩ | ⟨d, rfl⟩ | ⟨d, rfl⟩
  · exact (pre0 _ _ _ _ _ s d).trans (pre_at0 (x0 m c) (x1 m c) (x2 m c) (x3 m c) (x4 m c) (x5 m c) (x6 m c) (x7 m c) (x8 m c) (x9 m c) (x11 m c) s d).symm
  · exact (pre1 _ _ _ _ _ s d).trans (pre_at1 (x0 m c) (x1 m c) (x2 m c) (x3 m c) (x4 m c) (x5 m c) (x6 m c) (x7 m c) (x8 m c) (x9 m c) (x11 m c) s d).symm
  · exact (pre2 _ _ _ _ _ s d).trans (pre_at2 (x0 m c) (x1 m c) (x2 m c) (x3 m c) (x4 m c) (x5 m c) (x6 m c) (x7 m c) (x8 m c) (x9 m c) (x11 m c) s d).symm
theorem val_pre : W6 m ρ c (Proc.devRef .tc main_v3_3)
    = val_main_v56 (F := Ideal) (x0 m c) (x1 m c) (x2 m c) (x3 m c) (x4 m c) (x5 m c) (x6 m c) (x7 m c) (x8 m c) (x9 m c) (x11 m c) := by
  refine (W6_of m ρ c main_v3_3 (by decide +kernel)).trans ((W5_of m ρ c main_v3_3 (by decide +kernel)).trans ((W4_arr m ρ c 9).trans ((reg3_g (V3 m ρ) c).trans ?_)))
  rw [pre3]
  funext j
  obtain ⟨s, q, rfl⟩ : ∃ (s : Fin 4096) (q : Fin 3072), j = ix2 s q := ⟨j 0, j 1, by idx_ext⟩
  exact (pre_eq m c s q).trans (res2 (x0 m c) (x1 m c) (x2 m c) (x3 m c) (x4 m c) (x5 m c) (x6 m c) (x7 m c) (x8 m c) (x9 m c) (x11 m c) s q).symm
theorem val_bias : W6 m ρ c (Proc.devRef .tc main_v3_4)
    = val_main_v54 (F := Ideal) (x0 m c) (x1 m c) (x2 m c) (x3 m c) (x4 m c) (x5 m c) (x6 m c) (x7 m c) (x8 m c) (x9 m c) (x11 m c) := by
  refine (W6_of m ρ c main_v3_4 (by decide +kernel)).trans ((W5_of m ρ c main_v3_4 (by decide +kernel)).trans ((W4_arr m ρ c 10).trans ((reg3_s (V3 m ρ) c).trans ?_)))
  rw [pre3]
  funext j
  obtain ⟨u, q, rfl⟩ : ∃ (u : Fin 1) (q : Fin 3072), j = ix2 u q := ⟨j 0, j 1, by idx_ext⟩
  exact Eq.trans (α := EReal) (Finset.sum_congr rfl fun s _ => pre_eq m c s q) (res3 (x0 m c) (x1 m c) (x2 m c) (x3 m c) (x4 m c) (x5 m c) (x6 m c) (x7 m c) (x8 m c) (x9 m c) (x11 m c) u q).symm
theorem val_da : W6 m ρ c (Proc.devRef .tc main_v4_0)
    = val_main_v50 (F := Ideal) (x0 m c) (x1 m c) (x2 m c) (x6 m c) (x9 m c) (x11 m c) := by
  refine (W6_of m ρ c main_v4_0 (by decide +kernel)).trans ((W5_arr m ρ c 6).trans ((reg4_a (V4 m ρ) c).trans ?_))
  have e1 : V4 m ρ c main_arg6 = x6 m c := W4_args m ρ c main_arg6 (by decide)
  rw [a4, e1]
  funext j
  obtain ⟨s, d, rfl⟩ : ∃ (s : Fin 4096) (d : Fin 256), j = ix2 s d := ⟨j 0, j 1, by idx_ext⟩
  exact (res4 (x0 m c) (x1 m c) (x2 m c) (x6 m c) (x9 m c) (x11 m c) s d).symm
theorem val_db : W6 m ρ c (Proc.devRef .tc main_v4_1)
    = val_main_v45 (F := Ideal) (x0 m c) (x1 m c) (x2 m c) (x7 m c) (x9 m c) (x11 m c) := by
  refine (W6_of m ρ c main_v4_1 (by decide +kernel)).trans ((W5_arr m ρ c 7).trans ((reg4_b (V4 m ρ) c).trans ?_))
  have e1 : V4 m ρ c main_arg7 = x7 m c := W4_args m ρ c main_arg7 (by decide)
  rw [b4, e1]
  funext j
  obtain ⟨s, d, rfl⟩ : ∃ (s : Fin 4096) (d : Fin 512), j = ix2 s d := ⟨j 0, j 1, by idx_ext⟩
  exact (res5 (x0 m c) (x1 m c) (x2 m c) (x7 m c) (x9 m c) (x11 m c) s d).symm
theorem val_dc : W6 m ρ c (Proc.devRef .tc main_v4_2)
    = val_main_v40 (F := Ideal) (x0 m c) (x1 m c) (x2 m c) (x8 m c) (x9 m c) (x11 m c) := by
  refine (W6_of m ρ c main_v4_2 (by decide +kernel)).trans ((W5_arr m ρ c 8).trans ((reg4_m (V4 m ρ) c).trans ?_))
  have e1 : V4 m ρ c main_arg8 = x8 m c := W4_args m ρ c main_arg8 (by decide)
  rw [m4, e1]
  funext j
  obtain ⟨s, d, rfl⟩ : ∃ (s : Fin 4096) (d : Fin 512), j = ix2 s d := ⟨j 0, j 1, by idx_ext⟩
  exact (res6 (x0 m c) (x1 m c) (x2 m c) (x8 m c) (x9 m c) (x11 m c) s d).symm
theorem val_wa : W6 m ρ c (Proc.devRef .tc main_v5_0)
    = val_main_v57 (F := Ideal) (x0 m c) (x1 m c) (x2 m c) (x3 m c) (x9 m c) (x11 m c) := by
  refine (W6_arr m ρ c 6).trans ((reg5_a (V5 m ρ) c).trans ?_)
  have e1 : V5 m ρ c main_arg3 = x3 m c := W5_args m ρ c main_arg3 (by decide)
  rw [a5, e1]
  funext j
  obtain ⟨s, d, rfl⟩ : ∃ (s : Fin 256) (d : Fin 1024), j = ix2 s d := ⟨j 0, j 1, by idx_ext⟩
  exact (res7 (x0 m c) (x1 m c) (x2 m c) (x3 m c) (x9 m c) (x11 m c) s d).symm
theorem val_wb : W6 m ρ c (Proc.devRef .tc main_v5_1)
    = val_main_v58 (F := Ideal) (x0 m c) (x1 m c) (x2 m c) (x4 m c) (x9 m c) (x11 m c) := by
  refine (W6_arr m ρ c 7).trans ((reg5_b (V5 m ρ) c).trans ?_)
  have e1 : V5 m ρ c main_arg4 = x4 m c := W5_args m ρ c main_arg4 (by decide)
  rw [b5, e1]
  funext j
  obtain ⟨s, d, rfl⟩ : ∃ (s : Fin 512) (d : Fin 1024), j = ix2 s d := ⟨j 0, j 1, by idx_ext⟩
  exact (res8 (x0 m c) (x1 m c) (x2 m c) (x4 m c) (x9 m c) (x11 m c) s d).symm
theorem val_wm : W6 m ρ c (Proc.devRef .tc main_v5_2)
    = val_main_v59 (F := Ideal) (x0 m c) (x1 m c) (x2 m c) (x5 m c) (x9 m c) (x11 m c) := by
  refine (W6_arr m ρ c 8).trans ((reg5_m (V5 m ρ) c).trans ?_)
  have e1 : V5 m ρ c main_arg5 = x5 m c := W5_args m ρ c main_arg5 (by decide)
  rw [m5, e1]
  funext j
  obtain ⟨s, d, rfl⟩ : ∃ (s : Fin 512) (d : Fin 1024), j = ix2 s d := ⟨j 0, j 1, by idx_ext⟩
  exact (res9 (x0 m c) (x1 m c) (x2 m c) (x5 m c) (x9 m c) (x11 m c) s d).symm
end

set_option maxHeartbeats 4000000 in
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => val_main_v31 (F := Ideal) (x0 m c) (x1 m c) (x2 m c) (x3 m c) (x4 m c) (x5 m c) (x6 m c) (x7 m c) (x8 m c) (x9 m c) (x10 m c),
    fun c => val_main_v55 (F := Ideal) (x0 m c) (x1 m c) (x2 m c) (x3 m c) (x4 m c) (x5 m c) (x6 m c) (x7 m c) (x8 m c) (x11 m c),
    fun c => val_main_v56 (F := Ideal) (x0 m c) (x1 m c) (x2 m c) (x3 m c) (x4 m c) (x5 m c) (x6 m c) (x7 m c) (x8 m c) (x9 m c) (x11 m c),
    fun c => val_main_v54 (F := Ideal) (x0 m c) (x1 m c) (x2 m c) (x3 m c) (x4 m c) (x5 m c) (x6 m c) (x7 m c) (x8 m c) (x9 m c) (x11 m c),
    fun c => val_main_v50 (F := Ideal) (x0 m c) (x1 m c) (x2 m c) (x6 m c) (x9 m c) (x11 m c),
    fun c => val_main_v45 (F := Ideal) (x0 m c) (x1 m c) (x2 m c) (x7 m c) (x9 m c) (x11 m c),
    fun c => val_main_v40 (F := Ideal) (x0 m c) (x1 m c) (x2 m c) (x8 m c) (x9 m c) (x11 m c),
    fun c => val_main_v57 (F := Ideal) (x0 m c) (x1 m c) (x2 m c) (x3 m c) (x9 m c) (x11 m c),
    fun c => val_main_v58 (F := Ideal) (x0 m c) (x1 m c) (x2 m c) (x4 m c) (x9 m c) (x11 m c),
    fun c => val_main_v59 (F := Ideal) (x0 m c) (x1 m c) (x2 m c) (x5 m c) (x9 m c) (x11 m c),
    θ_run_mono (run_all m g) fun r h c =>
      ⟨(h c _ (mem_uc main_v1_4 (by decide))).trans (val_x1 m g c),
       (h c _ (mem_uc main_v2 (by decide))).trans (val_dwo m g c),
       (h c _ (mem_uc main_v3_3 (by decide))).trans (val_pre m g c),
       (h c _ (mem_uc main_v3_4 (by decide))).trans (val_bias m g c),
       (h c _ (mem_uc main_v4_0 (by decide))).trans (val_da m g c),
       (h c _ (mem_uc main_v4_1 (by decide))).trans (val_db m g c),
       (h c _ (mem_uc main_v4_2 (by decide))).trans (val_dc m g c),
       (h c _ (mem_uc main_v5_0 (by decide))).trans (val_wa m g c),
       (h c _ (mem_uc main_v5_1 (by decide))).trans (val_wb m g c),
       (h c _ (mem_uc main_v5_2 (by decide))).trans (val_wm m g c),
       (h c _ (mem_uc main_arg0 (by decide))).trans (W6_main_arg0 m g c),
       (h c _ (mem_uc main_arg1 (by decide))).trans (W6_main_arg1 m g c),
       (h c _ (mem_uc main_arg2 (by decide))).trans (W6_main_arg2 m g c),
       (h c _ (mem_uc main_arg3 (by decide))).trans (W6_main_arg3 m g c),
       (h c _ (mem_uc main_arg4 (by decide))).trans (W6_main_arg4 m g c),
       (h c _ (mem_uc main_arg5 (by decide))).trans (W6_main_arg5 m g c),
       (h c _ (mem_uc main_arg6 (by decide))).trans (W6_main_arg6 m g c),
       (h c _ (mem_uc main_arg7 (by decide))).trans (W6_main_arg7 m g c),
       (h c _ (mem_uc main_arg8 (by decide))).trans (W6_main_arg8 m g c),
       (h c _ (mem_uc main_arg9 (by decide))).trans (W6_main_arg9 m g c),
       (h c _ (mem_uc main_arg10 (by decide))).trans (W6_main_arg10 m g c),
       (h c _ (mem_uc main_arg11 (by decide))).trans (W6_main_arg11 m g c)⟩,
    θ_run_mono (Cert.Reference7Ideal.Value.run m' g') fun r h c =>
      ⟨(h c).1.trans ((val_main_v31_eq ..).trans ?_),
       (h c).2.1.trans ((val_main_v55_eq ..).trans ?_),
       (h c).2.2.1.trans ((val_main_v56_eq ..).trans ?_),
       (h c).2.2.2.1.trans ((val_main_v54_eq ..).trans ?_),
       (h c).2.2.2.2.1.trans ((val_main_v50_eq ..).trans ?_),
       (h c).2.2.2.2.2.1.trans ((val_main_v45_eq ..).trans ?_),
       (h c).2.2.2.2.2.2.1.trans ((val_main_v40_eq ..).trans ?_),
       (h c).2.2.2.2.2.2.2.1.trans ((val_main_v57_eq ..).trans ?_),
       (h c).2.2.2.2.2.2.2.2.1.trans ((val_main_v58_eq ..).trans ?_),
       (h c).2.2.2.2.2.2.2.2.2.1.trans ((val_main_v59_eq ..).trans ?_),
       (h c).2.2.2.2.2.2.2.2.2.2⟩⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2]
  · rw [(hagree c).1, (hagree c).2.1, (hagree c).2.2.1, (hagree c).2.2.2.2.2.2.1, (hagree c).2.2.2.2.2.2.2.2.2.1, (hagree c).2.2.2.2.2.2.2.2.2.2.2]
  · rw [(hagree c).1, (hagree c).2.1, (hagree c).2.2.1, (hagree c).2.2.2.2.2.2.2.1, (hagree c).2.2.2.2.2.2.2.2.2.1, (hagree c).2.2.2.2.2.2.2.2.2.2.2]
  · rw [(hagree c).1, (hagree c).2.1, (hagree c).2.2.1, (hagree c).2.2.2.2.2.2.2.2.1, (hagree c).2.2.2.2.2.2.2.2.2.1, (hagree c).2.2.2.2.2.2.2.2.2.2.2]
  · rw [(hagree c).1, (hagree c).2.1, (hagree c).2.2.1, (hagree c).2.2.2.1, (hagree c).2.2.2.2.2.2.2.2.2.1, (hagree c).2.2.2.2.2.2.2.2.2.2.2]
  · rw [(hagree c).1, (hagree c).2.1, (hagree c).2.2.1, (hagree c).2.2.2.2.1, (hagree c).2.2.2.2.2.2.2.2.2.1, (hagree c).2.2.2.2.2.2.2.2.2.2.2]
  · rw [(hagree c).1, (hagree c).2.1, (hagree c).2.2.1, (hagree c).2.2.2.2.2.1, (hagree c).2.2.2.2.2.2.2.2.2.1, (hagree c).2.2.2.2.2.2.2.2.2.2.2]

end Cert.Claim7
-- ==== Proof.lean ====
/-
  The proof of `Cert.Claim`: the programs' facts and frames, and the values of each program's results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Finite
public import Idealize.ShloMosaic.Lib.Claim
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Claim2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Claim3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Claim4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Claim5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Claim6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Claim7

@[expose] public section

noncomputable section

namespace Cert.Proof

open Idealize.ShloMosaic Idealize.SL.Sem Cert.Kernel

theorem frame_kernelIdeal : Cert.quiescent_KernelIdeal (hKernelIdeal := Cert.KernelIdeal.Gen.facts) :=
  fun m ρ _ => Cert.KernelIdeal.Gen.frame m ρ

theorem frame_referenceIdeal : Cert.quiescent_ReferenceIdeal (hReferenceIdeal := Cert.ReferenceIdeal.Gen.facts) :=
  fun m g _ => (θ_run Cert.ReferenceIdeal.defs _ _).mono
    (fun r h => ⟨fun c => (h c).2.2.2.2, sem_eq_zero_of_no_sems (by decide) r.2⟩)
    (Cert.ReferenceIdeal.Value.run (F := Ideal) m g)

/-- The kernel's four arrays are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  letI := Cert.Finite.facts
  pair_intro
  · run_from Cert.KernelIdeal.Value.run_blocks m g
  · run_from Cert.ReferenceIdeal.Value.run m' g'
    · rw [Cert.ReferenceIdeal.Read.val_main_v104_eq, (hagree c).1, (hagree c).2.1, (hagree c).2.2.1, (hagree c).2.2.2.1, (hagree c).2.2.2.2]
      exact (Cert.KernelIdeal.Arrays.final5 m c (Cert.Finite.keys m hpre c) (Cert.Finite.gain m hpre c)).symm
    · rw [Cert.ReferenceIdeal.Read.val_main_v81_eq, (hagree c).1, (hagree c).2.1, (hagree c).2.2.1, (hagree c).2.2.2.1, (hagree c).2.2.2.2]
      exact (Cert.KernelIdeal.Arrays.final6 m c (Cert.Finite.keys m hpre c) (Cert.Finite.gain m hpre c)).symm
    · rw [Cert.ReferenceIdeal.Read.val_main_v62_eq, (hagree c).1, (hagree c).2.1, (hagree c).2.2.2.1, (hagree c).2.2.2.2]
      exact (Cert.KernelIdeal.Arrays.final7 m c (Cert.Finite.keys m hpre c) (Cert.Finite.gain m hpre c)).symm
    · rw [Cert.ReferenceIdeal.Read.val_main_v102_eq, (hagree c).1, (hagree c).2.1, (hagree c).2.2.1, (hagree c).2.2.2.1, (hagree c).2.2.2.2]
      exact (Cert.KernelIdeal.Arrays.final8 m c (Cert.Finite.keys m hpre c) (Cert.Finite.gain m hpre c)).symm

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Finite.facts,
  fun m ρ _ => Cert.Kernel.Gen.frame m ρ,
  frame_kernelIdeal,
  fun m ρ _ => frame_kernelIdeal m ρ trivial,
  frame_referenceIdeal,
  fun m ρ _ => frame_referenceIdeal m ρ trivial,
  fun m ρ _ => Cert.Kernel2.Gen.frame m ρ,
  fun m ρ _ => Cert.Kernel2Ideal.Gen.frame m ρ,
  Cert.Claim2.frame_reference,
  fun m ρ _ => Cert.Kernel3.Gen.frame m ρ,
  fun m ρ _ => Cert.Kernel3Ideal.Gen.frame m ρ,
  Cert.Claim3.frame_reference,
  fun m ρ _ => Cert.Kernel4.Gen.frame m ρ,
  fun m ρ _ => Cert.Kernel4Ideal.Gen.frame m ρ,
  Cert.Claim4.frame_reference,
  fun m ρ _ => Cert.Kernel5.Gen.frame m ρ,
  fun m ρ _ => Cert.Kernel5Ideal.Gen.frame m ρ,
  Cert.Claim5.frame_reference,
  fun m ρ _ => Cert.Kernel6.Gen.frame m ρ,
  fun m ρ _ => Cert.Kernel6Ideal.Gen.frame m ρ,
  Cert.Claim6.frame_reference,
  fun m ρ _ => Cert.Kernel7.Gen.frame m ρ,
  fun m ρ _ => Cert.Kernel7Ideal.Gen.frame m ρ,
  Cert.Claim7.frame_reference,
  trivial,
  algebraic,
  trivial,
  Cert.Claim2.algebraic,
  trivial,
  Cert.Claim3.algebraic,
  trivial,
  Cert.Claim4.algebraic,
  trivial,
  Cert.Claim5.algebraic,
  trivial,
  Cert.Claim6.algebraic,
  trivial,
  Cert.Claim7.algebraic⟩

end Cert.Proof

end
